-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  IdealRules.named_const.Statement Cert.KernelIdeal.κ "inv_sqrt_dh" .f32 0x3E3504F3#32 (((Real.sqrt 32)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x25000x256 : Shape := ⟨3, ![4, 25000, 256]⟩
abbrev S100x256 : Shape := ⟨2, ![100, 256]⟩
abbrev S6x768x256 : Shape := ⟨3, ![6, 768, 256]⟩
abbrev S6x768 : Shape := ⟨2, ![6, 768]⟩
abbrev S6x256x256 : Shape := ⟨3, ![6, 256, 256]⟩
abbrev S6x256 : Shape := ⟨2, ![6, 256]⟩
abbrev S6x1024x256 : Shape := ⟨3, ![6, 1024, 256]⟩
abbrev S6x1024 : Shape := ⟨2, ![6, 1024]⟩
abbrev S6x256x1024 : Shape := ⟨3, ![6, 256, 1024]⟩
abbrev S256 : Shape := ⟨1, ![256]⟩
abbrev S256x256 : Shape := ⟨2, ![256, 256]⟩
abbrev S19x256 : Shape := ⟨2, ![19, 256]⟩
abbrev S19 : Shape := ⟨1, ![19]⟩
abbrev S_ : Shape := ⟨0, ![]⟩

class Facts : Prop where
  bitsLt_bf16_f32 : FTy.bits .bf16 < FTy.bits .f32
  bcast_S_S4x25000x256 : S_.BroadcastsInDim S4x25000x256 (![] : Fin 0 → Fin S4x25000x256.rank)
  reducesTo_S4x25000x256_S_d0_1_2 : S4x25000x256.ReducesTo [0, 1, 2] S_
  h_S_ : 0 < S_.numel
  bcast_S_S100x256 : S_.BroadcastsInDim S100x256 (![] : Fin 0 → Fin S100x256.rank)
  reducesTo_S100x256_S_d0_1 : S100x256.ReducesTo [0, 1] S_
  bcast_S_S6x768x256 : S_.BroadcastsInDim S6x768x256 (![] : Fin 0 → Fin S6x768x256.rank)
  reducesTo_S6x768x256_S_d0_1_2 : S6x768x256.ReducesTo [0, 1, 2] S_
  bcast_S_S6x768 : S_.BroadcastsInDim S6x768 (![] : Fin 0 → Fin S6x768.rank)
  reducesTo_S6x768_S_d0_1 : S6x768.ReducesTo [0, 1] S_
  bcast_S_S6x256x256 : S_.BroadcastsInDim S6x256x256 (![] : Fin 0 → Fin S6x256x256.rank)
  reducesTo_S6x256x256_S_d0_1_2 : S6x256x256.ReducesTo [0, 1, 2] S_
  bcast_S_S6x256 : S_.BroadcastsInDim S6x256 (![] : Fin 0 → Fin S6x256.rank)
  reducesTo_S6x256_S_d0_1 : S6x256.ReducesTo [0, 1] S_
  bcast_S_S6x1024x256 : S_.BroadcastsInDim S6x1024x256 (![] : Fin 0 → Fin S6x1024x256.rank)
  reducesTo_S6x1024x256_S_d0_1_2 : S6x1024x256.ReducesTo [0, 1, 2] S_
  bcast_S_S6x1024 : S_.BroadcastsInDim S6x1024 (![] : Fin 0 → Fin S6x1024.rank)
  reducesTo_S6x1024_S_d0_1 : S6x1024.ReducesTo [0, 1] S_
  bcast_S_S6x256x1024 : S_.BroadcastsInDim S6x256x1024 (![] : Fin 0 → Fin S6x256x1024.rank)
  reducesTo_S6x256x1024_S_d0_1_2 : S6x256x1024.ReducesTo [0, 1, 2] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S19x256 : S_.BroadcastsInDim S19x256 (![] : Fin 0 → Fin S19x256.rank)
  reducesTo_S19x256_S_d0_1 : S19x256.ReducesTo [0, 1] S_
  bcast_S_S19 : S_.BroadcastsInDim S19 (![] : Fin 0 → Fin S19.rank)
  reducesTo_S19_S_d0 : S19.ReducesTo [0] S_

variable [Facts]

def fn_part6 {F : FTy → Type} [FloatOps F] (main_arg21 : FVec F S256 .f32) (main_arg22 : FVec F S19x256 .f32) (main_arg23 : FVec F S19 .f32) (main_v99 : IVec S_ 1) (main_v102 : IVec S256x256 1) : IVec S_ 1 :=
  let main_c_39 : IVec S_ 1 := constantI S_ 1 1#1
  let main_v103 : IVec S_ 1 := (fun x v => Host.reduce IntOp.andi x v reducesTo_S256x256_S_d0_1 h_S_) main_v102 main_c_39
  let main_v104 : IVec S_ 1 := andi main_v99 main_v103
  let main_v105 : FVec F S256 .f32 := Host.absf main_arg21
  let main_cst_40 : FVec F S_ .f32 := constant S_ .f32 0x7F800000#32
  let main_v106 : FVec F S256 .f32 := broadcastInDim S256 ![] bcast_S_S256 main_cst_40
  let main_v107 : IVec S256 1 := cmpf .olt main_v105 main_v106
  let main_c_41 : IVec S_ 1 := constantI S_ 1 1#1
  let main_v108 : IVec S_ 1 := (fun x v => Host.reduce IntOp.andi x v reducesTo_S256_S_d0 h_S_) main_v107 main_c_41
  let main_v109 : IVec S_ 1 := andi main_v104 main_v108
  let main_v110 : FVec F S19x256 .f32 := Host.absf main_arg22
  let main_cst_42 : FVec F S_ .f32 := constant S_ .f32 0x7F800000#32
  let main_v111 : FVec F S19x256 .f32 := broadcastInDim S19x256 ![] bcast_S_S19x256 main_cst_42
  let main_v112 : IVec S19x256 1 := cmpf .olt main_v110 main_v111
  let main_c_43 : IVec S_ 1 := constantI S_ 1 1#1
  let main_v113 : IVec S_ 1 := (fun x v => Host.reduce IntOp.andi x v reducesTo_S19x256_S_d0_1 h_S_) main_v112 main_c_43
  let main_v114 : IVec S_ 1 := andi main_v109 main_v113
  let main_v115 : FVec F S19 .f32 := Host.absf main_arg23
  let main_cst_44 : FVec F S_ .f32 := constant S_ .f32 0x7F800000#32
  let main_v116 : FVec F S19 .f32 := broadcastInDim S19 ![] bcast_S_S19 main_cst_44
  let main_v117 : IVec S19 1 := cmpf .olt main_v115 main_v116
  let main_c_45 : IVec S_ 1 := constantI S_ 1 1#1
  let main_v118 : IVec S_ 1 := (fun x v => Host.reduce IntOp.andi x v reducesTo_S19_S_d0 h_S_) main_v117 main_c_45
  let main_v119 : IVec S_ 1 := andi main_v114 main_v118
  main_v119

def fn_part5 {F : FTy → Type} [FloatOps F] (main_arg18 : FVec F S256 .f32) (main_arg19 : FVec F S256 .f32) (main_arg20 : FVec F S256x256 .f32) (main_arg21 : FVec F S256 .f32) (main_arg22 : FVec F S19x256 .f32) (main_arg23 : FVec F S19 .f32) (main_v84 : IVec S_ 1) (main_v85 : FVec F S6x256 .f32) : IVec S_ 1 :=
  let main_cst_32 : FVec F S_ .f32 := constant S_ .f32 0x7F800000#32
  let main_v86 : FVec F S6x256 .f32 := broadcastInDim S6x256 ![] bcast_S_S6x256 main_cst_32
  let main_v87 : IVec S6x256 1 := cmpf .olt main_v85 main_v86
  let main_c_33 : IVec S_ 1 := constantI S_ 1 1#1
  let main_v88 : IVec S_ 1 := (fun x v => Host.reduce IntOp.andi x v reducesTo_S6x256_S_d0_1 h_S_) main_v87 main_c_33
  let main_v89 : IVec S_ 1 := andi main_v84 main_v88
  let main_v90 : FVec F S256 .f32 := Host.absf main_arg18
  let main_cst_34 : FVec F S_ .f32 := constant S_ .f32 0x7F800000#32
  let main_v91 : FVec F S256 .f32 := broadcastInDim S256 ![] bcast_S_S256 main_cst_34
  let main_v92 : IVec S256 1 := cmpf .olt main_v90 main_v91
  let main_c_35 : IVec S_ 1 := constantI S_ 1 1#1
  let main_v93 : IVec S_ 1 := (fun x v => Host.reduce IntOp.andi x v reducesTo_S256_S_d0 h_S_) main_v92 main_c_35
  let main_v94 : IVec S_ 1 := andi main_v89 main_v93
  let main_v95 : FVec F S256 .f32 := Host.absf main_arg19
  let main_cst_36 : FVec F S_ .f32 := constant S_ .f32 0x7F800000#32
  let main_v96 : FVec F S256 .f32 := broadcastInDim S256 ![] bcast_S_S256 main_cst_36
  let main_v97 : IVec S256 1 := cmpf .olt main_v95 main_v96
  let main_c_37 : IVec S_ 1 := constantI S_ 1 1#1
  let main_v98 : IVec S_ 1 := (fun x v => Host.reduce IntOp.andi x v reducesTo_S256_S_d0 h_S_) main_v97 main_c_37
  let main_v99 : IVec S_ 1 := andi main_v94 main_v98
  let main_v100 : FVec F S256x256 .f32 := Host.absf main_arg20
  let main_cst_38 : FVec F S_ .f32 := constant S_ .f32 0x7F800000#32
  let main_v101 : FVec F S256x256 .f32 := broadcastInDim S256x256 ![] bcast_S_S256x256 main_cst_38
  let main_v102 : IVec S256x256 1 := cmpf .olt main_v100 main_v101
  fn_part6 (F := F) main_arg21 main_arg22 main_arg23 main_v99 main_v102

def fn_part4 {F : FTy → Type} [FloatOps F] (main_arg14 : FVec F S6x256x1024 .f32) (main_arg15 : FVec F S6x256 .f32) (main_arg16 : FVec F S6x256 .f32) (main_arg17 : FVec F S6x256 .f32) (main_arg18 : FVec F S256 .f32) (main_arg19 : FVec F S256 .f32) (main_arg20 : FVec F S256x256 .f32) (main_arg21 : FVec F S256 .f32) (main_arg22 : FVec F S19x256 .f32) (main_arg23 : FVec F S19 .f32) (main_v64 : IVec S_ 1) (main_v67 : IVec S6x1024 1) (main_c_25 : IVec S_ 1) : IVec S_ 1 :=
  let main_v68 : IVec S_ 1 := (fun x v => Host.reduce IntOp.andi x v reducesTo_S6x1024_S_d0_1 h_S_) main_v67 main_c_25
  let main_v69 : IVec S_ 1 := andi main_v64 main_v68
  let main_v70 : FVec F S6x256x1024 .f32 := Host.absf main_arg14
  let main_cst_26 : FVec F S_ .f32 := constant S_ .f32 0x7F800000#32
  let main_v71 : FVec F S6x256x1024 .f32 := broadcastInDim S6x256x1024 ![] bcast_S_S6x256x1024 main_cst_26
  let main_v72 : IVec S6x256x1024 1 := cmpf .olt main_v70 main_v71
  let main_c_27 : IVec S_ 1 := constantI S_ 1 1#1
  let main_v73 : IVec S_ 1 := (fun x v => Host.reduce IntOp.andi x v reducesTo_S6x256x1024_S_d0_1_2 h_S_) main_v72 main_c_27
  let main_v74 : IVec S_ 1 := andi main_v69 main_v73
  let main_v75 : FVec F S6x256 .f32 := Host.absf main_arg15
  let main_cst_28 : FVec F S_ .f32 := constant S_ .f32 0x7F800000#32
  let main_v76 : FVec F S6x256 .f32 := broadcastInDim S6x256 ![] bcast_S_S6x256 main_cst_28
  let main_v77 : IVec S6x256 1 := cmpf .olt main_v75 main_v76
  let main_c_29 : IVec S_ 1 := constantI S_ 1 1#1
  let main_v78 : IVec S_ 1 := (fun x v => Host.reduce IntOp.andi x v reducesTo_S6x256_S_d0_1 h_S_) main_v77 main_c_29
  let main_v79 : IVec S_ 1 := andi main_v74 main_v78
  let main_v80 : FVec F S6x256 .f32 := Host.absf main_arg16
  let main_cst_30 : FVec F S_ .f32 := constant S_ .f32 0x7F800000#32
  let main_v81 : FVec F S6x256 .f32 := broadcastInDim S6x256 ![] bcast_S_S6x256 main_cst_30
  let main_v82 : IVec S6x256 1 := cmpf .olt main_v80 main_v81
  let main_c_31 : IVec S_ 1 := constantI S_ 1 1#1
  let main_v83 : IVec S_ 1 := (fun x v => Host.reduce IntOp.andi x v reducesTo_S6x256_S_d0_1 h_S_) main_v82 main_c_31
  let main_v84 : IVec S_ 1 := andi main_v79 main_v83
  let main_v85 : FVec F S6x256 .f32 := Host.absf main_arg17
  fn_part5 (F := F) main_arg18 main_arg19 main_arg20 main_arg21 main_arg22 main_arg23 main_v84 main_v85

def fn_part3 {F : FTy → Type} [FloatOps F] (main_arg11 : FVec F S6x256 .f32) (main_arg12 : FVec F S6x1024x256 .f32) (main_arg13 : FVec F S6x1024 .f32) (main_arg14 : FVec F S6x256x1024 .f32) (main_arg15 : FVec F S6x256 .f32) (main_arg16 : FVec F S6x256 .f32) (main_arg17 : FVec F S6x256 .f32) (main_arg18 : FVec F S256 .f32) (main_arg19 : FVec F S256 .f32) (main_arg20 : FVec F S256x256 .f32) (main_arg21 : FVec F S256 .f32) (main_arg22 : FVec F S19x256 .f32) (main_arg23 : FVec F S19 .f32) (main_v49 : IVec S_ 1) (main_v50 : FVec F S6x256 .f32) (main_cst_18 : FVec F S_ .f32) : IVec S_ 1 :=
  let main_v51 : FVec F S6x256 .f32 := broadcastInDim S6x256 ![] bcast_S_S6x256 main_cst_18
  let main_v52 : IVec S6x256 1 := cmpf .olt main_v50 main_v51
  let main_c_19 : IVec S_ 1 := constantI S_ 1 1#1
  let main_v53 : IVec S_ 1 := (fun x v => Host.reduce IntOp.andi x v reducesTo_S6x256_S_d0_1 h_S_) main_v52 main_c_19
  let main_v54 : IVec S_ 1 := andi main_v49 main_v53
  let main_v55 : FVec F S6x256 .f32 := Host.absf main_arg11
  let main_cst_20 : FVec F S_ .f32 := constant S_ .f32 0x7F800000#32
  let main_v56 : FVec F S6x256 .f32 := broadcastInDim S6x256 ![] bcast_S_S6x256 main_cst_20
  let main_v57 : IVec S6x256 1 := cmpf .olt main_v55 main_v56
  let main_c_21 : IVec S_ 1 := constantI S_ 1 1#1
  let main_v58 : IVec S_ 1 := (fun x v => Host.reduce IntOp.andi x v reducesTo_S6x256_S_d0_1 h_S_) main_v57 main_c_21
  let main_v59 : IVec S_ 1 := andi main_v54 main_v58
  let main_v60 : FVec F S6x1024x256 .f32 := Host.absf main_arg12
  let main_cst_22 : FVec F S_ .f32 := constant S_ .f32 0x7F800000#32
  let main_v61 : FVec F S6x1024x256 .f32 := broadcastInDim S6x1024x256 ![] bcast_S_S6x1024x256 main_cst_22
  let main_v62 : IVec S6x1024x256 1 := cmpf .olt main_v60 main_v61
  let main_c_23 : IVec S_ 1 := constantI S_ 1 1#1
  let main_v63 : IVec S_ 1 := (fun x v => Host.reduce IntOp.andi x v reducesTo_S6x1024x256_S_d0_1_2 h_S_) main_v62 main_c_23
  let main_v64 : IVec S_ 1 := andi main_v59 main_v63
  let main_v65 : FVec F S6x1024 .f32 := Host.absf main_arg13
  let main_cst_24 : FVec F S_ .f32 := constant S_ .f32 0x7F800000#32
  let main_v66 : FVec F S6x1024 .f32 := broadcastInDim S6x1024 ![] bcast_S_S6x1024 main_cst_24
  let main_v67 : IVec S6x1024 1 := cmpf .olt main_v65 main_v66
  let main_c_25 : IVec S_ 1 := constantI S_ 1 1#1
  fn_part4 (F := F) main_arg14 main_arg15 main_arg16 main_arg17 main_arg18 main_arg19 main_arg20 main_arg21 main_arg22 main_arg23 main_v64 main_v67 main_c_25

def fn_part2 {F : FTy → Type} [FloatOps F] (main_arg7 : FVec F S6x768 .f32) (main_arg8 : FVec F S6x256x256 .f32) (main_arg9 : FVec F S6x256 .f32) (main_arg10 : FVec F S6x256 .f32) (main_arg11 : FVec F S6x256 .f32) (main_arg12 : FVec F S6x1024x256 .f32) (main_arg13 : FVec F S6x1024 .f32) (main_arg14 : FVec F S6x256x1024 .f32) (main_arg15 : FVec F S6x256 .f32) (main_arg16 : FVec F S6x256 .f32) (main_arg17 : FVec F S6x256 .f32) (main_arg18 : FVec F S256 .f32) (main_arg19 : FVec F S256 .f32) (main_arg20 : FVec F S256x256 .f32) (main_arg21 : FVec F S256 .f32) (main_arg22 : FVec F S19x256 .f32) (main_arg23 : FVec F S19 .f32) (main_v29 : IVec S_ 1) (main_v33 : IVec S_ 1) : IVec S_ 1 :=
  let main_v34 : IVec S_ 1 := andi main_v29 main_v33
  let main_v35 : FVec F S6x768 .f32 := Host.absf main_arg7
  let main_cst_12 : FVec F S_ .f32 := constant S_ .f32 0x7F800000#32
  let main_v36 : FVec F S6x768 .f32 := broadcastInDim S6x768 ![] bcast_S_S6x768 main_cst_12
  let main_v37 : IVec S6x768 1 := cmpf .olt main_v35 main_v36
  let main_c_13 : IVec S_ 1 := constantI S_ 1 1#1
  let main_v38 : IVec S_ 1 := (fun x v => Host.reduce IntOp.andi x v reducesTo_S6x768_S_d0_1 h_S_) main_v37 main_c_13
  let main_v39 : IVec S_ 1 := andi main_v34 main_v38
  let main_v40 : FVec F S6x256x256 .f32 := Host.absf main_arg8
  let main_cst_14 : FVec F S_ .f32 := constant S_ .f32 0x7F800000#32
  let main_v41 : FVec F S6x256x256 .f32 := broadcastInDim S6x256x256 ![] bcast_S_S6x256x256 main_cst_14
  let main_v42 : IVec S6x256x256 1 := cmpf .olt main_v40 main_v41
  let main_c_15 : IVec S_ 1 := constantI S_ 1 1#1
  let main_v43 : IVec S_ 1 := (fun x v => Host.reduce IntOp.andi x v reducesTo_S6x256x256_S_d0_1_2 h_S_) main_v42 main_c_15
  let main_v44 : IVec S_ 1 := andi main_v39 main_v43
  let main_v45 : FVec F S6x256 .f32 := Host.absf main_arg9
  let main_cst_16 : FVec F S_ .f32 := constant S_ .f32 0x7F800000#32
  let main_v46 : FVec F S6x256 .f32 := broadcastInDim S6x256 ![] bcast_S_S6x256 main_cst_16
  let main_v47 : IVec S6x256 1 := cmpf .olt main_v45 main_v46
  let main_c_17 : IVec S_ 1 := constantI S_ 1 1#1
  let main_v48 : IVec S_ 1 := (fun x v => Host.reduce IntOp.andi x v reducesTo_S6x256_S_d0_1 h_S_) main_v47 main_c_17
  let main_v49 : IVec S_ 1 := andi main_v44 main_v48
  let main_v50 : FVec F S6x256 .f32 := Host.absf main_arg10
  let main_cst_18 : FVec F S_ .f32 := constant S_ .f32 0x7F800000#32
  fn_part3 (F := F) main_arg11 main_arg12 main_arg13 main_arg14 main_arg15 main_arg16 main_arg17 main_arg18 main_arg19 main_arg20 main_arg21 main_arg22 main_arg23 main_v49 main_v50 main_cst_18

def fn_part1 {F : FTy → Type} [FloatOps F] (main_arg4 : FVec F S6x256x256 .f32) (main_arg5 : FVec F S6x256 .f32) (main_arg6 : FVec F S6x768x256 .f32) (main_arg7 : FVec F S6x768 .f32) (main_arg8 : FVec F S6x256x256 .f32) (main_arg9 : FVec F S6x256 .f32) (main_arg10 : FVec F S6x256 .f32) (main_arg11 : FVec F S6x256 .f32) (main_arg12 : FVec F S6x1024x256 .f32) (main_arg13 : FVec F S6x1024 .f32) (main_arg14 : FVec F S6x256x1024 .f32) (main_arg15 : FVec F S6x256 .f32) (main_arg16 : FVec F S6x256 .f32) (main_arg17 : FVec F S6x256 .f32) (main_arg18 : FVec F S256 .f32) (main_arg19 : FVec F S256 .f32) (main_arg20 : FVec F S256x256 .f32) (main_arg21 : FVec F S256 .f32) (main_arg22 : FVec F S19x256 .f32) (main_arg23 : FVec F S19 .f32) (main_v14 : IVec S_ 1) (main_v15 : FVec F S6x768 .f32) (main_v16 : FVec F S6x768 .f32) : IVec S_ 1 :=
  let main_v17 : IVec S6x768 1 := cmpf .olt main_v15 main_v16
  let main_c_5 : IVec S_ 1 := constantI S_ 1 1#1
  let main_v18 : IVec S_ 1 := (fun x v => Host.reduce IntOp.andi x v reducesTo_S6x768_S_d0_1 h_S_) main_v17 main_c_5
  let main_v19 : IVec S_ 1 := andi main_v14 main_v18
  let main_v20 : FVec F S6x256x256 .f32 := Host.absf main_arg4
  let main_cst_6 : FVec F S_ .f32 := constant S_ .f32 0x7F800000#32
  let main_v21 : FVec F S6x256x256 .f32 := broadcastInDim S6x256x256 ![] bcast_S_S6x256x256 main_cst_6
  let main_v22 : IVec S6x256x256 1 := cmpf .olt main_v20 main_v21
  let main_c_7 : IVec S_ 1 := constantI S_ 1 1#1
  let main_v23 : IVec S_ 1 := (fun x v => Host.reduce IntOp.andi x v reducesTo_S6x256x256_S_d0_1_2 h_S_) main_v22 main_c_7
  let main_v24 : IVec S_ 1 := andi main_v19 main_v23
  let main_v25 : FVec F S6x256 .f32 := Host.absf main_arg5
  let main_cst_8 : FVec F S_ .f32 := constant S_ .f32 0x7F800000#32
  let main_v26 : FVec F S6x256 .f32 := broadcastInDim S6x256 ![] bcast_S_S6x256 main_cst_8
  let main_v27 : IVec S6x256 1 := cmpf .olt main_v25 main_v26
  let main_c_9 : IVec S_ 1 := constantI S_ 1 1#1
  let main_v28 : IVec S_ 1 := (fun x v => Host.reduce IntOp.andi x v reducesTo_S6x256_S_d0_1 h_S_) main_v27 main_c_9
  let main_v29 : IVec S_ 1 := andi main_v24 main_v28
  let main_v30 : FVec F S6x768x256 .f32 := Host.absf main_arg6
  let main_cst_10 : FVec F S_ .f32 := constant S_ .f32 0x7F800000#32
  let main_v31 : FVec F S6x768x256 .f32 := broadcastInDim S6x768x256 ![] bcast_S_S6x768x256 main_cst_10
  let main_v32 : IVec S6x768x256 1 := cmpf .olt main_v30 main_v31
  let main_c_11 : IVec S_ 1 := constantI S_ 1 1#1
  let main_v33 : IVec S_ 1 := (fun x v => Host.reduce IntOp.andi x v reducesTo_S6x768x256_S_d0_1_2 h_S_) main_v32 main_c_11
  fn_part2 (F := F) main_arg7 main_arg8 main_arg9 main_arg10 main_arg11 main_arg12 main_arg13 main_arg14 main_arg15 main_arg16 main_arg17 main_arg18 main_arg19 main_arg20 main_arg21 main_arg22 main_arg23 main_v29 main_v33

def fn {F : FTy → Type} [FloatOps F] (main_arg0 : FVec F S4x25000x256 .bf16) (main_arg1 : FVec F S100x256 .f32) (main_arg2 : FVec F S6x768x256 .f32) (main_arg3 : FVec F S6x768 .f32) (main_arg4 : FVec F S6x256x256 .f32) (main_arg5 : FVec F S6x256 .f32) (main_arg6 : FVec F S6x768x256 .f32) (main_arg7 : FVec F S6x768 .f32) (main_arg8 : FVec F S6x256x256 .f32) (main_arg9 : FVec F S6x256 .f32) (main_arg10 : FVec F S6x256 .f32) (main_arg11 : FVec F S6x256 .f32) (main_arg12 : FVec F S6x1024x256 .f32) (main_arg13 : FVec F S6x1024 .f32) (main_arg14 : FVec F S6x256x1024 .f32) (main_arg15 : FVec F S6x256 .f32) (main_arg16 : FVec F S6x256 .f32) (main_arg17 : FVec F S6x256 .f32) (main_arg18 : FVec F S256 .f32) (main_arg19 : FVec F S256 .f32) (main_arg20 : FVec F S256x256 .f32) (main_arg21 : FVec F S256 .f32) (main_arg22 : FVec F S19x256 .f32) (main_arg23 : FVec F S19 .f32) : IVec S_ 1 :=
  let main_v0 : FVec F S4x25000x256 .f32 := (extf .f32 · bitsLt_bf16_f32) main_arg0
  let main_v1 : FVec F S4x25000x256 .f32 := Host.absf main_v0
  let main_cst : FVec F S_ .f32 := constant S_ .f32 0x7F800000#32
  let main_v2 : FVec F S4x25000x256 .f32 := broadcastInDim S4x25000x256 ![] bcast_S_S4x25000x256 main_cst
  let main_v3 : IVec S4x25000x256 1 := cmpf .olt main_v1 main_v2
  let main_c : IVec S_ 1 := constantI S_ 1 1#1
  let main_v4 : IVec S_ 1 := (fun x v => Host.reduce IntOp.andi x v reducesTo_S4x25000x256_S_d0_1_2 h_S_) main_v3 main_c
  let main_v5 : FVec F S100x256 .f32 := Host.absf main_arg1
  let main_cst_0 : FVec F S_ .f32 := constant S_ .f32 0x7F800000#32
  let main_v6 : FVec F S100x256 .f32 := broadcastInDim S100x256 ![] bcast_S_S100x256 main_cst_0
  let main_v7 : IVec S100x256 1 := cmpf .olt main_v5 main_v6
  let main_c_1 : IVec S_ 1 := constantI S_ 1 1#1
  let main_v8 : IVec S_ 1 := (fun x v => Host.reduce IntOp.andi x v reducesTo_S100x256_S_d0_1 h_S_) main_v7 main_c_1
  let main_v9 : IVec S_ 1 := andi main_v4 main_v8
  let main_v10 : FVec F S6x768x256 .f32 := Host.absf main_arg2
  let main_cst_2 : FVec F S_ .f32 := constant S_ .f32 0x7F800000#32
  let main_v11 : FVec F S6x768x256 .f32 := broadcastInDim S6x768x256 ![] bcast_S_S6x768x256 main_cst_2
  let main_v12 : IVec S6x768x256 1 := cmpf .olt main_v10 main_v11
  let main_c_3 : IVec S_ 1 := constantI S_ 1 1#1
  let main_v13 : IVec S_ 1 := (fun x v => Host.reduce IntOp.andi x v reducesTo_S6x768x256_S_d0_1_2 h_S_) main_v12 main_c_3
  let main_v14 : IVec S_ 1 := andi main_v9 main_v13
  let main_v15 : FVec F S6x768 .f32 := Host.absf main_arg3
  let main_cst_4 : FVec F S_ .f32 := constant S_ .f32 0x7F800000#32
  let main_v16 : FVec F S6x768 .f32 := broadcastInDim S6x768 ![] bcast_S_S6x768 main_cst_4
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v14 main_v15 main_v16
-- ==== Kernel.lean ====
abbrev S4x25000x256 : Shape := ⟨3, ![4, 25000, 256]⟩
abbrev S100x256 : Shape := ⟨2, ![100, 256]⟩
abbrev S6x768x256 : Shape := ⟨3, ![6, 768, 256]⟩
abbrev S6x768 : Shape := ⟨2, ![6, 768]⟩
abbrev S6x256x256 : Shape := ⟨3, ![6, 256, 256]⟩
abbrev S6x256 : Shape := ⟨2, ![6, 256]⟩
abbrev S6x1024x256 : Shape := ⟨3, ![6, 1024, 256]⟩
abbrev S6x1024 : Shape := ⟨2, ![6, 1024]⟩
abbrev S6x256x1024 : Shape := ⟨3, ![6, 256, 1024]⟩
abbrev S256 : Shape := ⟨1, ![256]⟩
abbrev S256x256 : Shape := ⟨2, ![256, 256]⟩
abbrev S19x256 : Shape := ⟨2, ![19, 256]⟩
abbrev S19 : Shape := ⟨1, ![19]⟩
abbrev S2x2x5x5000x256 : Shape := ⟨5, ![2, 2, 5, 5000, 256]⟩
abbrev S6x1x768 : Shape := ⟨3, ![6, 1, 768]⟩
abbrev S6x1x256 : Shape := ⟨3, ![6, 1, 256]⟩
abbrev S6x1x1024 : Shape := ⟨3, ![6, 1, 1024]⟩
abbrev S1x256 : Shape := ⟨2, ![1, 256]⟩
abbrev S1x19 : Shape := ⟨2, ![1, 19]⟩
abbrev S2x2x100x256 : Shape := ⟨4, ![2, 2, 100, 256]⟩
abbrev S2x2x100x19 : Shape := ⟨4, ![2, 2, 100, 19]⟩
abbrev S1x2x1x5000x256 : Shape := ⟨5, ![1, 2, 1, 5000, 256]⟩
abbrev S1x768x256 : Shape := ⟨3, ![1, 768, 256]⟩
abbrev S1x1x768 : Shape := ⟨3, ![1, 1, 768]⟩
abbrev S1x256x256 : Shape := ⟨3, ![1, 256, 256]⟩
abbrev S1x1x256 : Shape := ⟨3, ![1, 1, 256]⟩
abbrev S1x1024x256 : Shape := ⟨3, ![1, 1024, 256]⟩
abbrev S1x1x1024 : Shape := ⟨3, ![1, 1, 1024]⟩
abbrev S1x256x1024 : Shape := ⟨3, ![1, 256, 1024]⟩
abbrev S1x2x100x256 : Shape := ⟨4, ![1, 2, 100, 256]⟩
abbrev S1x2x100x19 : Shape := ⟨4, ![1, 2, 100, 19]⟩
abbrev S2x100x256 : Shape := ⟨3, ![2, 100, 256]⟩
abbrev S2x100x8 : Shape := ⟨3, ![2, 100, 8]⟩
abbrev S1x100x256 : Shape := ⟨3, ![1, 100, 256]⟩
abbrev S1x1x1x5000x256 : Shape := ⟨5, ![1, 1, 1, 5000, 256]⟩
abbrev S5000x256 : Shape := ⟨2, ![5000, 256]⟩
abbrev S256x5000 : Shape := ⟨2, ![256, 5000]⟩
abbrev S1x100x8 : Shape := ⟨3, ![1, 100, 8]⟩
abbrev S100x8 : Shape := ⟨2, ![100, 8]⟩
abbrev S100x32 : Shape := ⟨2, ![100, 32]⟩
abbrev S32x5000 : Shape := ⟨2, ![32, 5000]⟩
abbrev S100x5000 : Shape := ⟨2, ![100, 5000]⟩
abbrev S100x1 : Shape := ⟨2, ![100, 1]⟩
abbrev S100 : Shape := ⟨1, ![100]⟩
abbrev S768x256 : Shape := ⟨2, ![768, 256]⟩
abbrev S100x768 : Shape := ⟨2, ![100, 768]⟩
abbrev S768 : Shape := ⟨1, ![768]⟩
abbrev S1x768 : Shape := ⟨2, ![1, 768]⟩
abbrev S100x100 : Shape := ⟨2, ![100, 100]⟩
abbrev S1024x256 : Shape := ⟨2, ![1024, 256]⟩
abbrev S100x1024 : Shape := ⟨2, ![100, 1024]⟩
abbrev S1024 : Shape := ⟨1, ![1024]⟩
abbrev S1x1024 : Shape := ⟨2, ![1, 1024]⟩
abbrev S256x1024 : Shape := ⟨2, ![256, 1024]⟩
abbrev S1x1x100x256 : Shape := ⟨4, ![1, 1, 100, 256]⟩
abbrev S100x19 : Shape := ⟨2, ![100, 19]⟩
abbrev S1x1x100x19 : Shape := ⟨4, ![1, 1, 100, 19]⟩

abbrev nBuf : Space → Nat
  | .hbm => 42
  | .vmem => 50
  | .smem => 0
  | _ => 0

abbrev bufTy : (tb : Table) → Fin (tcTables nBuf tb) → BufTy
  | .hbm, ⟨0, _⟩ => ⟨S4x25000x256, .bf16⟩
  | .hbm, ⟨1, _⟩ => ⟨S100x256, .f32⟩
  | .hbm, ⟨2, _⟩ => ⟨S6x768x256, .f32⟩
  | .hbm, ⟨3, _⟩ => ⟨S6x768, .f32⟩
  | .hbm, ⟨4, _⟩ => ⟨S6x256x256, .f32⟩
  | .hbm, ⟨5, _⟩ => ⟨S6x256, .f32⟩
  | .hbm, ⟨6, _⟩ => ⟨S6x768x256, .f32⟩
  | .hbm, ⟨7, _⟩ => ⟨S6x768, .f32⟩
  | .hbm, ⟨8, _⟩ => ⟨S6x256x256, .f32⟩
  | .hbm, ⟨9, _⟩ => ⟨S6x256, .f32⟩
  | .hbm, ⟨10, _⟩ => ⟨S6x256, .f32⟩
  | .hbm, ⟨11, _⟩ => ⟨S6x256, .f32⟩
  | .hbm, ⟨12, _⟩ => ⟨S6x1024x256, .f32⟩
  | .hbm, ⟨13, _⟩ => ⟨S6x1024, .f32⟩
  | .hbm, ⟨14, _⟩ => ⟨S6x256x1024, .f32⟩
  | .hbm, ⟨15, _⟩ => ⟨S6x256, .f32⟩
  | .hbm, ⟨16, _⟩ => ⟨S6x256, .f32⟩
  | .hbm, ⟨17, _⟩ => ⟨S6x256, .f32⟩
  | .hbm, ⟨18, _⟩ => ⟨S256, .f32⟩
  | .hbm, ⟨19, _⟩ => ⟨S256, .f32⟩
  | .hbm, ⟨20, _⟩ => ⟨S256x256, .f32⟩
  | .hbm, ⟨21, _⟩ => ⟨S256, .f32⟩
  | .hbm, ⟨22, _⟩ => ⟨S19x256, .f32⟩
  | .hbm, ⟨23, _⟩ => ⟨S19, .f32⟩
  | .hbm, ⟨24, _⟩ => ⟨S6x768x256, .bf16⟩
  | .hbm, ⟨25, _⟩ => ⟨S2x2x5x5000x256, .bf16⟩
  | .hbm, ⟨26, _⟩ => ⟨S6x1x768, .f32⟩
  | .hbm, ⟨27, _⟩ => ⟨S6x1x256, .f32⟩
  | .hbm, ⟨28, _⟩ => ⟨S6x1x768, .f32⟩
  | .hbm, ⟨29, _⟩ => ⟨S6x1x256, .f32⟩
  | .hbm, ⟨30, _⟩ => ⟨S6x1x256, .f32⟩
  | .hbm, ⟨31, _⟩ => ⟨S6x1x256, .f32⟩
  | .hbm, ⟨32, _⟩ => ⟨S6x1x1024, .f32⟩
  | .hbm, ⟨33, _⟩ => ⟨S6x1x256, .f32⟩
  | .hbm, ⟨34, _⟩ => ⟨S6x1x256, .f32⟩
  | .hbm, ⟨35, _⟩ => ⟨S6x1x256, .f32⟩
  | .hbm, ⟨36, _⟩ => ⟨S1x256, .f32⟩
  | .hbm, ⟨37, _⟩ => ⟨S1x256, .f32⟩
  | .hbm, ⟨38, _⟩ => ⟨S1x256, .f32⟩
  | .hbm, ⟨39, _⟩ => ⟨S1x19, .f32⟩
  | .hbm, ⟨40, _⟩ => ⟨S2x2x100x256, .f32⟩
  | .hbm, ⟨41, _⟩ => ⟨S2x2x100x19, .f32⟩
  | .local _ .vmem, ⟨0, _⟩ => ⟨S1x2x1x5000x256, .bf16⟩
  | .local _ .vmem, ⟨1, _⟩ => ⟨S1x2x1x5000x256, .bf16⟩
  | .local _ .vmem, ⟨2, _⟩ => ⟨S100x256, .f32⟩
  | .local _ .vmem, ⟨3, _⟩ => ⟨S1x768x256, .bf16⟩
  | .local _ .vmem, ⟨4, _⟩ => ⟨S1x768x256, .bf16⟩
  | .local _ .vmem, ⟨5, _⟩ => ⟨S1x1x768, .f32⟩
  | .local _ .vmem, ⟨6, _⟩ => ⟨S1x1x768, .f32⟩
  | .local _ .vmem, ⟨7, _⟩ => ⟨S1x256x256, .f32⟩
  | .local _ .vmem, ⟨8, _⟩ => ⟨S1x256x256, .f32⟩
  | .local _ .vmem, ⟨9, _⟩ => ⟨S1x1x256, .f32⟩
  | .local _ .vmem, ⟨10, _⟩ => ⟨S1x1x256, .f32⟩
  | .local _ .vmem, ⟨11, _⟩ => ⟨S1x768x256, .f32⟩
  | .local _ .vmem, ⟨12, _⟩ => ⟨S1x768x256, .f32⟩
  | .local _ .vmem, ⟨13, _⟩ => ⟨S1x1x768, .f32⟩
  | .local _ .vmem, ⟨14, _⟩ => ⟨S1x1x768, .f32⟩
  | .local _ .vmem, ⟨15, _⟩ => ⟨S1x256x256, .f32⟩
  | .local _ .vmem, ⟨16, _⟩ => ⟨S1x256x256, .f32⟩
  | .local _ .vmem, ⟨17, _⟩ => ⟨S1x1x256, .f32⟩
  | .local _ .vmem, ⟨18, _⟩ => ⟨S1x1x256, .f32⟩
  | .local _ .vmem, ⟨19, _⟩ => ⟨S1x1x256, .f32⟩
  | .local _ .vmem, ⟨20, _⟩ => ⟨S1x1x256, .f32⟩
  | .local _ .vmem, ⟨21, _⟩ => ⟨S1x1x256, .f32⟩
  | .local _ .vmem, ⟨22, _⟩ => ⟨S1x1x256, .f32⟩
  | .local _ .vmem, ⟨23, _⟩ => ⟨S1x1024x256, .f32⟩
  | .local _ .vmem, ⟨24, _⟩ => ⟨S1x1024x256, .f32⟩
  | .local _ .vmem, ⟨25, _⟩ => ⟨S1x1x1024, .f32⟩
  | .local _ .vmem, ⟨26, _⟩ => ⟨S1x1x1024, .f32⟩
  | .local _ .vmem, ⟨27, _⟩ => ⟨S1x256x1024, .f32⟩
  | .local _ .vmem, ⟨28, _⟩ => ⟨S1x256x1024, .f32⟩
  | .local _ .vmem, ⟨29, _⟩ => ⟨S1x1x256, .f32⟩
  | .local _ .vmem, ⟨30, _⟩ => ⟨S1x1x256, .f32⟩
  | .local _ .vmem, ⟨31, _⟩ => ⟨S1x1x256, .f32⟩
  | .local _ .vmem, ⟨32, _⟩ => ⟨S1x1x256, .f32⟩
  | .local _ .vmem, ⟨33, _⟩ => ⟨S1x1x256, .f32⟩
  | .local _ .vmem, ⟨34, _⟩ => ⟨S1x1x256, .f32⟩
  | .local _ .vmem, ⟨35, _⟩ => ⟨S1x256, .f32⟩
  | .local _ .vmem, ⟨36, _⟩ => ⟨S1x256, .f32⟩
  | .local _ .vmem, ⟨37, _⟩ => ⟨S256x256, .f32⟩
  | .local _ .vmem, ⟨38, _⟩ => ⟨S1x256, .f32⟩
  | .local _ .vmem, ⟨39, _⟩ => ⟨S19x256, .f32⟩
  | .local _ .vmem, ⟨40, _⟩ => ⟨S1x19, .f32⟩
  | .local _ .vmem, ⟨41, _⟩ => ⟨S1x2x100x256, .f32⟩
  | .local _ .vmem, ⟨42, _⟩ => ⟨S1x2x100x256, .f32⟩
  | .local _ .vmem, ⟨43, _⟩ => ⟨S1x2x100x19, .f32⟩
  | .local _ .vmem, ⟨44, _⟩ => ⟨S1x2x100x19, .f32⟩
  | .local _ .vmem, ⟨45, _⟩ => ⟨S2x100x256, .f32⟩
  | .local _ .vmem, ⟨46, _⟩ => ⟨S2x100x256, .f32⟩
  | .local _ .vmem, ⟨47, _⟩ => ⟨S2x100x256, .f32⟩
  | .local _ .vmem, ⟨48, _⟩ => ⟨S2x100x8, .f32⟩
  | .local _ .vmem, ⟨49, _⟩ => ⟨S2x100x8, .f32⟩
  | _, _ => ⟨S4x25000x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16_0 : Ref sig .tc := ⟨.hbm, 40, rfl⟩
abbrev main_v16_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg19_0 : Ref sig .tc := ⟨.vmem, 36, rfl⟩
abbrev cc0_stg20_0 : Ref sig .tc := ⟨.vmem, 37, rfl⟩
abbrev cc0_stg21_0 : Ref sig .tc := ⟨.vmem, 38, rfl⟩
abbrev cc0_stg22_0 : Ref sig .tc := ⟨.vmem, 39, rfl⟩
abbrev cc0_stg23_0 : Ref sig .tc := ⟨.vmem, 40, rfl⟩
abbrev cc0_stg24_0 : Ref sig .tc := ⟨.vmem, 41, rfl⟩
abbrev cc0_stg24_1 : Ref sig .tc := ⟨.vmem, 42, rfl⟩
abbrev cc0_stg25_0 : Ref sig .tc := ⟨.vmem, 43, rfl⟩
abbrev cc0_stg25_1 : Ref sig .tc := ⟨.vmem, 44, rfl⟩
abbrev cc0_scratch0 : Ref sig .tc := ⟨.vmem, 45, rfl⟩
abbrev cc0_scratch1 : Ref sig .tc := ⟨.vmem, 46, rfl⟩
abbrev cc0_scratch2 : Ref sig .tc := ⟨.vmem, 47, rfl⟩
abbrev cc0_scratch3 : Ref sig .tc := ⟨.vmem, 48, rfl⟩
abbrev cc0_scratch4 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem19_0 : DmaSem sig := 36
abbrev cc0_sem20_0 : DmaSem sig := 37
abbrev cc0_sem21_0 : DmaSem sig := 38
abbrev cc0_sem22_0 : DmaSem sig := 39
abbrev cc0_sem23_0 : DmaSem sig := 40
abbrev cc0_sem24_0 : DmaSem sig := 41
abbrev cc0_sem24_1 : DmaSem sig := 42
abbrev cc0_sem25_0 : DmaSem sig := 43
abbrev cc0_sem25_1 : DmaSem sig := 44

abbrev nD : Nat := 1
abbrev τ : Topo := Topo.v7x

variable {F : FTy → Type} [FloatOps F]

abbrev grid0 : Pipeline.Grid := ⟨3, ![2, 6, 5], ![false, false, false]⟩

def k0_cond4 (i : grid0.Coords) : BitVec 1 :=
  let arg2 : BitVec 32 := BitVec.ofNat 32 (i 2).val
  let c4_i32_126 : BitVec 32 := 4#32
  let v453 : BitVec 1 := Scalar.cmpi .eq arg2 c4_i32_126
  let arg1 : BitVec 32 := BitVec.ofNat 32 (i 1).val
  let c5_i32 : BitVec 32 := 5#32
  let v454 : BitVec 1 := Scalar.cmpi .eq arg1 c5_i32
  let v455 : BitVec 1 := Scalar.andi v453 v454
  let v456 : BitVec 32 := Scalar.extui v455
  let c0_i32_127 : BitVec 32 := 0#32
  let v457 : BitVec 1 := Scalar.cmpi .ne v456 c0_i32_127
  v457

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg2.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_25 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2x1x5000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S100x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x768x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x768x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S1x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S1x1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true, false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true, false]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true, false]

abbrev stage0_15 : Fin 2 → Memref sig .tc .vmem S1x1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true, false]

abbrev stage0_16 : Fin 2 → Memref sig .tc .vmem S1x1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true, false]

abbrev stage0_17 : Fin 2 → Memref sig .tc .vmem S1x1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true, false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false, false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false, false]

abbrev stage0_20 : Fin 1 → Memref sig .tc .vmem S256x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false, false]

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false, false]

abbrev stage0_22 : Fin 1 → Memref sig .tc .vmem S19x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false, false]

abbrev stage0_23 : Fin 1 → Memref sig .tc .vmem S1x19 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false, false]

abbrev stage0_24 : Fin 2 → Memref sig .tc .vmem S1x2x100x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, false, false]

abbrev stage0_25 : Fin 2 → Memref sig .tc .vmem S1x2x100x19 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, false, false]
-- ==== KernelIdeal.lean ====
variable {F : FTy → Type} [FloatOps F] [Named F]
def κ : String → Option EReal := fun
  | "inv_sqrt_dh" => some (((Real.sqrt 32)⁻¹ : ℝ) : EReal)
  | _ => none
-- ==== ReferenceIdeal.lean ====
abbrev S4x25000x256 : Shape := ⟨3, ![4, 25000, 256]⟩
abbrev S100x256 : Shape := ⟨2, ![100, 256]⟩
abbrev S6x768x256 : Shape := ⟨3, ![6, 768, 256]⟩
abbrev S6x768 : Shape := ⟨2, ![6, 768]⟩
abbrev S6x256x256 : Shape := ⟨3, ![6, 256, 256]⟩
abbrev S6x256 : Shape := ⟨2, ![6, 256]⟩
abbrev S6x1024x256 : Shape := ⟨3, ![6, 1024, 256]⟩
abbrev S6x1024 : Shape := ⟨2, ![6, 1024]⟩
abbrev S6x256x1024 : Shape := ⟨3, ![6, 256, 1024]⟩
abbrev S256 : Shape := ⟨1, ![256]⟩
abbrev S256x256 : Shape := ⟨2, ![256, 256]⟩
abbrev S19x256 : Shape := ⟨2, ![19, 256]⟩
abbrev S19 : Shape := ⟨1, ![19]⟩
abbrev S4x100x256 : Shape := ⟨3, ![4, 100, 256]⟩
abbrev S_ : Shape := ⟨0, ![]⟩
abbrev S1x768x256 : Shape := ⟨3, ![1, 768, 256]⟩
abbrev S768x256 : Shape := ⟨2, ![768, 256]⟩
abbrev S1x768 : Shape := ⟨2, ![1, 768]⟩
abbrev S768 : Shape := ⟨1, ![768]⟩
abbrev S1x256x256 : Shape := ⟨3, ![1, 256, 256]⟩
abbrev S1x256 : Shape := ⟨2, ![1, 256]⟩
abbrev S1x1024x256 : Shape := ⟨3, ![1, 1024, 256]⟩
abbrev S1024x256 : Shape := ⟨2, ![1024, 256]⟩
abbrev S1x1024 : Shape := ⟨2, ![1, 1024]⟩
abbrev S1024 : Shape := ⟨1, ![1024]⟩
abbrev S1x256x1024 : Shape := ⟨3, ![1, 256, 1024]⟩
abbrev S256x1024 : Shape := ⟨2, ![256, 1024]⟩
abbrev S1x1x256 : Shape := ⟨3, ![1, 1, 256]⟩
abbrev S4x100x8x32 : Shape := ⟨4, ![4, 100, 8, 32]⟩
abbrev S4x25000x8x32 : Shape := ⟨4, ![4, 25000, 8, 32]⟩
abbrev S4x8x100x25000 : Shape := ⟨4, ![4, 8, 100, 25000]⟩
abbrev S4x8x100 : Shape := ⟨3, ![4, 8, 100]⟩
abbrev S4x8x100x1 : Shape := ⟨4, ![4, 8, 100, 1]⟩
abbrev S4x8x32x100 : Shape := ⟨4, ![4, 8, 32, 100]⟩
abbrev S4x8x100x100 : Shape := ⟨4, ![4, 8, 100, 100]⟩
abbrev S4x100 : Shape := ⟨2, ![4, 100]⟩
abbrev S4x100x1 : Shape := ⟨3, ![4, 100, 1]⟩
abbrev S4x100x1024 : Shape := ⟨3, ![4, 100, 1024]⟩
abbrev S1x1x1024 : Shape := ⟨3, ![1, 1, 1024]⟩
abbrev S256x19 : Shape := ⟨2, ![256, 19]⟩
abbrev S4x100x19 : Shape := ⟨3, ![4, 100, 19]⟩
abbrev S1x1x19 : Shape := ⟨3, ![1, 1, 19]⟩
abbrev S2x2x100x256 : Shape := ⟨4, ![2, 2, 100, 256]⟩
abbrev S2x2x100x19 : Shape := ⟨4, ![2, 2, 100, 19]⟩

abbrev nBuf : Space → Nat
  | .hbm => 324
  | .vmem => 0
  | .smem => 0
  | _ => 0

abbrev hbmTy0_0 (i : Nat) : BufTy := match i % 128 with
  | 0 => ⟨S4x25000x256, .bf16⟩
  | 1 => ⟨S100x256, .f32⟩
  | 2 => ⟨S6x768x256, .f32⟩
  | 3 => ⟨S6x768, .f32⟩
  | 4 => ⟨S6x256x256, .f32⟩
  | 5 => ⟨S6x256, .f32⟩
  | 6 => ⟨S6x768x256, .f32⟩
  | 7 => ⟨S6x768, .f32⟩
  | 8 => ⟨S6x256x256, .f32⟩
  | 9 => ⟨S6x256, .f32⟩
  | 10 => ⟨S6x256, .f32⟩
  | 11 => ⟨S6x256, .f32⟩
  | 12 => ⟨S6x1024x256, .f32⟩
  | 13 => ⟨S6x1024, .f32⟩
  | 14 => ⟨S6x256x1024, .f32⟩
  | 15 => ⟨S6x256, .f32⟩
  | 16 => ⟨S6x256, .f32⟩
  | 17 => ⟨S6x256, .f32⟩
  | 18 => ⟨S256, .f32⟩
  | 19 => ⟨S256, .f32⟩
  | 20 => ⟨S256x256, .f32⟩
  | 21 => ⟨S256, .f32⟩
  | 22 => ⟨S19x256, .f32⟩
  | 23 => ⟨S19, .f32⟩
  | 24 => ⟨S4x25000x256, .f32⟩
  | 25 => ⟨S4x100x256, .f32⟩
  | 26 => ⟨S_, .i32⟩
  | 27 => ⟨S6x768x256, .f32⟩
  | 28 => ⟨S6x768, .f32⟩
  | 29 => ⟨S6x256x256, .f32⟩
  | 30 => ⟨S6x256, .f32⟩
  | 31 => ⟨S6x768x256, .f32⟩
  | 32 => ⟨S6x768, .f32⟩
  | 33 => ⟨S6x256x256, .f32⟩
  | 34 => ⟨S6x256, .f32⟩
  | 35 => ⟨S6x256, .f32⟩
  | 36 => ⟨S6x256, .f32⟩
  | 37 => ⟨S6x1024x256, .f32⟩
  | 38 => ⟨S6x1024, .f32⟩
  | 39 => ⟨S6x256x1024, .f32⟩
  | 40 => ⟨S6x256, .f32⟩
  | 41 => ⟨S6x256, .f32⟩
  | 42 => ⟨S6x256, .f32⟩
  | 43 => ⟨S4x25000x256, .f32⟩
  | 44 => ⟨S_, .i32⟩
  | 45 => ⟨S4x100x256, .f32⟩
  | 46 => ⟨S_, .i32⟩
  | 47 => ⟨S_, .i1⟩
  | 48 => ⟨S_, .i32⟩
  | 49 => ⟨S_, .i32⟩
  | 50 => ⟨S1x768x256, .f32⟩
  | 51 => ⟨S768x256, .f32⟩
  | 52 => ⟨S_, .i32⟩
  | 53 => ⟨S1x768, .f32⟩
  | 54 => ⟨S768, .f32⟩
  | 55 => ⟨S_, .i32⟩
  | 56 => ⟨S_, .i32⟩
  | 57 => ⟨S1x256x256, .f32⟩
  | 58 => ⟨S256x256, .f32⟩
  | 59 => ⟨S_, .i32⟩
  | 60 => ⟨S1x256, .f32⟩
  | 61 => ⟨S256, .f32⟩
  | 62 => ⟨S_, .i32⟩
  | 63 => ⟨S_, .i32⟩
  | 64 => ⟨S1x768x256, .f32⟩
  | 65 => ⟨S768x256, .f32⟩
  | 66 => ⟨S_, .i32⟩
  | 67 => ⟨S1x768, .f32⟩
  | 68 => ⟨S768, .f32⟩
  | 69 => ⟨S_, .i32⟩
  | 70 => ⟨S_, .i32⟩
  | 71 => ⟨S1x256x256, .f32⟩
  | 72 => ⟨S256x256, .f32⟩
  | 73 => ⟨S_, .i32⟩
  | 74 => ⟨S1x256, .f32⟩
  | 75 => ⟨S256, .f32⟩
  | 76 => ⟨S_, .i32⟩
  | 77 => ⟨S1x256, .f32⟩
  | 78 => ⟨S256, .f32⟩
  | 79 => ⟨S_, .i32⟩
  | 80 => ⟨S1x256, .f32⟩
  | 81 => ⟨S256, .f32⟩
  | 82 => ⟨S_, .i32⟩
  | 83 => ⟨S_, .i32⟩
  | 84 => ⟨S1x1024x256, .f32⟩
  | 85 => ⟨S1024x256, .f32⟩
  | 86 => ⟨S_, .i32⟩
  | 87 => ⟨S1x1024, .f32⟩
  | 88 => ⟨S1024, .f32⟩
  | 89 => ⟨S_, .i32⟩
  | 90 => ⟨S_, .i32⟩
  | 91 => ⟨S1x256x1024, .f32⟩
  | 92 => ⟨S256x1024, .f32⟩
  | 93 => ⟨S_, .i32⟩
  | 94 => ⟨S1x256, .f32⟩
  | 95 => ⟨S256, .f32⟩
  | 96 => ⟨S_, .i32⟩
  | 97 => ⟨S1x256, .f32⟩
  | 98 => ⟨S256, .f32⟩
  | 99 => ⟨S_, .i32⟩
  | 100 => ⟨S1x256, .f32⟩
  | 101 => ⟨S256, .f32⟩
  | 102 => ⟨S256x256, .f32⟩
  | 103 => ⟨S256x256, .f32⟩
  | 104 => ⟨S256x256, .f32⟩
  | 105 => ⟨S256, .f32⟩
  | 106 => ⟨S256, .f32⟩
  | 107 => ⟨S256, .f32⟩
  | 108 => ⟨S256x256, .f32⟩
  | 109 => ⟨S4x100x256, .f32⟩
  | 110 => ⟨S1x1x256, .f32⟩
  | 111 => ⟨S4x100x256, .f32⟩
  | 112 => ⟨S4x100x256, .f32⟩
  | 113 => ⟨S4x100x8x32, .f32⟩
  | 114 => ⟨S256x256, .f32⟩
  | 115 => ⟨S4x25000x256, .f32⟩
  | 116 => ⟨S1x1x256, .f32⟩
  | 117 => ⟨S4x25000x256, .f32⟩
  | 118 => ⟨S4x25000x256, .f32⟩
  | 119 => ⟨S4x25000x8x32, .f32⟩
  | 120 => ⟨S256x256, .f32⟩
  | 121 => ⟨S4x25000x256, .f32⟩
  | 122 => ⟨S1x1x256, .f32⟩
  | 123 => ⟨S4x25000x256, .f32⟩
  | 124 => ⟨S4x25000x256, .f32⟩
  | 125 => ⟨S4x25000x8x32, .f32⟩
  | 126 => ⟨S4x8x100x25000, .f32⟩
  | 127 => ⟨S_, .f32⟩
  | _ => ⟨S4x25000x256, .bf16⟩

abbrev hbmTy0_1 (i : Nat) : BufTy := match i % 128 with
  | 0 => ⟨S_, .f32⟩
  | 1 => ⟨S4x8x100x25000, .f32⟩
  | 2 => ⟨S4x8x100x25000, .f32⟩
  | 3 => ⟨S_, .f32⟩
  | 4 => ⟨S4x8x100, .f32⟩
  | 5 => ⟨S_, .f32⟩
  | 6 => ⟨S4x8x100, .f32⟩
  | 7 => ⟨S4x8x100, .f32⟩
  | 8 => ⟨S4x8x100x1, .f32⟩
  | 9 => ⟨S4x8x100x25000, .f32⟩
  | 10 => ⟨S4x8x100x25000, .f32⟩
  | 11 => ⟨S4x8x100x25000, .f32⟩
  | 12 => ⟨S_, .f32⟩
  | 13 => ⟨S4x8x100, .f32⟩
  | 14 => ⟨S4x8x100x1, .f32⟩
  | 15 => ⟨S4x8x100x25000, .f32⟩
  | 16 => ⟨S4x8x100x25000, .f32⟩
  | 17 => ⟨S4x8x32x100, .f32⟩
  | 18 => ⟨S4x100x8x32, .f32⟩
  | 19 => ⟨S4x100x256, .f32⟩
  | 20 => ⟨S256x256, .f32⟩
  | 21 => ⟨S4x100x256, .f32⟩
  | 22 => ⟨S1x1x256, .f32⟩
  | 23 => ⟨S4x100x256, .f32⟩
  | 24 => ⟨S4x100x256, .f32⟩
  | 25 => ⟨S4x100x256, .f32⟩
  | 26 => ⟨S256x256, .f32⟩
  | 27 => ⟨S256x256, .f32⟩
  | 28 => ⟨S256x256, .f32⟩
  | 29 => ⟨S256, .f32⟩
  | 30 => ⟨S256, .f32⟩
  | 31 => ⟨S256, .f32⟩
  | 32 => ⟨S256x256, .f32⟩
  | 33 => ⟨S4x100x256, .f32⟩
  | 34 => ⟨S1x1x256, .f32⟩
  | 35 => ⟨S4x100x256, .f32⟩
  | 36 => ⟨S4x100x256, .f32⟩
  | 37 => ⟨S4x100x8x32, .f32⟩
  | 38 => ⟨S256x256, .f32⟩
  | 39 => ⟨S4x100x256, .f32⟩
  | 40 => ⟨S1x1x256, .f32⟩
  | 41 => ⟨S4x100x256, .f32⟩
  | 42 => ⟨S4x100x256, .f32⟩
  | 43 => ⟨S4x100x8x32, .f32⟩
  | 44 => ⟨S256x256, .f32⟩
  | 45 => ⟨S4x100x256, .f32⟩
  | 46 => ⟨S1x1x256, .f32⟩
  | 47 => ⟨S4x100x256, .f32⟩
  | 48 => ⟨S4x100x256, .f32⟩
  | 49 => ⟨S4x100x8x32, .f32⟩
  | 50 => ⟨S4x8x100x100, .f32⟩
  | 51 => ⟨S_, .f32⟩
  | 52 => ⟨S_, .f32⟩
  | 53 => ⟨S4x8x100x100, .f32⟩
  | 54 => ⟨S4x8x100x100, .f32⟩
  | 55 => ⟨S_, .f32⟩
  | 56 => ⟨S4x8x100, .f32⟩
  | 57 => ⟨S_, .f32⟩
  | 58 => ⟨S4x8x100, .f32⟩
  | 59 => ⟨S4x8x100, .f32⟩
  | 60 => ⟨S4x8x100x1, .f32⟩
  | 61 => ⟨S4x8x100x100, .f32⟩
  | 62 => ⟨S4x8x100x100, .f32⟩
  | 63 => ⟨S4x8x100x100, .f32⟩
  | 64 => ⟨S_, .f32⟩
  | 65 => ⟨S4x8x100, .f32⟩
  | 66 => ⟨S4x8x100x1, .f32⟩
  | 67 => ⟨S4x8x100x100, .f32⟩
  | 68 => ⟨S4x8x100x100, .f32⟩
  | 69 => ⟨S4x8x32x100, .f32⟩
  | 70 => ⟨S4x100x8x32, .f32⟩
  | 71 => ⟨S4x100x256, .f32⟩
  | 72 => ⟨S256x256, .f32⟩
  | 73 => ⟨S4x100x256, .f32⟩
  | 74 => ⟨S1x1x256, .f32⟩
  | 75 => ⟨S4x100x256, .f32⟩
  | 76 => ⟨S4x100x256, .f32⟩
  | 77 => ⟨S4x100x256, .f32⟩
  | 78 => ⟨S_, .f32⟩
  | 79 => ⟨S4x100, .f32⟩
  | 80 => ⟨S4x100x1, .f32⟩
  | 81 => ⟨S_, .f32⟩
  | 82 => ⟨S4x100x1, .f32⟩
  | 83 => ⟨S4x100x1, .f32⟩
  | 84 => ⟨S4x100x256, .f32⟩
  | 85 => ⟨S4x100x256, .f32⟩
  | 86 => ⟨S4x100x256, .f32⟩
  | 87 => ⟨S_, .f32⟩
  | 88 => ⟨S4x100, .f32⟩
  | 89 => ⟨S4x100x1, .f32⟩
  | 90 => ⟨S_, .f32⟩
  | 91 => ⟨S4x100x1, .f32⟩
  | 92 => ⟨S4x100x1, .f32⟩
  | 93 => ⟨S4x100x256, .f32⟩
  | 94 => ⟨S4x100x256, .f32⟩
  | 95 => ⟨S_, .f32⟩
  | 96 => ⟨S4x100x1, .f32⟩
  | 97 => ⟨S4x100x1, .f32⟩
  | 98 => ⟨S4x100x1, .f32⟩
  | 99 => ⟨S4x100x256, .f32⟩
  | 100 => ⟨S4x100x256, .f32⟩
  | 101 => ⟨S1x1x256, .f32⟩
  | 102 => ⟨S4x100x256, .f32⟩
  | 103 => ⟨S4x100x256, .f32⟩
  | 104 => ⟨S1x1x256, .f32⟩
  | 105 => ⟨S4x100x256, .f32⟩
  | 106 => ⟨S4x100x256, .f32⟩
  | 107 => ⟨S256x1024, .f32⟩
  | 108 => ⟨S4x100x1024, .f32⟩
  | 109 => ⟨S1x1x1024, .f32⟩
  | 110 => ⟨S4x100x1024, .f32⟩
  | 111 => ⟨S4x100x1024, .f32⟩
  | 112 => ⟨S_, .f32⟩
  | 113 => ⟨S4x100x1024, .f32⟩
  | 114 => ⟨S4x100x1024, .f32⟩
  | 115 => ⟨S1024x256, .f32⟩
  | 116 => ⟨S4x100x256, .f32⟩
  | 117 => ⟨S1x1x256, .f32⟩
  | 118 => ⟨S4x100x256, .f32⟩
  | 119 => ⟨S4x100x256, .f32⟩
  | 120 => ⟨S4x100x256, .f32⟩
  | 121 => ⟨S_, .f32⟩
  | 122 => ⟨S4x100, .f32⟩
  | 123 => ⟨S4x100x1, .f32⟩
  | 124 => ⟨S_, .f32⟩
  | 125 => ⟨S4x100x1, .f32⟩
  | 126 => ⟨S4x100x1, .f32⟩
  | 127 => ⟨S4x100x256, .f32⟩
  | _ => ⟨S4x25000x256, .bf16⟩

abbrev hbmTy0_2 (i : Nat) : BufTy := match i % 128 with
  | 0 => ⟨S4x100x256, .f32⟩
  | 1 => ⟨S4x100x256, .f32⟩
  | 2 => ⟨S_, .f32⟩
  | 3 => ⟨S4x100, .f32⟩
  | 4 => ⟨S4x100x1, .f32⟩
  | 5 => ⟨S_, .f32⟩
  | 6 => ⟨S4x100x1, .f32⟩
  | 7 => ⟨S4x100x1, .f32⟩
  | 8 => ⟨S4x100x256, .f32⟩
  | 9 => ⟨S4x100x256, .f32⟩
  | 10 => ⟨S_, .f32⟩
  | 11 => ⟨S4x100x1, .f32⟩
  | 12 => ⟨S4x100x1, .f32⟩
  | 13 => ⟨S4x100x1, .f32⟩
  | 14 => ⟨S4x100x256, .f32⟩
  | 15 => ⟨S4x100x256, .f32⟩
  | 16 => ⟨S1x1x256, .f32⟩
  | 17 => ⟨S4x100x256, .f32⟩
  | 18 => ⟨S4x100x256, .f32⟩
  | 19 => ⟨S1x1x256, .f32⟩
  | 20 => ⟨S4x100x256, .f32⟩
  | 21 => ⟨S4x100x256, .f32⟩
  | 22 => ⟨S_, .i32⟩
  | 23 => ⟨S_, .i32⟩
  | 24 => ⟨S_, .f32⟩
  | 25 => ⟨S4x100, .f32⟩
  | 26 => ⟨S4x100x1, .f32⟩
  | 27 => ⟨S_, .f32⟩
  | 28 => ⟨S4x100x1, .f32⟩
  | 29 => ⟨S4x100x1, .f32⟩
  | 30 => ⟨S4x100x256, .f32⟩
  | 31 => ⟨S4x100x256, .f32⟩
  | 32 => ⟨S4x100x256, .f32⟩
  | 33 => ⟨S_, .f32⟩
  | 34 => ⟨S4x100, .f32⟩
  | 35 => ⟨S4x100x1, .f32⟩
  | 36 => ⟨S_, .f32⟩
  | 37 => ⟨S4x100x1, .f32⟩
  | 38 => ⟨S4x100x1, .f32⟩
  | 39 => ⟨S4x100x256, .f32⟩
  | 40 => ⟨S4x100x256, .f32⟩
  | 41 => ⟨S_, .f32⟩
  | 42 => ⟨S4x100x1, .f32⟩
  | 43 => ⟨S4x100x1, .f32⟩
  | 44 => ⟨S4x100x1, .f32⟩
  | 45 => ⟨S4x100x256, .f32⟩
  | 46 => ⟨S4x100x256, .f32⟩
  | 47 => ⟨S1x1x256, .f32⟩
  | 48 => ⟨S4x100x256, .f32⟩
  | 49 => ⟨S4x100x256, .f32⟩
  | 50 => ⟨S1x1x256, .f32⟩
  | 51 => ⟨S4x100x256, .f32⟩
  | 52 => ⟨S4x100x256, .f32⟩
  | 53 => ⟨S256x256, .f32⟩
  | 54 => ⟨S4x100x256, .f32⟩
  | 55 => ⟨S1x1x256, .f32⟩
  | 56 => ⟨S4x100x256, .f32⟩
  | 57 => ⟨S4x100x256, .f32⟩
  | 58 => ⟨S_, .f32⟩
  | 59 => ⟨S4x100x256, .f32⟩
  | 60 => ⟨S4x100x256, .f32⟩
  | 61 => ⟨S256x19, .f32⟩
  | 62 => ⟨S4x100x19, .f32⟩
  | 63 => ⟨S1x1x19, .f32⟩
  | 64 => ⟨S4x100x19, .f32⟩
  | 65 => ⟨S4x100x19, .f32⟩
  | 66 => ⟨S2x2x100x256, .f32⟩
  | 67 => ⟨S2x2x100x19, .f32⟩
  | _ => ⟨S4x25000x256, .bf16⟩

abbrev hbmTy (i : Nat) : BufTy := match i / 128 with
  | 0 => hbmTy0_0 i
  | 1 => hbmTy0_1 i
  | 2 => hbmTy0_2 i
  | _ => ⟨S4x25000x256, .bf16⟩

abbrev bufTy : (tb : Table) → Fin (tcTables nBuf tb) → BufTy
  | .hbm, ⟨i, _⟩ => hbmTy i
  | _, _ => ⟨S4x25000x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_c : Ref sig .tc := ⟨.hbm, 26, rfl⟩
abbrev main_v2_0 : Ref sig .tc := ⟨.hbm, 27, rfl⟩
abbrev main_v2_1 : Ref sig .tc := ⟨.hbm, 28, rfl⟩
abbrev main_v2_2 : Ref sig .tc := ⟨.hbm, 29, rfl⟩
abbrev main_v2_3 : Ref sig .tc := ⟨.hbm, 30, rfl⟩
abbrev main_v2_4 : Ref sig .tc := ⟨.hbm, 31, rfl⟩
abbrev main_v2_5 : Ref sig .tc := ⟨.hbm, 32, rfl⟩
abbrev main_v2_6 : Ref sig .tc := ⟨.hbm, 33, rfl⟩
abbrev main_v2_7 : Ref sig .tc := ⟨.hbm, 34, rfl⟩
abbrev main_v2_8 : Ref sig .tc := ⟨.hbm, 35, rfl⟩
abbrev main_v2_9 : Ref sig .tc := ⟨.hbm, 36, rfl⟩
abbrev main_v2_10 : Ref sig .tc := ⟨.hbm, 37, rfl⟩
abbrev main_v2_11 : Ref sig .tc := ⟨.hbm, 38, rfl⟩
abbrev main_v2_12 : Ref sig .tc := ⟨.hbm, 39, rfl⟩
abbrev main_v2_13 : Ref sig .tc := ⟨.hbm, 40, rfl⟩
abbrev main_v2_14 : Ref sig .tc := ⟨.hbm, 41, rfl⟩
abbrev main_v2_15 : Ref sig .tc := ⟨.hbm, 42, rfl⟩
abbrev main_v2_16 : Ref sig .tc := ⟨.hbm, 43, rfl⟩
abbrev main_v2_17 : Ref sig .tc := ⟨.hbm, 44, rfl⟩
abbrev main_v2_18 : Ref sig .tc := ⟨.hbm, 45, rfl⟩
abbrev main_while0c_c_22 : Ref sig .tc := ⟨.hbm, 46, rfl⟩
abbrev main_while0c_v40 : Ref sig .tc := ⟨.hbm, 47, rfl⟩
abbrev main_while0b_call0_c : Ref sig .tc := ⟨.hbm, 48, rfl⟩
abbrev main_while0b_call0_c_0 : Ref sig .tc := ⟨.hbm, 49, rfl⟩
abbrev main_while0b_call0_v0 : Ref sig .tc := ⟨.hbm, 50, rfl⟩
abbrev main_while0b_v40 : Ref sig .tc := ⟨.hbm, 51, rfl⟩
abbrev main_while0b_call1_c : Ref sig .tc := ⟨.hbm, 52, rfl⟩
abbrev main_while0b_call1_v0 : Ref sig .tc := ⟨.hbm, 53, rfl⟩
abbrev main_while0b_v41 : Ref sig .tc := ⟨.hbm, 54, rfl⟩
abbrev main_while0b_call2_c : Ref sig .tc := ⟨.hbm, 55, rfl⟩
abbrev main_while0b_call2_c_0 : Ref sig .tc := ⟨.hbm, 56, rfl⟩
abbrev main_while0b_call2_v0 : Ref sig .tc := ⟨.hbm, 57, rfl⟩
abbrev main_while0b_v42 : Ref sig .tc := ⟨.hbm, 58, rfl⟩
abbrev main_while0b_call3_c : Ref sig .tc := ⟨.hbm, 59, rfl⟩
abbrev main_while0b_call3_v0 : Ref sig .tc := ⟨.hbm, 60, rfl⟩
abbrev main_while0b_v43 : Ref sig .tc := ⟨.hbm, 61, rfl⟩
abbrev main_while0b_call4_c : Ref sig .tc := ⟨.hbm, 62, rfl⟩
abbrev main_while0b_call4_c_0 : Ref sig .tc := ⟨.hbm, 63, rfl⟩
abbrev main_while0b_call4_v0 : Ref sig .tc := ⟨.hbm, 64, rfl⟩
abbrev main_while0b_v44 : Ref sig .tc := ⟨.hbm, 65, rfl⟩
abbrev main_while0b_call5_c : Ref sig .tc := ⟨.hbm, 66, rfl⟩
abbrev main_while0b_call5_v0 : Ref sig .tc := ⟨.hbm, 67, rfl⟩
abbrev main_while0b_v45 : Ref sig .tc := ⟨.hbm, 68, rfl⟩
abbrev main_while0b_call6_c : Ref sig .tc := ⟨.hbm, 69, rfl⟩
abbrev main_while0b_call6_c_0 : Ref sig .tc := ⟨.hbm, 70, rfl⟩
abbrev main_while0b_call6_v0 : Ref sig .tc := ⟨.hbm, 71, rfl⟩
abbrev main_while0b_v46 : Ref sig .tc := ⟨.hbm, 72, rfl⟩
abbrev main_while0b_call7_c : Ref sig .tc := ⟨.hbm, 73, rfl⟩
abbrev main_while0b_call7_v0 : Ref sig .tc := ⟨.hbm, 74, rfl⟩
abbrev main_while0b_v47 : Ref sig .tc := ⟨.hbm, 75, rfl⟩
abbrev main_while0b_call8_c : Ref sig .tc := ⟨.hbm, 76, rfl⟩
abbrev main_while0b_call8_v0 : Ref sig .tc := ⟨.hbm, 77, rfl⟩
abbrev main_while0b_v48 : Ref sig .tc := ⟨.hbm, 78, rfl⟩
abbrev main_while0b_call9_c : Ref sig .tc := ⟨.hbm, 79, rfl⟩
abbrev main_while0b_call9_v0 : Ref sig .tc := ⟨.hbm, 80, rfl⟩
abbrev main_while0b_v49 : Ref sig .tc := ⟨.hbm, 81, rfl⟩
abbrev main_while0b_call10_c : Ref sig .tc := ⟨.hbm, 82, rfl⟩
abbrev main_while0b_call10_c_0 : Ref sig .tc := ⟨.hbm, 83, rfl⟩
abbrev main_while0b_call10_v0 : Ref sig .tc := ⟨.hbm, 84, rfl⟩
abbrev main_while0b_v50 : Ref sig .tc := ⟨.hbm, 85, rfl⟩
abbrev main_while0b_call11_c : Ref sig .tc := ⟨.hbm, 86, rfl⟩
abbrev main_while0b_call11_v0 : Ref sig .tc := ⟨.hbm, 87, rfl⟩
abbrev main_while0b_v51 : Ref sig .tc := ⟨.hbm, 88, rfl⟩
abbrev main_while0b_call12_c : Ref sig .tc := ⟨.hbm, 89, rfl⟩
abbrev main_while0b_call12_c_0 : Ref sig .tc := ⟨.hbm, 90, rfl⟩
abbrev main_while0b_call12_v0 : Ref sig .tc := ⟨.hbm, 91, rfl⟩
abbrev main_while0b_v52 : Ref sig .tc := ⟨.hbm, 92, rfl⟩
abbrev main_while0b_call13_c : Ref sig .tc := ⟨.hbm, 93, rfl⟩
abbrev main_while0b_call13_v0 : Ref sig .tc := ⟨.hbm, 94, rfl⟩
abbrev main_while0b_v53 : Ref sig .tc := ⟨.hbm, 95, rfl⟩
abbrev main_while0b_call14_c : Ref sig .tc := ⟨.hbm, 96, rfl⟩
abbrev main_while0b_call14_v0 : Ref sig .tc := ⟨.hbm, 97, rfl⟩
abbrev main_while0b_v54 : Ref sig .tc := ⟨.hbm, 98, rfl⟩
abbrev main_while0b_call15_c : Ref sig .tc := ⟨.hbm, 99, rfl⟩
abbrev main_while0b_call15_v0 : Ref sig .tc := ⟨.hbm, 100, rfl⟩
abbrev main_while0b_v55 : Ref sig .tc := ⟨.hbm, 101, rfl⟩
abbrev main_while0b_v56 : Ref sig .tc := ⟨.hbm, 102, rfl⟩
abbrev main_while0b_v57 : Ref sig .tc := ⟨.hbm, 103, rfl⟩
abbrev main_while0b_v58 : Ref sig .tc := ⟨.hbm, 104, rfl⟩
abbrev main_while0b_v59 : Ref sig .tc := ⟨.hbm, 105, rfl⟩
abbrev main_while0b_v60 : Ref sig .tc := ⟨.hbm, 106, rfl⟩
abbrev main_while0b_v61 : Ref sig .tc := ⟨.hbm, 107, rfl⟩
abbrev main_while0b_v62 : Ref sig .tc := ⟨.hbm, 108, rfl⟩
abbrev main_while0b_v63 : Ref sig .tc := ⟨.hbm, 109, rfl⟩
abbrev main_while0b_v64 : Ref sig .tc := ⟨.hbm, 110, rfl⟩
abbrev main_while0b_v65 : Ref sig .tc := ⟨.hbm, 111, rfl⟩
abbrev main_while0b_v66 : Ref sig .tc := ⟨.hbm, 112, rfl⟩
abbrev main_while0b_v67 : Ref sig .tc := ⟨.hbm, 113, rfl⟩
abbrev main_while0b_v68 : Ref sig .tc := ⟨.hbm, 114, rfl⟩
abbrev main_while0b_v69 : Ref sig .tc := ⟨.hbm, 115, rfl⟩
abbrev main_while0b_v70 : Ref sig .tc := ⟨.hbm, 116, rfl⟩
abbrev main_while0b_v71 : Ref sig .tc := ⟨.hbm, 117, rfl⟩
abbrev main_while0b_v72 : Ref sig .tc := ⟨.hbm, 118, rfl⟩
abbrev main_while0b_v73 : Ref sig .tc := ⟨.hbm, 119, rfl⟩
abbrev main_while0b_v74 : Ref sig .tc := ⟨.hbm, 120, rfl⟩
abbrev main_while0b_v75 : Ref sig .tc := ⟨.hbm, 121, rfl⟩
abbrev main_while0b_v76 : Ref sig .tc := ⟨.hbm, 122, rfl⟩
abbrev main_while0b_v77 : Ref sig .tc := ⟨.hbm, 123, rfl⟩
abbrev main_while0b_v78 : Ref sig .tc := ⟨.hbm, 124, rfl⟩
abbrev main_while0b_v79 : Ref sig .tc := ⟨.hbm, 125, rfl⟩
abbrev main_while0b_v80 : Ref sig .tc := ⟨.hbm, 126, rfl⟩
abbrev main_while0b_cst_22 : Ref sig .tc := ⟨.hbm, 127, rfl⟩
abbrev main_while0b_v81 : Ref sig .tc := ⟨.hbm, 128, rfl⟩
abbrev main_while0b_v82 : Ref sig .tc := ⟨.hbm, 129, rfl⟩
abbrev main_while0b_v83 : Ref sig .tc := ⟨.hbm, 130, rfl⟩
abbrev main_while0b_cst_23 : Ref sig .tc := ⟨.hbm, 131, rfl⟩
abbrev main_while0b_v84 : Ref sig .tc := ⟨.hbm, 132, rfl⟩
abbrev main_while0b_cst_24 : Ref sig .tc := ⟨.hbm, 133, rfl⟩
abbrev main_while0b_v85 : Ref sig .tc := ⟨.hbm, 134, rfl⟩
abbrev main_while0b_v86 : Ref sig .tc := ⟨.hbm, 135, rfl⟩
abbrev main_while0b_v87 : Ref sig .tc := ⟨.hbm, 136, rfl⟩
abbrev main_while0b_v88 : Ref sig .tc := ⟨.hbm, 137, rfl⟩
abbrev main_while0b_v89 : Ref sig .tc := ⟨.hbm, 138, rfl⟩
abbrev main_while0b_v90 : Ref sig .tc := ⟨.hbm, 139, rfl⟩
abbrev main_while0b_cst_25 : Ref sig .tc := ⟨.hbm, 140, rfl⟩
abbrev main_while0b_v91 : Ref sig .tc := ⟨.hbm, 141, rfl⟩
abbrev main_while0b_v92 : Ref sig .tc := ⟨.hbm, 142, rfl⟩
abbrev main_while0b_v93 : Ref sig .tc := ⟨.hbm, 143, rfl⟩
abbrev main_while0b_v94 : Ref sig .tc := ⟨.hbm, 144, rfl⟩
abbrev main_while0b_v95 : Ref sig .tc := ⟨.hbm, 145, rfl⟩
abbrev main_while0b_v96 : Ref sig .tc := ⟨.hbm, 146, rfl⟩
abbrev main_while0b_v97 : Ref sig .tc := ⟨.hbm, 147, rfl⟩
abbrev main_while0b_v98 : Ref sig .tc := ⟨.hbm, 148, rfl⟩
abbrev main_while0b_v99 : Ref sig .tc := ⟨.hbm, 149, rfl⟩
abbrev main_while0b_v100 : Ref sig .tc := ⟨.hbm, 150, rfl⟩
abbrev main_while0b_v101 : Ref sig .tc := ⟨.hbm, 151, rfl⟩
abbrev main_while0b_v102 : Ref sig .tc := ⟨.hbm, 152, rfl⟩
abbrev main_while0b_v103 : Ref sig .tc := ⟨.hbm, 153, rfl⟩
abbrev main_while0b_v104 : Ref sig .tc := ⟨.hbm, 154, rfl⟩
abbrev main_while0b_v105 : Ref sig .tc := ⟨.hbm, 155, rfl⟩
abbrev main_while0b_v106 : Ref sig .tc := ⟨.hbm, 156, rfl⟩
abbrev main_while0b_v107 : Ref sig .tc := ⟨.hbm, 157, rfl⟩
abbrev main_while0b_v108 : Ref sig .tc := ⟨.hbm, 158, rfl⟩
abbrev main_while0b_v109 : Ref sig .tc := ⟨.hbm, 159, rfl⟩
abbrev main_while0b_v110 : Ref sig .tc := ⟨.hbm, 160, rfl⟩
abbrev main_while0b_v111 : Ref sig .tc := ⟨.hbm, 161, rfl⟩
abbrev main_while0b_v112 : Ref sig .tc := ⟨.hbm, 162, rfl⟩
abbrev main_while0b_v113 : Ref sig .tc := ⟨.hbm, 163, rfl⟩
abbrev main_while0b_v114 : Ref sig .tc := ⟨.hbm, 164, rfl⟩
abbrev main_while0b_v115 : Ref sig .tc := ⟨.hbm, 165, rfl⟩
abbrev main_while0b_v116 : Ref sig .tc := ⟨.hbm, 166, rfl⟩
abbrev main_while0b_v117 : Ref sig .tc := ⟨.hbm, 167, rfl⟩
abbrev main_while0b_v118 : Ref sig .tc := ⟨.hbm, 168, rfl⟩
abbrev main_while0b_v119 : Ref sig .tc := ⟨.hbm, 169, rfl⟩
abbrev main_while0b_v120 : Ref sig .tc := ⟨.hbm, 170, rfl⟩
abbrev main_while0b_v121 : Ref sig .tc := ⟨.hbm, 171, rfl⟩
abbrev main_while0b_v122 : Ref sig .tc := ⟨.hbm, 172, rfl⟩
abbrev main_while0b_v123 : Ref sig .tc := ⟨.hbm, 173, rfl⟩
abbrev main_while0b_v124 : Ref sig .tc := ⟨.hbm, 174, rfl⟩
abbrev main_while0b_v125 : Ref sig .tc := ⟨.hbm, 175, rfl⟩
abbrev main_while0b_v126 : Ref sig .tc := ⟨.hbm, 176, rfl⟩
abbrev main_while0b_v127 : Ref sig .tc := ⟨.hbm, 177, rfl⟩
abbrev main_while0b_v128 : Ref sig .tc := ⟨.hbm, 178, rfl⟩
abbrev main_while0b_cst_26 : Ref sig .tc := ⟨.hbm, 179, rfl⟩
abbrev main_while0b_v129 : Ref sig .tc := ⟨.hbm, 180, rfl⟩
abbrev main_while0b_v130 : Ref sig .tc := ⟨.hbm, 181, rfl⟩
abbrev main_while0b_v131 : Ref sig .tc := ⟨.hbm, 182, rfl⟩
abbrev main_while0b_cst_27 : Ref sig .tc := ⟨.hbm, 183, rfl⟩
abbrev main_while0b_v132 : Ref sig .tc := ⟨.hbm, 184, rfl⟩
abbrev main_while0b_cst_28 : Ref sig .tc := ⟨.hbm, 185, rfl⟩
abbrev main_while0b_v133 : Ref sig .tc := ⟨.hbm, 186, rfl⟩
abbrev main_while0b_v134 : Ref sig .tc := ⟨.hbm, 187, rfl⟩
abbrev main_while0b_v135 : Ref sig .tc := ⟨.hbm, 188, rfl⟩
abbrev main_while0b_v136 : Ref sig .tc := ⟨.hbm, 189, rfl⟩
abbrev main_while0b_v137 : Ref sig .tc := ⟨.hbm, 190, rfl⟩
abbrev main_while0b_v138 : Ref sig .tc := ⟨.hbm, 191, rfl⟩
abbrev main_while0b_cst_29 : Ref sig .tc := ⟨.hbm, 192, rfl⟩
abbrev main_while0b_v139 : Ref sig .tc := ⟨.hbm, 193, rfl⟩
abbrev main_while0b_v140 : Ref sig .tc := ⟨.hbm, 194, rfl⟩
abbrev main_while0b_v141 : Ref sig .tc := ⟨.hbm, 195, rfl⟩
abbrev main_while0b_v142 : Ref sig .tc := ⟨.hbm, 196, rfl⟩
abbrev main_while0b_v143 : Ref sig .tc := ⟨.hbm, 197, rfl⟩
abbrev main_while0b_v144 : Ref sig .tc := ⟨.hbm, 198, rfl⟩
abbrev main_while0b_v145 : Ref sig .tc := ⟨.hbm, 199, rfl⟩
abbrev main_while0b_v146 : Ref sig .tc := ⟨.hbm, 200, rfl⟩
abbrev main_while0b_v147 : Ref sig .tc := ⟨.hbm, 201, rfl⟩
abbrev main_while0b_v148 : Ref sig .tc := ⟨.hbm, 202, rfl⟩
abbrev main_while0b_v149 : Ref sig .tc := ⟨.hbm, 203, rfl⟩
abbrev main_while0b_v150 : Ref sig .tc := ⟨.hbm, 204, rfl⟩
abbrev main_while0b_v151 : Ref sig .tc := ⟨.hbm, 205, rfl⟩
abbrev main_while0b_cst_30 : Ref sig .tc := ⟨.hbm, 206, rfl⟩
abbrev main_while0b_v152 : Ref sig .tc := ⟨.hbm, 207, rfl⟩
abbrev main_while0b_v153 : Ref sig .tc := ⟨.hbm, 208, rfl⟩
abbrev main_while0b_cst_31 : Ref sig .tc := ⟨.hbm, 209, rfl⟩
abbrev main_while0b_v154 : Ref sig .tc := ⟨.hbm, 210, rfl⟩
abbrev main_while0b_v155 : Ref sig .tc := ⟨.hbm, 211, rfl⟩
abbrev main_while0b_v156 : Ref sig .tc := ⟨.hbm, 212, rfl⟩
abbrev main_while0b_v157 : Ref sig .tc := ⟨.hbm, 213, rfl⟩
abbrev main_while0b_v158 : Ref sig .tc := ⟨.hbm, 214, rfl⟩
abbrev main_while0b_cst_32 : Ref sig .tc := ⟨.hbm, 215, rfl⟩
abbrev main_while0b_v159 : Ref sig .tc := ⟨.hbm, 216, rfl⟩
abbrev main_while0b_v160 : Ref sig .tc := ⟨.hbm, 217, rfl⟩
abbrev main_while0b_cst_33 : Ref sig .tc := ⟨.hbm, 218, rfl⟩
abbrev main_while0b_v161 : Ref sig .tc := ⟨.hbm, 219, rfl⟩
abbrev main_while0b_v162 : Ref sig .tc := ⟨.hbm, 220, rfl⟩
abbrev main_while0b_v163 : Ref sig .tc := ⟨.hbm, 221, rfl⟩
abbrev main_while0b_v164 : Ref sig .tc := ⟨.hbm, 222, rfl⟩
abbrev main_while0b_cst_34 : Ref sig .tc := ⟨.hbm, 223, rfl⟩
abbrev main_while0b_v165 : Ref sig .tc := ⟨.hbm, 224, rfl⟩
abbrev main_while0b_v166 : Ref sig .tc := ⟨.hbm, 225, rfl⟩
abbrev main_while0b_v167 : Ref sig .tc := ⟨.hbm, 226, rfl⟩
abbrev main_while0b_v168 : Ref sig .tc := ⟨.hbm, 227, rfl⟩
abbrev main_while0b_v169 : Ref sig .tc := ⟨.hbm, 228, rfl⟩
abbrev main_while0b_v170 : Ref sig .tc := ⟨.hbm, 229, rfl⟩
abbrev main_while0b_v171 : Ref sig .tc := ⟨.hbm, 230, rfl⟩
abbrev main_while0b_v172 : Ref sig .tc := ⟨.hbm, 231, rfl⟩
abbrev main_while0b_v173 : Ref sig .tc := ⟨.hbm, 232, rfl⟩
abbrev main_while0b_v174 : Ref sig .tc := ⟨.hbm, 233, rfl⟩
abbrev main_while0b_v175 : Ref sig .tc := ⟨.hbm, 234, rfl⟩
abbrev main_while0b_v176 : Ref sig .tc := ⟨.hbm, 235, rfl⟩
abbrev main_while0b_v177 : Ref sig .tc := ⟨.hbm, 236, rfl⟩
abbrev main_while0b_v178 : Ref sig .tc := ⟨.hbm, 237, rfl⟩
abbrev main_while0b_v179 : Ref sig .tc := ⟨.hbm, 238, rfl⟩
abbrev main_while0b_v180 : Ref sig .tc := ⟨.hbm, 239, rfl⟩
abbrev main_while0b_call16_cst : Ref sig .tc := ⟨.hbm, 240, rfl⟩
abbrev main_while0b_call16_v0 : Ref sig .tc := ⟨.hbm, 241, rfl⟩
abbrev main_while0b_v181 : Ref sig .tc := ⟨.hbm, 242, rfl⟩
abbrev main_while0b_v182 : Ref sig .tc := ⟨.hbm, 243, rfl⟩
abbrev main_while0b_v183 : Ref sig .tc := ⟨.hbm, 244, rfl⟩
abbrev main_while0b_v184 : Ref sig .tc := ⟨.hbm, 245, rfl⟩
abbrev main_while0b_v185 : Ref sig .tc := ⟨.hbm, 246, rfl⟩
abbrev main_while0b_v186 : Ref sig .tc := ⟨.hbm, 247, rfl⟩
abbrev main_while0b_v187 : Ref sig .tc := ⟨.hbm, 248, rfl⟩
abbrev main_while0b_cst_35 : Ref sig .tc := ⟨.hbm, 249, rfl⟩
abbrev main_while0b_v188 : Ref sig .tc := ⟨.hbm, 250, rfl⟩
abbrev main_while0b_v189 : Ref sig .tc := ⟨.hbm, 251, rfl⟩
abbrev main_while0b_cst_36 : Ref sig .tc := ⟨.hbm, 252, rfl⟩
abbrev main_while0b_v190 : Ref sig .tc := ⟨.hbm, 253, rfl⟩
abbrev main_while0b_v191 : Ref sig .tc := ⟨.hbm, 254, rfl⟩
abbrev main_while0b_v192 : Ref sig .tc := ⟨.hbm, 255, rfl⟩
abbrev main_while0b_v193 : Ref sig .tc := ⟨.hbm, 256, rfl⟩
abbrev main_while0b_v194 : Ref sig .tc := ⟨.hbm, 257, rfl⟩
abbrev main_while0b_cst_37 : Ref sig .tc := ⟨.hbm, 258, rfl⟩
abbrev main_while0b_v195 : Ref sig .tc := ⟨.hbm, 259, rfl⟩
abbrev main_while0b_v196 : Ref sig .tc := ⟨.hbm, 260, rfl⟩
abbrev main_while0b_cst_38 : Ref sig .tc := ⟨.hbm, 261, rfl⟩
abbrev main_while0b_v197 : Ref sig .tc := ⟨.hbm, 262, rfl⟩
abbrev main_while0b_v198 : Ref sig .tc := ⟨.hbm, 263, rfl⟩
abbrev main_while0b_v199 : Ref sig .tc := ⟨.hbm, 264, rfl⟩
abbrev main_while0b_v200 : Ref sig .tc := ⟨.hbm, 265, rfl⟩
abbrev main_while0b_cst_39 : Ref sig .tc := ⟨.hbm, 266, rfl⟩
abbrev main_while0b_v201 : Ref sig .tc := ⟨.hbm, 267, rfl⟩
abbrev main_while0b_v202 : Ref sig .tc := ⟨.hbm, 268, rfl⟩
abbrev main_while0b_v203 : Ref sig .tc := ⟨.hbm, 269, rfl⟩
abbrev main_while0b_v204 : Ref sig .tc := ⟨.hbm, 270, rfl⟩
abbrev main_while0b_v205 : Ref sig .tc := ⟨.hbm, 271, rfl⟩
abbrev main_while0b_v206 : Ref sig .tc := ⟨.hbm, 272, rfl⟩
abbrev main_while0b_v207 : Ref sig .tc := ⟨.hbm, 273, rfl⟩
abbrev main_while0b_v208 : Ref sig .tc := ⟨.hbm, 274, rfl⟩
abbrev main_while0b_v209 : Ref sig .tc := ⟨.hbm, 275, rfl⟩
abbrev main_while0b_v210 : Ref sig .tc := ⟨.hbm, 276, rfl⟩
abbrev main_while0b_v211 : Ref sig .tc := ⟨.hbm, 277, rfl⟩
abbrev main_while0b_c_40 : Ref sig .tc := ⟨.hbm, 278, rfl⟩
abbrev main_while0b_v212 : Ref sig .tc := ⟨.hbm, 279, rfl⟩
abbrev main_cst : Ref sig .tc := ⟨.hbm, 280, rfl⟩
abbrev main_v3 : Ref sig .tc := ⟨.hbm, 281, rfl⟩
abbrev main_v4 : Ref sig .tc := ⟨.hbm, 282, rfl⟩
abbrev main_cst_0 : Ref sig .tc := ⟨.hbm, 283, rfl⟩
abbrev main_v5 : Ref sig .tc := ⟨.hbm, 284, rfl⟩
abbrev main_v6 : Ref sig .tc := ⟨.hbm, 285, rfl⟩
abbrev main_v7 : Ref sig .tc := ⟨.hbm, 286, rfl⟩
abbrev main_v8 : Ref sig .tc := ⟨.hbm, 287, rfl⟩
abbrev main_v9 : Ref sig .tc := ⟨.hbm, 288, rfl⟩
abbrev main_cst_1 : Ref sig .tc := ⟨.hbm, 289, rfl⟩
abbrev main_v10 : Ref sig .tc := ⟨.hbm, 290, rfl⟩
abbrev main_v11 : Ref sig .tc := ⟨.hbm, 291, rfl⟩
abbrev main_cst_2 : Ref sig .tc := ⟨.hbm, 292, rfl⟩
abbrev main_v12 : Ref sig .tc := ⟨.hbm, 293, rfl⟩
abbrev main_v13 : Ref sig .tc := ⟨.hbm, 294, rfl⟩
abbrev main_v14 : Ref sig .tc := ⟨.hbm, 295, rfl⟩
abbrev main_v15 : Ref sig .tc := ⟨.hbm, 296, rfl⟩
abbrev main_cst_3 : Ref sig .tc := ⟨.hbm, 297, rfl⟩
abbrev main_v16 : Ref sig .tc := ⟨.hbm, 298, rfl⟩
abbrev main_v17 : Ref sig .tc := ⟨.hbm, 299, rfl⟩
abbrev main_v18 : Ref sig .tc := ⟨.hbm, 300, rfl⟩
abbrev main_v19 : Ref sig .tc := ⟨.hbm, 301, rfl⟩
abbrev main_v20 : Ref sig .tc := ⟨.hbm, 302, rfl⟩
abbrev main_v21 : Ref sig .tc := ⟨.hbm, 303, rfl⟩
abbrev main_v22 : Ref sig .tc := ⟨.hbm, 304, rfl⟩
abbrev main_v23 : Ref sig .tc := ⟨.hbm, 305, rfl⟩
abbrev main_v24 : Ref sig .tc := ⟨.hbm, 306, rfl⟩
abbrev main_v25 : Ref sig .tc := ⟨.hbm, 307, rfl⟩
abbrev main_v26 : Ref sig .tc := ⟨.hbm, 308, rfl⟩
abbrev main_v27 : Ref sig .tc := ⟨.hbm, 309, rfl⟩
abbrev main_v28 : Ref sig .tc := ⟨.hbm, 310, rfl⟩
abbrev main_v29 : Ref sig .tc := ⟨.hbm, 311, rfl⟩
abbrev main_v30 : Ref sig .tc := ⟨.hbm, 312, rfl⟩
abbrev main_v31 : Ref sig .tc := ⟨.hbm, 313, rfl⟩
abbrev main_call17_cst : Ref sig .tc := ⟨.hbm, 314, rfl⟩
abbrev main_call17_v0 : Ref sig .tc := ⟨.hbm, 315, rfl⟩
abbrev main_v32 : Ref sig .tc := ⟨.hbm, 316, rfl⟩
abbrev main_v33 : Ref sig .tc := ⟨.hbm, 317, rfl⟩
abbrev main_v34 : Ref sig .tc := ⟨.hbm, 318, rfl⟩
abbrev main_v35 : Ref sig .tc := ⟨.hbm, 319, rfl⟩
abbrev main_v36 : Ref sig .tc := ⟨.hbm, 320, rfl⟩
abbrev main_v37 : Ref sig .tc := ⟨.hbm, 321, rfl⟩
abbrev main_v38 : Ref sig .tc := ⟨.hbm, 322, rfl⟩
abbrev main_v39 : Ref sig .tc := ⟨.hbm, 323, rfl⟩

abbrev nD : Nat := 1
abbrev τ : Topo := Topo.v7x

variable {F : FTy → Type} [FloatOps F]

abbrev main_while0_count : Scf.Loop 32 := ⟨0#32, 6#32, 1#32⟩
-- ==== Proof.Frames.lean ====
/- The three frames, the semaphores at zero, and the step from the kernel to its reading with the named constant. -/
module

public import proofs.«01_k».proof.Defs
public import proofs.«01_k».proof.Proof.Gen.Own.Kernel.Frame
public import proofs.«01_k».proof.Proof.Gen.Own.KernelIdeal.Frame
public import proofs.«01_k».proof.Proof.Gen.ReferenceIdeal.Run
public import Idealize.ShloMosaic.Lib.Quiescent

@[expose] public section

noncomputable section

namespace Cert.Frames

open Idealize.ShloMosaic Idealize.ShloMosaic.TcCoe Idealize.SL.Sem

theorem kernel : Cert.quiescent_Kernel := fun m ρ _ => Cert.Kernel.Gen.frame m ρ

theorem kernelIdeal : Cert.quiescent_KernelIdeal := fun m ρ _ => Cert.KernelIdeal.Gen.frame m ρ

theorem referenceIdeal : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "inv_sqrt_dh" .f32 0x3E3504F3#32 (((Real.sqrt 32)⁻¹ : ℝ) : EReal) rfl

end Cert.Frames
-- ==== Proof.Plain.lean ====
/-
  The decoder over the real numbers, on plain matrices `Fin m → Fin n → ℝ`: products with a transposed weight, the
  layer norm, attention as a weighted mean, one decoder layer, the class head — and the facts about them both programs'
  proofs use: a weighted mean `Σ eˢ v / Σ eˢ` does not move when the scores are shifted, moves by `b` when the values do,
  and is reached by partial sums over chunks of rows.
-/
module

public import Idealize.ShloMosaic.PureOps.Ideal

@[expose] public section

noncomputable section

namespace Cert.Plain

open Finset

/-- A real matrix. -/
abbrev Mat (m n : ℕ) := Fin m → Fin n → ℝ

variable {m n k : ℕ}

/-- `X Wᵀ`: a row of `X` against a row of `W`. -/
def mulT (X : Mat m k) (W : Mat n k) : Mat m n := fun i j => ∑ e, X i e * W j e

/-- `X Wᵀ + b`. -/
def affine (X : Mat m k) (W : Mat n k) (b : Fin n → ℝ) : Mat m n := fun i j => mulT X W i j + b j

/-- The entrywise sum. -/
def plus (X Y : Mat m n) : Mat m n := fun i j => X i j + Y i j

/-- The entrywise positive part. -/
def relu (X : Mat m n) : Mat m n := fun i j => max (X i j) 0

/-- Rows `256 a … 256 a + 255` of a stack of three weights. -/
def third (a : Fin 3) (W : Mat 768 n) : Mat 256 n := fun j => W ⟨256 * a.val + j.val, by omega⟩

/-- Entries `256 a … 256 a + 255` of a stack of three biases. -/
def thirdV (a : Fin 3) (b : Fin 768 → ℝ) : Fin 256 → ℝ := fun j => b ⟨256 * a.val + j.val, by omega⟩

/-- The real number the single-precision word of `1e-5` denotes. -/
def eps : ℝ := 10995116 / 2 ^ 40

theorem eps_pos : 0 < eps := by unfold eps; positivity

/-- The mean of a row. -/
def mean (x : Mat m 256) (i : Fin m) : ℝ := (∑ j, x i j) / 256

/-- The mean square of a row's distance from its mean. -/
def var (x : Mat m 256) (i : Fin m) : ℝ := (∑ j, (x i j - mean x i) * (x i j - mean x i)) / 256

theorem var_eps_pos (x : Mat m 256) (i : Fin m) : 0 < var x i + eps :=
  add_pos_of_nonneg_of_pos (div_nonneg (Finset.sum_nonneg fun _ _ => mul_self_nonneg _) (by norm_num)) eps_pos

/-- The layer norm of each row, with gain `g` and offset `b`. -/
def norm (x : Mat m 256) (g b : Fin 256 → ℝ) : Mat m 256 :=
  fun i j => (x i j - mean x i) / √(var x i + eps) * g j + b j

/-- Column `e` of head `h` among the 256 columns. -/
def col (h : Fin 8) (e : Fin 32) : Fin 256 := ⟨32 * h.val + e.val, by omega⟩

/-- The head a column belongs to. -/
def head (j : Fin 256) : Fin 8 := ⟨j.val / 32, by omega⟩

theorem head_col (h : Fin 8) (e : Fin 32) : head (col h e) = h := by
  apply Fin.ext; simp only [head, col]; omega

theorem col_head (j : Fin 256) : col (head j) ⟨j.val % 32, Nat.mod_lt _ (by norm_num)⟩ = j := by
  apply Fin.ext; simp only [head, col]; omega

/-! ## The weighted mean -/

/-- The mean of `v` weighted by `eˢ`. -/
def wmean (s v : Fin n → ℝ) : ℝ := (∑ t, Real.exp (s t) * v t) / ∑ t, Real.exp (s t)

theorem expsum_pos [NeZero n] (s : Fin n → ℝ) : 0 < ∑ t, Real.exp (s t) :=
  Finset.sum_pos (fun _ _ => Real.exp_pos _) ⟨0, mem_univ _⟩

/-- Shifting every score by one number leaves the weighted mean. -/
theorem wmean_shift (s v : Fin n → ℝ) (a : ℝ) : wmean (fun t => s t + a) v = wmean s v := by
  unfold wmean
  simp only [Real.exp_add]
  rw [show (∑ t, Real.exp (s t) * Real.exp a * v t) = (∑ t, Real.exp (s t) * v t) * Real.exp a by
    rw [Finset.sum_mul]; exact Finset.sum_congr rfl fun _ _ => by ring, ← Finset.sum_mul]
  exact mul_div_mul_right _ _ (Real.exp_pos a).ne'

/-- … and so does subtracting one. -/
theorem wmean_sub (s v : Fin n → ℝ) (a : ℝ) : wmean (fun t => s t - a) v = wmean s v := by
  simpa only [sub_eq_add_neg] using wmean_shift s v (-a)

/-- Adding one number to every value adds it to the weighted mean. -/
theorem wmean_add [NeZero n] (s v : Fin n → ℝ) (b : ℝ) : wmean s (fun t => v t + b) = wmean s v + b := by
  unfold wmean
  simp only [mul_add, Finset.sum_add_distrib, ← Finset.sum_mul]
  rw [add_div, mul_div_cancel_left₀ _ (expsum_pos s).ne']

/-- The weighted mean as the sum of the normalised weights times the values. -/
theorem sum_weights (s v : Fin n → ℝ) (a : ℝ) :
    ∑ t, Real.exp (s t - a) / (∑ u, Real.exp (s u - a)) * v t = wmean s v := by
  rw [← wmean_sub s v a]; unfold wmean
  rw [Finset.sum_div]; exact Finset.sum_congr rfl fun _ _ => by ring

/-! ## Partial sums over chunks of 5000 rows -/

/-- Row `r` of chunk `t` among the 25000 rows. -/
def row (t : ℕ) (r : Fin 5000) : Fin 25000 := ⟨(5000 * t + r.val) % 25000, Nat.mod_lt _ (by norm_num)⟩

/-- The sum of `f` over the rows of the first `c` chunks. -/
def part (f : Fin 25000 → ℝ) (c : ℕ) : ℝ := ∑ t ∈ range c, ∑ r, f (row t r)

theorem part_zero (f : Fin 25000 → ℝ) : part f 0 = 0 := rfl

theorem part_succ (f : Fin 25000 → ℝ) (c : ℕ) : part f (c + 1) = part f c + ∑ r, f (row c r) :=
  Finset.sum_range_succ _ _

theorem part_mul (f : Fin 25000 → ℝ) (c : ℕ) (a : ℝ) : part (fun t => f t * a) c = part f c * a := by
  simp only [part, ← Finset.sum_mul]

/-- Five chunks are all the rows. -/
theorem part_five (f : Fin 25000 → ℝ) : part f 5 = ∑ t, f t := by
  have h : (∑ p : Fin 5 × Fin 5000, f (finProdFinEquiv p)) = ∑ t : Fin 25000, f t :=
    Equiv.sum_comp (finProdFinEquiv (m := 5) (n := 5000)) f
  rw [← h, Fintype.sum_prod_type, part, Finset.sum_range]
  refine Finset.sum_congr rfl fun t _ => Finset.sum_congr rfl fun r _ => congrArg f (Fin.ext ?_)
  have := t.isLt; have := r.isLt
  simp only [row, finProdFinEquiv, Equiv.coe_fn_mk]
  omega

/-- The running sum when the reference point of the exponentials moves from `M` to `M'`. -/
theorem part_move (s v : Fin 25000 → ℝ) (c : ℕ) (M M' : ℝ) :
    part (fun t => Real.exp (s t - M) * v t) c * Real.exp (M - M') = part (fun t => Real.exp (s t - M') * v t) c := by
  rw [← part_mul]
  congr 1; funext t
  rw [show s t - M' = (s t - M) + (M - M') by ring, Real.exp_add]; ring

theorem part_move_one (s : Fin 25000 → ℝ) (c : ℕ) (M M' : ℝ) :
    part (fun t => Real.exp (s t - M)) c * Real.exp (M - M') = part (fun t => Real.exp (s t - M')) c := by
  simpa using part_move s (fun _ => 1) c M M'

/-! ## Attention -/

/-- The score of query row `i` against key row `t` in head `h`. -/
def score (Q : Mat m 256) (K : Mat n 256) (h : Fin 8) (i : Fin m) (t : Fin n) : ℝ :=
  (∑ e, Q i (col h e) * K t (col h e)) / √32

/-- Attention of every head, the heads side by side. -/
def attend (Q : Mat m 256) (K V : Mat n 256) : Mat m 256 :=
  fun i j => wmean (score Q K (head j) i) fun t => V t j

/-- Multi-head attention of the rows of `X` over the rows of `Y`. -/
def mha (X : Mat m 256) (Y : Mat n 256) (W : Mat 768 256) (b : Fin 768 → ℝ) (Wo : Mat 256 256) (bo : Fin 256 → ℝ) : Mat m 256 :=
  affine (attend (affine X (third 0 W) (thirdV 0 b)) (affine Y (third 1 W) (thirdV 1 b)) (affine Y (third 2 W) (thirdV 2 b))) Wo bo

/-- The weights of one layer. -/
structure Weights where
  caW : Mat 768 256
  caB : Fin 768 → ℝ
  caWo : Mat 256 256
  caBo : Fin 256 → ℝ
  saW : Mat 768 256
  saB : Fin 768 → ℝ
  saWo : Mat 256 256
  saBo : Fin 256 → ℝ
  saG : Fin 256 → ℝ
  saO : Fin 256 → ℝ
  w1 : Mat 1024 256
  b1 : Fin 1024 → ℝ
  w2 : Mat 256 1024
  b2 : Fin 256 → ℝ
  ffG : Fin 256 → ℝ
  ffO : Fin 256 → ℝ

/-- Self-attention with its residual and norm. -/
def selfPart (w : Weights) (q : Mat m 256) : Mat m 256 :=
  norm (plus (mha q q w.saW w.saB w.saWo w.saBo) q) w.saG w.saO

/-- The feed-forward block with its residual and norm. -/
def ffnPart (w : Weights) (q : Mat m 256) : Mat m 256 :=
  norm (plus (affine (relu (affine q w.w1 w.b1)) w.w2 w.b2) q) w.ffG w.ffO

/-- One decoder layer: cross-attention with its residual, then self-attention, then the feed-forward block. -/
def layer (w : Weights) (inst : Mat n 256) (q : Mat m 256) : Mat m 256 :=
  ffnPart w (selfPart w (plus (mha q inst w.caW w.caB w.caWo w.caBo) q))

/-- The queries after the first `l` layers. -/
def layers (w : ℕ → Weights) (inst : Mat n 256) (q : Mat m 256) : ℕ → Mat m 256
  | 0 => q
  | l + 1 => layer (w l) inst (layers w inst q l)

/-- A key bias shifts every score of a query row alike, a value bias is added after the mean. -/
theorem attend_bias [NeZero n] (Q : Mat m 256) (X : Mat n k) (Wk Wv : Mat 256 k) (bk bv : Fin 256 → ℝ) (i : Fin m) (j : Fin 256) :
    attend Q (affine X Wk bk) (affine X Wv bv) i j = attend Q (mulT X Wk) (mulT X Wv) i j + bv j := by
  unfold attend
  have hs : score Q (affine X Wk bk) (head j) i
      = fun t => score Q (mulT X Wk) (head j) i t + (∑ e, Q i (col (head j) e) * bk (col (head j) e)) / √32 := by
    funext t
    simp only [score, affine, mul_add, Finset.sum_add_distrib, add_div]
  rw [hs, wmean_shift]
  exact wmean_add _ _ _

end Cert.Plain
-- ==== Proof.Consts.lean ====
/-
  What the constants of the two programs denote over the extended reals, unfolded once: the literals 0, 1, 256, 32, the
  epsilon of the layer norm, the start value of the running maximum, −∞ and +∞, and the named scale `(√32)⁻¹`.
-/
module

public import proofs.«01_k».proof.Proof.Plain
public import proofs.«01_k».proof.Defs

@[expose] public section

noncomputable section

namespace Cert.Consts

open Idealize.ShloMosaic Cert.Plain

theorem f32_zero : Ideal.ofBits .f32 0x00000000#32 = ((0 : ℝ) : EReal) := by simp [Ideal.ofBits, Ideal.ieee]
theorem f32_one : Ideal.ofBits .f32 0x3F800000#32 = ((1 : ℝ) : EReal) := by
  simp [Ideal.ofBits, Ideal.ieee, -EReal.coe_mul]; norm_num
theorem f32_256 : Ideal.ofBits .f32 0x43800000#32 = ((256 : ℝ) : EReal) := by
  simp [Ideal.ofBits, Ideal.ieee, -EReal.coe_mul]; norm_num
theorem f32_32 : Ideal.ofBits .f32 0x42000000#32 = ((32 : ℝ) : EReal) := by
  simp [Ideal.ofBits, Ideal.ieee, -EReal.coe_mul]; norm_num
theorem f32_eps : Ideal.ofBits .f32 0x3727C5AC#32 = ((eps : ℝ) : EReal) := by
  simp [Ideal.ofBits, Ideal.ieee, -EReal.coe_mul, eps]; norm_num
theorem f32_bot : Ideal.ofBits .f32 0xFF800000#32 = ⊥ := by simp [Ideal.ofBits, Ideal.ieee]
theorem f32_top : Ideal.ofBits .f32 0x7F800000#32 = ⊤ := by simp [Ideal.ofBits, Ideal.ieee]

/-- The start value of the running maximum, a real number (which one does not matter). -/
def start : ℝ := (Ideal.ofBits .f32 0xF149F2CA#32).toReal

theorem f32_start : Ideal.ofBits .f32 0xF149F2CA#32 = ((start : ℝ) : EReal) := by
  unfold start; simp [Ideal.ofBits, Ideal.ieee, -EReal.coe_mul]

/-- The kernel's named scale. -/
theorem scale : Named.named (F := Ideal) Cert.KernelIdeal.κ "inv_sqrt_dh" (φ := .f32) 0x3E3504F3#32
    = (((√32)⁻¹ : ℝ) : EReal) :=
  IdealRules.named_const.ideal_named_scalar _ _ _ _ rfl

end Cert.Consts
-- ==== Proof.Vec.lean ====
/-
  The vector operations of both programs on arrays of REAL numbers: `e1 … e5` read a real function as an array over the
  extended reals, and each operation of the programs, applied to such arrays, is such an array again.
-/
module

public import proofs.«01_k».proof.Proof.Consts
public import Idealize.ShloMosaic.Lib.Pointwise

@[expose] public section

set_option maxRecDepth 16384

noncomputable section

namespace Cert.Vec

open Idealize.ShloMosaic Cert.Plain

variable {φ : FTy} {m n k p q : ℕ}

/-- A real function of one index as an array; `e2 … e5` at two to five indices. -/
def e1 (f : Fin n → ℝ) : FVec Ideal ⟨1, ![n]⟩ φ := fun j => ((f (j 0) : ℝ) : EReal)
def e2 (f : Fin m → Fin n → ℝ) : FVec Ideal ⟨2, ![m, n]⟩ φ := fun j => ((f (j 0) (j 1) : ℝ) : EReal)
def e3 (f : Fin p → Fin m → Fin n → ℝ) : FVec Ideal ⟨3, ![p, m, n]⟩ φ := fun j => ((f (j 0) (j 1) (j 2) : ℝ) : EReal)
def e4 (f : Fin q → Fin p → Fin m → Fin n → ℝ) : FVec Ideal ⟨4, ![q, p, m, n]⟩ φ :=
  fun j => ((f (j 0) (j 1) (j 2) (j 3) : ℝ) : EReal)
def e5 (f : Fin k → Fin q → Fin p → Fin m → Fin n → ℝ) : FVec Ideal ⟨5, ![k, q, p, m, n]⟩ φ :=
  fun j => ((f (j 0) (j 1) (j 2) (j 3) (j 4) : ℝ) : EReal)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_dot (f g : Fin k → ℝ) : (∑ i, (f i : EReal) * (g i : EReal)) = ((∑ i, f i * g i : ℝ) : EReal) := by
  rw [coe_sum]; rfl

theorem coe_max (x y : ℝ) : max (x : EReal) (y : EReal) = ((max x y : ℝ) : EReal) :=
  (EReal.coe_strictMono.monotone.map_max).symm

theorem coe_div (x : ℝ) {y : ℝ} (h : y ≠ 0) : Ideal.div (x : EReal) (y : EReal) = ((x / y : ℝ) : EReal) := by
  rw [Ideal.div_coe h, ← EReal.coe_mul, mul_one_div]

theorem coe_rsqrt {x : ℝ} (h : 0 < x) : Ideal.rsqrt (x : EReal) = (((√x)⁻¹ : ℝ) : EReal) := by
  rw [Ideal.rsqrt_coe, if_neg h.le.not_gt, if_neg h.ne']

theorem coe_sqrt {x : ℝ} (h : 0 ≤ x) : Ideal.sqrt (x : EReal) = ((√x : ℝ) : EReal) := by
  rw [Ideal.sqrt_coe, if_neg h.not_gt]

/-- The greatest of finitely many real numbers. -/
def rmax [NeZero n] (f : Fin n → ℝ) : ℝ := Finset.univ.sup' ⟨0, Finset.mem_univ _⟩ f

theorem fold_max [NeZero n] (f : Fin n → ℝ) :
    Finset.univ.fold max (⊥ : EReal) (fun i => (f i : EReal)) = ((rmax f : ℝ) : EReal) := by
  apply le_antisymm
  · rw [Finset.fold_max_le]
    exact ⟨bot_le, fun i _ => EReal.coe_le_coe_iff.2 (Finset.le_sup' f (Finset.mem_univ i))⟩
  · obtain ⟨i, hi, h⟩ := Finset.exists_mem_eq_sup' (s := Finset.univ) ⟨0, Finset.mem_univ _⟩ f
    rw [Finset.le_fold_max]
    exact .inr ⟨i, hi, EReal.coe_le_coe_iff.2 h.le⟩

/-! ## Entry by entry -/

section Entry

variable (A B : Fin m → Fin n → ℝ)

theorem addf_e2 : addf (e2 A : FVec Ideal _ φ) (e2 B) = e2 fun i j => A i j + B i j := rfl
theorem subf_e2 : subf (e2 A : FVec Ideal _ φ) (e2 B) = e2 fun i j => A i j - B i j := rfl
theorem mulf_e2 : mulf (e2 A : FVec Ideal _ φ) (e2 B) = e2 fun i j => A i j * B i j := rfl
theorem maximumf_e2 : maximumf (e2 A : FVec Ideal _ φ) (e2 B) = e2 fun i j => max (A i j) (B i j) :=
  funext fun _ => coe_max _ _
theorem divf_e2 (h : ∀ i j, B i j ≠ 0) : divf (e2 A : FVec Ideal _ φ) (e2 B) = e2 fun i j => A i j / B i j :=
  funext fun _ => coe_div _ (h _ _)
theorem exp_e2 : exp (e2 A : FVec Ideal _ φ) = e2 fun i j => Real.exp (A i j) := rfl
theorem rsqrt_e2 (h : ∀ i j, 0 < A i j) : rsqrt (e2 A : FVec Ideal _ φ) = e2 fun i j => (√(A i j))⁻¹ :=
  funext fun _ => coe_rsqrt (h _ _)
theorem truncf_e2 {φ' : FTy} (h) : truncf φ' (e2 A : FVec Ideal _ φ) h = (e2 A : FVec Ideal _ φ') := rfl
theorem broadcast_e2 (r : ℝ) : broadcast ⟨2, ![m, n]⟩ ((r : EReal) : Ideal φ) = (e2 (fun _ _ => r) : FVec Ideal _ φ) := rfl
theorem broadcast_e3 (r : ℝ) : broadcast ⟨3, ![p, m, n]⟩ ((r : EReal) : Ideal φ) = (e3 (fun _ _ _ => r) : FVec Ideal _ φ) := rfl

end Entry

/-! ## Re-indexings -/

theorem bcast_col (A : Fin m → Fin 1 → ℝ) (h) :
    broadcastTo ⟨2, ![m, n]⟩ (e2 A : FVec Ideal _ φ) h = e2 fun i _ => A i 0 := by
  funext j
  refine congrArg Real.toEReal (congrArg₂ A (Fin.ext ?_) (Subsingleton.elim _ _))
  simp only [Nat.reduceAdd]
  split_ifs with h1
  · have h2 : m = 1 := h1
    have := (j 0).isLt; change (j 0).val < m at this
    change 0 = (j 0).val; omega
  · rfl

theorem bcast_row (A : Fin 1 → Fin n → ℝ) (h) :
    broadcastTo ⟨2, ![m, n]⟩ (e2 A : FVec Ideal _ φ) h = e2 fun _ j => A 0 j := by
  funext j
  refine congrArg Real.toEReal (congrArg₂ A (Subsingleton.elim _ _) (Fin.ext ?_))
  simp only [Nat.reduceAdd]
  split_ifs with h1
  · have h2 : n = 1 := h1
    have := (j 1).isLt; change (j 1).val < n at this
    change 0 = (j 1).val; omega
  · rfl

theorem slice_cols {c o : ℕ} (A : Fin m → Fin n → ℝ) (h : (⟨2, ![m, n]⟩ : Shape).Slices ![0, o] ⟨2, ![m, c]⟩) (hb : o + c ≤ n) :
    extractStridedSlice ⟨2, ![m, c]⟩ ![0, o] (e2 A : FVec Ideal _ φ) h = e2 fun i (j : Fin c) => A i ⟨o + j.val, by omega⟩ := by
  funext j
  refine congrArg Real.toEReal (congrArg₂ A (Fin.ext ?_) (Fin.ext ?_))
  · exact Nat.zero_add _
  · rfl

theorem slice_rows {c o : ℕ} (A : Fin m → Fin n → ℝ) (h : (⟨2, ![m, n]⟩ : Shape).Slices ![o, 0] ⟨2, ![c, n]⟩) (hb : o + c ≤ m) :
    extractStridedSlice ⟨2, ![c, n]⟩ ![o, 0] (e2 A : FVec Ideal _ φ) h = e2 fun (i : Fin c) j => A ⟨o + i.val, by omega⟩ j := by
  funext j
  refine congrArg Real.toEReal (congrArg₂ A (Fin.ext ?_) (Fin.ext ?_))
  · rfl
  · exact Nat.zero_add _

section Casts

/-- A reshape of `v` at `j` is `v` at the index of the same row-major position. -/
theorem cast_at {s t : Shape} {α : Type} (v : s.Idx → α) (h : s.ShapeCasts t) (j : t.Idx) (i : s.Idx)
    (e : (s.rowMajor i : ℕ) = t.rowMajor j) : shapeCast t v h j = v i :=
  congrArg v (Shape.reshapeEquiv_eq_of_rowMajor h e)

theorem cast_col (A : Fin m → ℝ) (h) : shapeCast ⟨2, ![m, 1]⟩ (e1 A : FVec Ideal _ φ) h = e2 fun i _ => A i := by
  funext j
  refine cast_at _ h j (ix1 (j 0)) ?_
  have := (j 1).isLt; change (j 1).val < 1 at this
  rw [rowMajor_val1, rowMajor_val2 j 1 rfl]
  show (j 0).val = _; omega

theorem cast_row (A : Fin n → ℝ) (h) : shapeCast ⟨2, ![1, n]⟩ (e1 A : FVec Ideal _ φ) h = e2 fun _ j => A j := by
  funext j
  refine cast_at _ h j (ix1 (j 1)) ?_
  have := (j 0).isLt; change (j 0).val < 1 at this
  rw [rowMajor_val1, rowMajor_val2 j n rfl, show (j 0).val = 0 by omega]
  show (j 1).val = _; omega

theorem cast_1n (A : Fin 1 → Fin n → ℝ) (h) : shapeCast ⟨1, ![n]⟩ (e2 A : FVec Ideal _ φ) h = e1 fun j => A 0 j := by
  funext j
  refine cast_at _ h j (ix2 0 (j 0)) ?_
  rw [rowMajor_val1, rowMajor_val2 _ n rfl]
  show 0 * n + (j 0).val = _; omega

theorem cast_11n (A : Fin 1 → Fin 1 → Fin n → ℝ) (h) : shapeCast ⟨1, ![n]⟩ (e3 A : FVec Ideal _ φ) h = e1 fun j => A 0 0 j := by
  funext j
  refine cast_at _ h j (ix3 0 0 (j 0)) ?_
  rw [rowMajor_val1, rowMajor_val3 _ (1 * n) n rfl rfl]
  show 0 * (1 * n) + 0 * n + (j 0).val = _; omega

theorem cast_1mn (A : Fin 1 → Fin m → Fin n → ℝ) (h) :
    shapeCast ⟨2, ![m, n]⟩ (e3 A : FVec Ideal _ φ) h = e2 fun i j => A 0 i j := by
  funext j
  refine cast_at _ h j (ix3 0 (j 0) (j 1)) ?_
  rw [rowMajor_val2 _ n rfl, rowMajor_val3 _ (m * n) n rfl rfl]
  show 0 * (m * n) + (j 0).val * n + (j 1).val = _; omega

theorem cast_to1mn (A : Fin m → Fin n → ℝ) (h) :
    shapeCast ⟨3, ![1, m, n]⟩ (e2 A : FVec Ideal _ φ) h = e3 fun _ i j => A i j := by
  funext j
  refine cast_at _ h j (ix2 (j 1) (j 2)) ?_
  have := (j 0).isLt; change (j 0).val < 1 at this
  rw [rowMajor_val2 _ n rfl, rowMajor_val3 _ (m * n) n rfl rfl, show (j 0).val = 0 by omega]
  show (j 1).val * n + (j 2).val = _; omega

theorem cast_to11mn (A : Fin m → Fin n → ℝ) (h) :
    shapeCast ⟨4, ![1, 1, m, n]⟩ (e2 A : FVec Ideal _ φ) h = e4 fun _ _ i j => A i j := by
  funext j
  refine cast_at _ h j (ix2 (j 2) (j 3)) ?_
  have := (j 0).isLt; change (j 0).val < 1 at this
  have := (j 1).isLt; change (j 1).val < 1 at this
  rw [rowMajor_val2 _ n rfl, rowMajor_val4 _ (1 * (m * n)) (m * n) n rfl rfl rfl, show (j 0).val = 0 by omega,
    show (j 1).val = 0 by omega]
  show (j 2).val * n + (j 3).val = _; omega

theorem cast_111mn (A : Fin 1 → Fin 1 → Fin 1 → Fin m → Fin n → ℝ) (h) :
    shapeCast ⟨2, ![m, n]⟩ (e5 A : FVec Ideal _ φ) h = e2 fun i j => A 0 0 0 i j := by
  funext j
  refine cast_at _ h j (ix5 0 0 0 (j 0) (j 1)) ?_
  rw [rowMajor_val2 _ n rfl, rowMajor_val5 _ (1 * (1 * (m * n))) (1 * (m * n)) (m * n) n rfl rfl rfl rfl]
  show 0 * _ + 0 * _ + 0 * _ + (j 0).val * n + (j 1).val = _; omega

end Casts

/-! ## Reductions along a row -/

theorem sum_e2 (A : Fin m → Fin n → ℝ) (h hφ hacc) :
    multiReduction .add [1] ⟨1, ![m]⟩ (e2 A : FVec Ideal _ .f32) 0x00000000#32 h hφ hacc = e1 fun i => ∑ k, A i k := by
  funext j; pointwise [e2, e1]; exact (coe_sum _ _).symm

theorem max_e2 [NeZero n] (A : Fin m → Fin n → ℝ) (h hφ hacc) :
    multiReduction .maximumf [1] ⟨1, ![m]⟩ (e2 A : FVec Ideal _ .f32) 0xFF800000#32 h hφ hacc = e1 fun i => rmax (A i) := by
  funext j; pointwise [e2, e1, Consts.f32_bot]; exact fold_max _

end Cert.Vec
-- ==== Proof.Blocks.lean ====
/- What each input window holds at a grid point, as arrays of real numbers. -/
module

public import proofs.«01_k».proof.Proof.Plain
public import proofs.«01_k».proof.Proof.Vec
public import proofs.«01_k».proof.Proof.Gen.KernelIdeal.Frame.Runs
public import Idealize.ShloMosaic.Lib.Claim

@[expose] public section

noncomputable section

namespace Cert.Blocks

open Idealize.ShloMosaic Idealize.ShloMosaic.TcCoe
open Cert.KernelIdeal Cert.KernelIdeal.Gen Cert.Vec Cert.Plain

/-- The arguments of the call as arrays of real numbers. -/
structure Args where
  inst : Fin 4 → Mat 25000 256
  query : Mat 100 256
  caW : Fin 6 → Mat 768 256
  caB : Mat 6 768
  caWo : Fin 6 → Mat 256 256
  caBo : Mat 6 256
  saW : Fin 6 → Mat 768 256
  saB : Mat 6 768
  saWo : Fin 6 → Mat 256 256
  saBo : Mat 6 256
  saG : Mat 6 256
  saO : Mat 6 256
  w1 : Fin 6 → Mat 1024 256
  b1 : Mat 6 1024
  w2 : Fin 6 → Mat 256 1024
  b2 : Mat 6 256
  ffG : Mat 6 256
  ffO : Mat 6 256
  outG : Fin 256 → ℝ
  outO : Fin 256 → ℝ
  cls1 : Mat 256 256
  clsB1 : Fin 256 → ℝ
  cls2 : Mat 19 256
  clsB2 : Fin 19 → ℝ

/-- The weights of layer `l`. -/
def Args.layer (A : Args) (l : Fin 6) : Weights :=
  { caW := A.caW l, caB := A.caB l, caWo := A.caWo l, caBo := A.caBo l, saW := A.saW l, saB := A.saB l, saWo := A.saWo l, saBo := A.saBo l,
    saG := A.saG l, saO := A.saO l, w1 := A.w1 l, b1 := A.b1 l, w2 := A.w2 l, b2 := A.b2 l, ffG := A.ffG l, ffO := A.ffO l }

variable (m : (ℓ : Loc nD τ sig) → Buf (Elt Ideal) ℓ) (c : Dev nD)

/-- The memory holds the arguments `A` on core `c`. -/
structure Holds (A : Args) : Prop where
  h0 : m ((c : Thread nD τ).loc main_arg0) = e3 (φ := .bf16) A.inst
  h1 : m ((c : Thread nD τ).loc main_arg1) = e2 (φ := .f32) A.query
  h2 : m ((c : Thread nD τ).loc main_arg2) = e3 (φ := .f32) A.caW
  h3 : m ((c : Thread nD τ).loc main_arg3) = e2 (φ := .f32) A.caB
  h4 : m ((c : Thread nD τ).loc main_arg4) = e3 (φ := .f32) A.caWo
  h5 : m ((c : Thread nD τ).loc main_arg5) = e2 (φ := .f32) A.caBo
  h6 : m ((c : Thread nD τ).loc main_arg6) = e3 (φ := .f32) A.saW
  h7 : m ((c : Thread nD τ).loc main_arg7) = e2 (φ := .f32) A.saB
  h8 : m ((c : Thread nD τ).loc main_arg8) = e3 (φ := .f32) A.saWo
  h9 : m ((c : Thread nD τ).loc main_arg9) = e2 (φ := .f32) A.saBo
  h10 : m ((c : Thread nD τ).loc main_arg10) = e2 (φ := .f32) A.saG
  h11 : m ((c : Thread nD τ).loc main_arg11) = e2 (φ := .f32) A.saO
  h12 : m ((c : Thread nD τ).loc main_arg12) = e3 (φ := .f32) A.w1
  h13 : m ((c : Thread nD τ).loc main_arg13) = e2 (φ := .f32) A.b1
  h14 : m ((c : Thread nD τ).loc main_arg14) = e3 (φ := .f32) A.w2
  h15 : m ((c : Thread nD τ).loc main_arg15) = e2 (φ := .f32) A.b2
  h16 : m ((c : Thread nD τ).loc main_arg16) = e2 (φ := .f32) A.ffG
  h17 : m ((c : Thread nD τ).loc main_arg17) = e2 (φ := .f32) A.ffO
  h18 : m ((c : Thread nD τ).loc main_arg18) = e1 (φ := .f32) A.outG
  h19 : m ((c : Thread nD τ).loc main_arg19) = e1 (φ := .f32) A.outO
  h20 : m ((c : Thread nD τ).loc main_arg20) = e2 (φ := .f32) A.cls1
  h21 : m ((c : Thread nD τ).loc main_arg21) = e1 (φ := .f32) A.clsB1
  h22 : m ((c : Thread nD τ).loc main_arg22) = e2 (φ := .f32) A.cls2
  h23 : m ((c : Thread nD τ).loc main_arg23) = e1 (φ := .f32) A.clsB2

/-! ## The host's reshapes -/

theorem cast_mid {k n : ℕ} {φ : FTy} (A : Mat k n) (h) : shapeCast ⟨3, ![k, 1, n]⟩ (e2 A : FVec Ideal _ φ) h = e3 fun l _ j => A l j := by
  funext j
  refine cast_at _ h j (ix2 (j 0) (j 2)) ?_
  have := (j 1).isLt; change (j 1).val < 1 at this
  rw [rowMajor_val2 _ n rfl, rowMajor_val3 _ (1 * n) n rfl rfl, show (j 1).val = 0 by omega]
  show (j 0).val * n + (j 2).val = (j 0).val * (1 * n) + 0 * n + (j 2).val
  rw [one_mul, zero_mul, add_zero]

/-- Batch entry `gi` of group `g`. -/
def bat (g : ℕ) (gi : Fin 2) : Fin 4 := ⟨(2 * g + gi.val) % 4, Nat.mod_lt _ (by norm_num)⟩

theorem cast_inst (X : Fin 4 → Mat 25000 256) (h) :
    shapeCast ⟨5, ![2, 2, 5, 5000, 256]⟩ (e3 X : FVec Ideal ⟨3, ![4, 25000, 256]⟩ .bf16) h = e5 fun g gi t k d => X (bat g gi) (row t k) d := by
  funext j
  have h0 := (j 0).isLt; change (j 0).val < 2 at h0
  have h1 := (j 1).isLt; change (j 1).val < 2 at h1
  have h2 := (j 2).isLt; change (j 2).val < 5 at h2
  have h3 := (j 3).isLt; change (j 3).val < 5000 at h3
  refine cast_at _ h j (ix3 (bat (j 0).val (j 1)) (row (j 2).val (j 3)) (j 4)) ?_
  rw [rowMajor_val3 _ (25000 * 256) 256 rfl rfl, rowMajor_val5 _ (2 * (5 * (5000 * 256))) (5 * (5000 * 256)) (5000 * 256) 256 rfl rfl rfl rfl]
  show (2 * (j 0).val + (j 1).val) % 4 * (25000 * 256) + (5000 * (j 2).val + (j 3).val) % 25000 * 256 + (j 4).val = _
  omega

theorem mid {k n : ℕ} {φ : FTy} {B : Mat k n} {x : FVec Ideal ⟨2, ![k, n]⟩ φ} (h) (e : x = e2 B) :
    shapeCast ⟨3, ![k, 1, n]⟩ x h = e3 fun l _ j => B l j := by
  subst e; exact cast_mid _ _

theorem flat {n : ℕ} {φ : FTy} {B : Fin n → ℝ} {x : FVec Ideal ⟨1, ![n]⟩ φ} (h) (e : x = e1 B) :
    shapeCast ⟨2, ![1, n]⟩ x h = e2 fun _ j => B j := by
  subst e; exact cast_row _ _

section Entry

variable {m c} {A : Args} (H : Holds m c A)
include H

theorem V_v0 : V m c main_v0 = e3 (φ := .bf16) A.caW := by
  show StableHlo.after hostOps0 _ (Proc.devRef .tc main_v0) = _
  after_results
  show truncf (F := Ideal) .bf16 (m ((c : Thread nD τ).loc main_arg2) : FVec Ideal S6x768x256 .f32) bitsLt_bf16_f32 = _
  rw [H.h2]; rfl

theorem V_v1 : V m c main_v1 = e5 (φ := .bf16) fun g gi t k d => A.inst (bat g gi) (row t k) d := by
  show StableHlo.after hostOps0 _ (Proc.devRef .tc main_v1) = _
  after_results
  show shapeCast _ (m ((c : Thread nD τ).loc main_arg0)) _ = _
  rw [H.h0]; exact cast_inst _ _

theorem V_mid :
    V m c main_v2 = e3 (φ := .f32) (fun l _ j => A.caB l j) ∧ V m c main_v3 = e3 (φ := .f32) (fun l _ j => A.caBo l j) ∧
    V m c main_v4 = e3 (φ := .f32) (fun l _ j => A.saB l j) ∧ V m c main_v5 = e3 (φ := .f32) (fun l _ j => A.saBo l j) ∧
    V m c main_v6 = e3 (φ := .f32) (fun l _ j => A.saG l j) ∧ V m c main_v7 = e3 (φ := .f32) (fun l _ j => A.saO l j) ∧
    V m c main_v8 = e3 (φ := .f32) (fun l _ j => A.b1 l j) ∧ V m c main_v9 = e3 (φ := .f32) (fun l _ j => A.b2 l j) ∧
    V m c main_v10 = e3 (φ := .f32) (fun l _ j => A.ffG l j) ∧ V m c main_v11 = e3 (φ := .f32) (fun l _ j => A.ffO l j) := by
  refine ⟨?_, ?_, ?_, ?_, ?_, ?_, ?_, ?_, ?_, ?_⟩
  all_goals
    show StableHlo.after hostOps0 _ (Proc.devRef .tc _) = _
    after_results
  · exact mid _ H.h3
  · exact mid _ H.h5
  · exact mid _ H.h7
  · exact mid _ H.h9
  · exact mid _ H.h10
  · exact mid _ H.h11
  · exact mid _ H.h13
  · exact mid _ H.h15
  · exact mid _ H.h16
  · exact mid _ H.h17

theorem V_rows :
    V m c main_v12 = e2 (φ := .f32) (fun _ j => A.outG j) ∧ V m c main_v13 = e2 (φ := .f32) (fun _ j => A.outO j) ∧
    V m c main_v14 = e2 (φ := .f32) (fun _ j => A.clsB1 j) ∧ V m c main_v15 = e2 (φ := .f32) (fun _ j => A.clsB2 j) := by
  refine ⟨?_, ?_, ?_, ?_⟩
  all_goals
    show StableHlo.after hostOps0 _ (Proc.devRef .tc _) = _
    after_results
  · exact flat _ H.h18
  · exact flat _ H.h19
  · exact flat _ H.h21
  · exact flat _ H.h23

end Entry

/-! ## The blocks of a grid point -/

/-- The layer of point `t`. -/
def lay (t : ℕ) : Fin 6 := ⟨t / 5 % 6, Nat.mod_lt _ (by norm_num)⟩

/-- The windows that move with the layer stand at block `(layer, 0, 0)`. -/
theorem idx_layer (t : Fin grid0.N) :
    (win0_2.index t = ![t.val / 5 % 6, 0, 0] ∧ win0_3.index t = ![t.val / 5 % 6, 0, 0] ∧ win0_4.index t = ![t.val / 5 % 6, 0, 0] ∧
    win0_5.index t = ![t.val / 5 % 6, 0, 0] ∧ win0_6.index t = ![t.val / 5 % 6, 0, 0] ∧ win0_7.index t = ![t.val / 5 % 6, 0, 0] ∧
    win0_8.index t = ![t.val / 5 % 6, 0, 0] ∧ win0_9.index t = ![t.val / 5 % 6, 0, 0]) ∧ win0_10.index t = ![t.val / 5 % 6, 0, 0] ∧
    win0_11.index t = ![t.val / 5 % 6, 0, 0] ∧ win0_12.index t = ![t.val / 5 % 6, 0, 0] ∧ win0_13.index t = ![t.val / 5 % 6, 0, 0] ∧
    win0_14.index t = ![t.val / 5 % 6, 0, 0] ∧ win0_15.index t = ![t.val / 5 % 6, 0, 0] ∧ win0_16.index t = ![t.val / 5 % 6, 0, 0] ∧
    win0_17.index t = ![t.val / 5 % 6, 0, 0] := by
  revert t; decide +kernel

/-- The whole windows stand at block `(0, 0)`. -/
theorem idx_whole (t : Fin grid0.N) :
    win0_1.index t = ![0, 0] ∧ win0_18.index t = ![0, 0] ∧ win0_19.index t = ![0, 0] ∧ win0_20.index t = ![0, 0] ∧ win0_21.index t = ![0, 0] ∧
    win0_22.index t = ![0, 0] ∧ win0_23.index t = ![0, 0] := by
  revert t; decide +kernel

/-- The window on the instances stands at block `(group, 0, chunk, 0, 0)`. -/
theorem idx_inst (t : Fin grid0.N) : win0_0.index t = ![t.val / 30, 0, t.val % 5, 0, 0] := by
  revert t; decide +kernel

theorem at_layer {a b : ℕ} {φ : FTy} {f : Fin 6 → Mat a b} {v : FVec Ideal ⟨3, ![6, a, b]⟩ φ} (hv : v = e3 f) (t : ℕ) {ix : Fin 3 → ℕ} (hx : ix = ![t / 5 % 6, 0, 0])
    (emb : (⟨3, ![1, a, b]⟩ : Shape).Idx → (⟨3, ![6, a, b]⟩ : Shape).Idx)
    (h : ∀ j x, (emb j x).val = ix x * (⟨3, ![1, a, b]⟩ : Shape).size x + 1 * (j x).val) :
    (fun j => v (emb j)) = e3 fun _ => f (lay t) := by
  subst hx hv
  funext j
  have h0 := (j 0).isLt; change (j 0).val < 1 at h0
  have : emb j = ix3 (lay t) (j 1) (j 2) := by
    funext x; apply Fin.ext; rw [h]
    match x with
    | ⟨0, _⟩ => show t / 5 % 6 * 1 + 1 * (j 0).val = t / 5 % 6; omega
    | ⟨1, _⟩ => show 0 * a + 1 * (j 1).val = (j 1).val; rw [zero_mul, one_mul, zero_add]
    | ⟨2, _⟩ => show 0 * b + 1 * (j 2).val = (j 2).val; rw [zero_mul, one_mul, zero_add]
  rw [this]; rfl

theorem at_whole {a b : ℕ} {φ : FTy} {f : Mat a b} {v : FVec Ideal ⟨2, ![a, b]⟩ φ} (hv : v = e2 f) {ix : Fin 2 → ℕ} (hx : ix = ![0, 0]) (emb : (⟨2, ![a, b]⟩ : Shape).Idx → (⟨2, ![a, b]⟩ : Shape).Idx)
    (h : ∀ j x, (emb j x).val = ix x * (⟨2, ![a, b]⟩ : Shape).size x + 1 * (j x).val) :
    (fun j => v (emb j)) = e2 f := by
  subst hx hv
  funext j
  have : emb j = j := by
    funext x; apply Fin.ext; rw [h]
    match x with
    | ⟨0, _⟩ => show 0 * a + 1 * (j 0).val = (j 0).val; rw [zero_mul, one_mul, zero_add]
    | ⟨1, _⟩ => show 0 * b + 1 * (j 1).val = (j 1).val; rw [zero_mul, one_mul, zero_add]
  rw [this]

section Read

variable {m c} {A : Args} (H : Holds m c A) (t : Fin cfg0.N)
include H

theorem b0 : iblk m c 0 t = e5 (φ := .bf16) fun _ gi _ k d => A.inst (bat (t.val / 30) gi) (row (t.val % 5) k) d := by
  have ht : t.val < 60 := lt_of_lt_of_eq t.isLt N_0
  funext j
  show V m c main_v1 (((cfg0.win 0).blk t).view.emb j) = _
  rw [V_v1 H]
  have h0 := (j 0).isLt; change (j 0).val < 1 at h0
  have h1 := (j 1).isLt; change (j 1).val < 2 at h1
  have h2 := (j 2).isLt; change (j 2).val < 1 at h2
  have hx := idx_inst t
  have : ((cfg0.win 0).blk t).view.emb j = ix5 (⟨t.val / 30, by omega⟩ : Fin 2) (j 1) (⟨t.val % 5, by omega⟩ : Fin 5) (j 3) (j 4) := by
    funext x; apply Fin.ext
    match x with
    | ⟨0, _⟩ => show win0_0.index t 0 * 1 + 1 * (j 0).val = t.val / 30; rw [hx]; show t.val / 30 * 1 + 1 * (j 0).val = _; omega
    | ⟨1, _⟩ => show win0_0.index t 1 * 2 + 1 * (j 1).val = (j 1).val; rw [hx]; show 0 * 2 + 1 * (j 1).val = _; omega
    | ⟨2, _⟩ => show win0_0.index t 2 * 1 + 1 * (j 2).val = t.val % 5; rw [hx]; show t.val % 5 * 1 + 1 * (j 2).val = _; omega
    | ⟨3, _⟩ => show win0_0.index t 3 * 5000 + 1 * (j 3).val = (j 3).val; rw [hx]; show 0 * 5000 + 1 * (j 3).val = _; omega
    | ⟨4, _⟩ => show win0_0.index t 4 * 256 + 1 * (j 4).val = (j 4).val; rw [hx]; show 0 * 256 + 1 * (j 4).val = _; omega
  rw [this]; rfl

theorem b2 : iblk m c 2 t = e3 (φ := .bf16) fun _ => (A.layer (lay t)).caW :=
  at_layer (V_v0 H) t (idx_layer t).1.1 ((cfg0.win 2).blk t).view.emb fun _ _ => rfl

theorem b3 : iblk m c 3 t = e3 (φ := .f32) fun _ _ j => (A.layer (lay t)).caB j :=
  at_layer ((V_mid H).1) t (idx_layer t).1.2.1 ((cfg0.win 3).blk t).view.emb fun _ _ => rfl

theorem b4 : iblk m c 4 t = e3 (φ := .f32) fun _ => (A.layer (lay t)).caWo :=
  at_layer ((V_main_arg4 m c).trans H.h4) t (idx_layer t).1.2.2.1 ((cfg0.win 4).blk t).view.emb fun _ _ => rfl

theorem b5 : iblk m c 5 t = e3 (φ := .f32) fun _ _ j => (A.layer (lay t)).caBo j :=
  at_layer ((V_mid H).2.1) t (idx_layer t).1.2.2.2.1 ((cfg0.win 5).blk t).view.emb fun _ _ => rfl

theorem b6 : iblk m c 6 t = e3 (φ := .f32) fun _ => (A.layer (lay t)).saW :=
  at_layer ((V_main_arg6 m c).trans H.h6) t (idx_layer t).1.2.2.2.2.1 ((cfg0.win 6).blk t).view.emb fun _ _ => rfl

theorem b7 : iblk m c 7 t = e3 (φ := .f32) fun _ _ j => (A.layer (lay t)).saB j :=
  at_layer ((V_mid H).2.2.1) t (idx_layer t).1.2.2.2.2.2.1 ((cfg0.win 7).blk t).view.emb fun _ _ => rfl

theorem b8 : iblk m c 8 t = e3 (φ := .f32) fun _ => (A.layer (lay t)).saWo :=
  at_layer ((V_main_arg8 m c).trans H.h8) t (idx_layer t).1.2.2.2.2.2.2.1 ((cfg0.win 8).blk t).view.emb fun _ _ => rfl

theorem b9 : iblk m c 9 t = e3 (φ := .f32) fun _ _ j => (A.layer (lay t)).saBo j :=
  at_layer ((V_mid H).2.2.2.1) t (idx_layer t).1.2.2.2.2.2.2.2 ((cfg0.win 9).blk t).view.emb fun _ _ => rfl

theorem b10 : iblk m c 10 t = e3 (φ := .f32) fun _ _ j => (A.layer (lay t)).saG j :=
  at_layer ((V_mid H).2.2.2.2.1) t (idx_layer t).2.1 ((cfg0.win 10).blk t).view.emb fun _ _ => rfl

theorem b11 : iblk m c 11 t = e3 (φ := .f32) fun _ _ j => (A.layer (lay t)).saO j :=
  at_layer ((V_mid H).2.2.2.2.2.1) t (idx_layer t).2.2.1 ((cfg0.win 11).blk t).view.emb fun _ _ => rfl

theorem b12 : iblk m c 12 t = e3 (φ := .f32) fun _ => (A.layer (lay t)).w1 :=
  at_layer ((V_main_arg12 m c).trans H.h12) t (idx_layer t).2.2.2.1 ((cfg0.win 12).blk t).view.emb fun _ _ => rfl

theorem b13 : iblk m c 13 t = e3 (φ := .f32) fun _ _ j => (A.layer (lay t)).b1 j :=
  at_layer ((V_mid H).2.2.2.2.2.2.1) t (idx_layer t).2.2.2.2.1 ((cfg0.win 13).blk t).view.emb fun _ _ => rfl

theorem b14 : iblk m c 14 t = e3 (φ := .f32) fun _ => (A.layer (lay t)).w2 :=
  at_layer ((V_main_arg14 m c).trans H.h14) t (idx_layer t).2.2.2.2.2.1 ((cfg0.win 14).blk t).view.emb fun _ _ => rfl

theorem b15 : iblk m c 15 t = e3 (φ := .f32) fun _ _ j => (A.layer (lay t)).b2 j :=
  at_layer ((V_mid H).2.2.2.2.2.2.2.1) t (idx_layer t).2.2.2.2.2.2.1 ((cfg0.win 15).blk t).view.emb fun _ _ => rfl

theorem b16 : iblk m c 16 t = e3 (φ := .f32) fun _ _ j => (A.layer (lay t)).ffG j :=
  at_layer ((V_mid H).2.2.2.2.2.2.2.2.1) t (idx_layer t).2.2.2.2.2.2.2.1 ((cfg0.win 16).blk t).view.emb fun _ _ => rfl

theorem b17 : iblk m c 17 t = e3 (φ := .f32) fun _ _ j => (A.layer (lay t)).ffO j :=
  at_layer ((V_mid H).2.2.2.2.2.2.2.2.2) t (idx_layer t).2.2.2.2.2.2.2.2 ((cfg0.win 17).blk t).view.emb fun _ _ => rfl

theorem b1 : iblk m c 1 t = e2 (φ := .f32) A.query :=
  at_whole ((V_main_arg1 m c).trans H.h1) (idx_whole t).1 ((cfg0.win 1).blk t).view.emb fun _ _ => rfl

theorem b18 : iblk m c 18 t = e2 (φ := .f32) (fun _ j => A.outG j) :=
  at_whole ((V_rows H).1) (idx_whole t).2.1 ((cfg0.win 18).blk t).view.emb fun _ _ => rfl

theorem b19 : iblk m c 19 t = e2 (φ := .f32) (fun _ j => A.outO j) :=
  at_whole ((V_rows H).2.1) (idx_whole t).2.2.1 ((cfg0.win 19).blk t).view.emb fun _ _ => rfl

theorem b20 : iblk m c 20 t = e2 (φ := .f32) A.cls1 :=
  at_whole ((V_main_arg20 m c).trans H.h20) (idx_whole t).2.2.2.1 ((cfg0.win 20).blk t).view.emb fun _ _ => rfl

theorem b21 : iblk m c 21 t = e2 (φ := .f32) (fun _ j => A.clsB1 j) :=
  at_whole ((V_rows H).2.2.1) (idx_whole t).2.2.2.2.1 ((cfg0.win 21).blk t).view.emb fun _ _ => rfl

theorem b22 : iblk m c 22 t = e2 (φ := .f32) A.cls2 :=
  at_whole ((V_main_arg22 m c).trans H.h22) (idx_whole t).2.2.2.2.2.1 ((cfg0.win 22).blk t).view.emb fun _ _ => rfl

theorem b23 : iblk m c 23 t = e2 (φ := .f32) (fun _ j => A.clsB2 j) :=
  at_whole ((V_rows H).2.2.2) (idx_whole t).2.2.2.2.2.2 ((cfg0.win 23).blk t).view.emb fun _ _ => rfl

end Read

end Cert.Blocks
-- ==== Proof.Finite.lean ====
/- The precondition: when it holds, every argument is an array of real numbers. -/
module

public import proofs.«01_k».proof.Defs
public import proofs.«01_k».proof.Proof.Blocks
public import proofs.«01_k».proof.Proof.Consts
public import Idealize.ShloMosaic.Lib.ReduceAll
public import Idealize.ShloMosaic.Lib.Affine

@[expose] public section

set_option maxRecDepth 16384

noncomputable section

namespace Cert.Finite

open Idealize.ShloMosaic Idealize.ShloMosaic.TcCoe Idealize.SL.Sem Cert.Vec Cert.KernelIdeal
open Cert.Blocks (Args Holds)

/-- The shape relations the precondition's operations take. -/
theorem facts : Cert.Pre_finite.Facts := by constructor <;> decide

/-- A number of absolute value below the top one is real. -/
theorem real_of {x : EReal} (h : max x (-x) < ⊤) : x = ((x.toReal : ℝ) : EReal) := by
  rw [max_lt_iff] at h
  refine (EReal.coe_toReal h.1.ne ?_).symm
  rintro rfl
  exact absurd h.2 (by simp)

/-- The one index of an array of rank 0. -/
theorem scalar_sub {d : Fin 0 → ℕ} : Subsingleton (Shape.Idx ⟨0, d⟩) := ⟨fun a b => funext fun i => i.elim0⟩

/-- An array whose absolute values all compare below the top number is real everywhere. -/
theorem all_real {s : Shape} {axes : List (Fin s.rank)} (x : FVec Ideal s .f32) (b) (r : s.ReducesTo axes Cert.Pre_finite.S_) (h0) (j)
    (e : Host.reduce IntOp.andi (cmpf .olt (Host.absf x) (broadcastInDim s ![] b (constant Cert.Pre_finite.S_ .f32 0x7F800000#32)))
      (constantI Cert.Pre_finite.S_ 1 1#1) r h0 j = 1#1) (i : s.Idx) : x i = (((x i : EReal).toReal : ℝ) : EReal) := by
  haveI : Subsingleton Cert.Pre_finite.S_.Idx := scalar_sub
  have h := Host.reduce_andi_all _ _ _ _ j e i
  refine real_of ?_
  have h' : (max (x i : EReal) (-(x i : EReal))) < Ideal.ofBits .f32 0x7F800000#32 := by
    by_contra hn
    have : (cmpf .olt (Host.absf x) (broadcastInDim s ![] b (constant Cert.Pre_finite.S_ .f32 0x7F800000#32))) i = BitVec.ofBool (decide ((max (x i : EReal) (-(x i : EReal))) < Ideal.ofBits .f32 0x7F800000#32)) := rfl
    rw [this, decide_eq_false hn] at h
    exact absurd h (by decide)
  rwa [Consts.f32_top] at h'

theorem real1 {n : ℕ} {φ : FTy} (x : FVec Ideal ⟨1, ![n]⟩ φ) (h : ∀ i, x i = (((x i : EReal).toReal : ℝ) : EReal)) :
    x = e1 fun i => (x (ix1 i) : EReal).toReal := by
  funext i
  refine (h i).trans ?_
  show (((x i : EReal).toReal : ℝ) : EReal) = (((x (ix1 (i 0)) : EReal).toReal : ℝ) : EReal)
  congr 3
  funext k; fin_cases k; rfl

theorem real2 {m n : ℕ} {φ : FTy} (x : FVec Ideal ⟨2, ![m, n]⟩ φ) (h : ∀ i, x i = (((x i : EReal).toReal : ℝ) : EReal)) :
    x = e2 fun i j => (x (ix2 i j) : EReal).toReal := by
  funext i
  refine (h i).trans ?_
  show (((x i : EReal).toReal : ℝ) : EReal) = (((x (ix2 (i 0) (i 1)) : EReal).toReal : ℝ) : EReal)
  congr 3
  funext k; fin_cases k <;> rfl

theorem real3 {p m n : ℕ} {φ : FTy} (x : FVec Ideal ⟨3, ![p, m, n]⟩ φ) (h : ∀ i, x i = (((x i : EReal).toReal : ℝ) : EReal)) :
    x = e3 fun i j k => (x (ix3 i j k) : EReal).toReal := by
  funext i
  refine (h i).trans ?_
  show (((x i : EReal).toReal : ℝ) : EReal) = (((x (ix3 (i 0) (i 1) (i 2)) : EReal).toReal : ℝ) : EReal)
  congr 3
  funext k; fin_cases k <;> rfl

set_option maxHeartbeats 2000000 in
/-- When the precondition holds, the memory holds arguments made of real numbers. -/
theorem holds [Cert.Pre_finite.Facts] (m : (ℓ : Loc nD τ sig) → Buf (Elt Ideal) ℓ) (hpre : Cert.Pre_KernelIdeal_finite m) (c : Dev nD) :
    ∃ A : Args, Holds m c A := by
  have e := congrFun (hpre c) (fun i => i.elim0)
  simp only [Cert.Pre_finite.fn, Cert.Pre_finite.fn_part1, Cert.Pre_finite.fn_part2, Cert.Pre_finite.fn_part3, Cert.Pre_finite.fn_part4,
    Cert.Pre_finite.fn_part5, Cert.Pre_finite.fn_part6, andi, IntOp.andi_eq_one, and_assoc] at e
  obtain ⟨p0, p1, p2, p3, p4, p5, p6, p7, p8, p9, p10, p11, p12, p13, p14, p15, p16, p17, p18, p19, p20, p21, p22, p23⟩ := e
  exact ⟨⟨_, _, _, _, _, _, _, _, _, _, _, _, _, _, _, _, _, _, _, _, _, _, _, _⟩,
    ⟨real3 (φ := .bf16) _ (all_real _ _ _ _ _ p0), real2 _ (all_real _ _ _ _ _ p1), real3 _ (all_real _ _ _ _ _ p2), real2 _ (all_real _ _ _ _ _ p3),
      real3 _ (all_real _ _ _ _ _ p4), real2 _ (all_real _ _ _ _ _ p5), real3 _ (all_real _ _ _ _ _ p6), real2 _ (all_real _ _ _ _ _ p7),
      real3 _ (all_real _ _ _ _ _ p8), real2 _ (all_real _ _ _ _ _ p9), real2 _ (all_real _ _ _ _ _ p10), real2 _ (all_real _ _ _ _ _ p11),
      real3 _ (all_real _ _ _ _ _ p12), real2 _ (all_real _ _ _ _ _ p13), real3 _ (all_real _ _ _ _ _ p14), real2 _ (all_real _ _ _ _ _ p15),
      real2 _ (all_real _ _ _ _ _ p16), real2 _ (all_real _ _ _ _ _ p17), real1 _ (all_real _ _ _ _ _ p18), real1 _ (all_real _ _ _ _ _ p19),
      real2 _ (all_real _ _ _ _ _ p20), real1 _ (all_real _ _ _ _ _ p21), real2 _ (all_real _ _ _ _ _ p22), real1 _ (all_real _ _ _ _ _ p23)⟩⟩

end Cert.Finite
-- ==== Proof.Read.lean ====
/- Loads and stores of boxes of arrays of real numbers: what a load reads, and what two stores of rows leave. -/
module

public import proofs.«01_k».proof.Proof.Vec
public import Idealize.ShloMosaic.Lib.Pipeline.Value
public import Idealize.ShloMosaic.Lib.Pipeline.ValueKit.Tiles

@[expose] public section

noncomputable section

namespace Cert.Read

open Idealize.ShloMosaic Cert.Vec Cert.Plain

variable {k m n p : ℕ}

theorem zero2 : (![0, 0] : Fin 2 → ℕ) = fun _ => 0 := by funext a; fin_cases a <;> rfl
theorem zero3 : (![0, 0, 0] : Fin 3 → ℕ) = fun _ => 0 := by funext a; fin_cases a <;> rfl

theorem ld_all2 (X : (⟨2, ![m, n]⟩ : Shape).Idx → Elt Ideal .f32) (h) : View.ld (Val := Elt Ideal) (e' := .f32) X (Rect.unit (s := ⟨2, ![m, n]⟩) ![0, 0] ![m, n] h) = X :=
  View.ld_unit_zero zero2 h X

theorem ld_all3 (X : (⟨3, ![k, m, n]⟩ : Shape).Idx → Elt Ideal .f32) (h) : View.ld (Val := Elt Ideal) (e' := .f32) X (Rect.unit (s := ⟨3, ![k, m, n]⟩) ![0, 0, 0] ![k, m, n] h) = X :=
  View.ld_unit_zero zero3 h X

/-- Row `g` of a stack of matrices. -/
theorem ld_row (f : Fin k → Mat m n) (g : ℕ) (h : ∀ a, (![g, 0, 0] : Fin 3 → ℕ) a + (⟨3, ![1, m, n]⟩ : Shape).size a ≤ (⟨3, ![k, m, n]⟩ : Shape).size a) :
    View.ld (Val := Elt Ideal) (e' := .f32) (e3 (φ := .f32) f) (Rect.unit (s := ⟨3, ![k, m, n]⟩) ![g, 0, 0] ![1, m, n] h) = e3 (φ := .f32) fun _ => f ⟨g, h 0⟩ := by
  funext j
  have h0 := (j 0).isLt; change (j 0).val < 1 at h0
  refine View.ld_unit_apply_of _ _ _ _ _ (ix3 ⟨g, h 0⟩ (j 1) (j 2)) fun a => ?_
  match a with
  | ⟨0, _⟩ => show g = g + (j 0).val; omega
  | ⟨1, _⟩ => exact (Nat.zero_add _).symm
  | ⟨2, _⟩ => exact (Nat.zero_add _).symm

/-- Rows `o …` of one matrix. -/
theorem ld_rows (f : Fin 1 → Mat p n) (o : ℕ) (h : ∀ a, (![0, o, 0] : Fin 3 → ℕ) a + (⟨3, ![1, m, n]⟩ : Shape).size a ≤ (⟨3, ![1, p, n]⟩ : Shape).size a) :
    View.ld (Val := Elt Ideal) (e' := .bf16) (e3 (φ := .bf16) f) (Rect.unit (s := ⟨3, ![1, p, n]⟩) ![0, o, 0] ![1, m, n] h)
      = e3 (φ := .bf16) fun _ i => f 0 ⟨o + i.val, lt_of_lt_of_le (Nat.add_lt_add_left i.isLt o) (h 1)⟩ := by
  funext j
  have h0 := (j 0).isLt; change (j 0).val < 1 at h0
  refine View.ld_unit_apply_of _ _ _ _ _ (ix3 0 ⟨o + (j 1).val, lt_of_lt_of_le (Nat.add_lt_add_left (j 1).isLt o) (h 1)⟩ (j 2)) fun a => ?_
  match a with
  | ⟨0, _⟩ => show 0 = 0 + (j 0).val; omega
  | ⟨1, _⟩ => rfl
  | ⟨2, _⟩ => exact (Nat.zero_add _).symm

/-- Columns `o …` of one row. -/
theorem ld_cols (f : Fin 1 → Fin 1 → Fin p → ℝ) (o : ℕ) (h : ∀ a, (![0, 0, o] : Fin 3 → ℕ) a + (⟨3, ![1, 1, n]⟩ : Shape).size a ≤ (⟨3, ![1, 1, p]⟩ : Shape).size a) :
    View.ld (Val := Elt Ideal) (e' := .f32) (e3 (φ := .f32) f) (Rect.unit (s := ⟨3, ![1, 1, p]⟩) ![0, 0, o] ![1, 1, n] h)
      = e3 (φ := .f32) fun _ _ i => f 0 0 ⟨o + i.val, lt_of_lt_of_le (Nat.add_lt_add_left i.isLt o) (h 2)⟩ := by
  funext j
  have h0 := (j 0).isLt; change (j 0).val < 1 at h0
  have h1 := (j 1).isLt; change (j 1).val < 1 at h1
  refine View.ld_unit_apply_of _ _ _ _ _ (ix3 0 0 ⟨o + (j 2).val, lt_of_lt_of_le (Nat.add_lt_add_left (j 2).isLt o) (h 2)⟩) fun a => ?_
  match a with
  | ⟨0, _⟩ => show 0 = 0 + (j 0).val; omega
  | ⟨1, _⟩ => show 0 = 0 + (j 1).val; omega
  | ⟨2, _⟩ => rfl

/-- The three stacked matrices of one projection. -/
theorem ld_third0 (f : Fin 1 → Mat 768 n) (h) :
    View.ld (Val := Elt Ideal) (e' := .bf16) (e3 (φ := .bf16) f) (Rect.unit (s := ⟨3, ![1, 768, n]⟩) ![0, 0, 0] ![1, 256, n] h) = e3 (φ := .bf16) (fun _ => third 0 (f 0)) :=
  ld_rows f 0 h
theorem ld_third1 (f : Fin 1 → Mat 768 n) (h) :
    View.ld (Val := Elt Ideal) (e' := .bf16) (e3 (φ := .bf16) f) (Rect.unit (s := ⟨3, ![1, 768, n]⟩) ![0, 256, 0] ![1, 256, n] h) = e3 (φ := .bf16) (fun _ => third 1 (f 0)) :=
  ld_rows f 256 h
theorem ld_third2 (f : Fin 1 → Mat 768 n) (h) :
    View.ld (Val := Elt Ideal) (e' := .bf16) (e3 (φ := .bf16) f) (Rect.unit (s := ⟨3, ![1, 768, n]⟩) ![0, 512, 0] ![1, 256, n] h) = e3 (φ := .bf16) (fun _ => third 2 (f 0)) :=
  ld_rows f 512 h

/-- The three stacked biases of one projection. -/
theorem ld_thirdV0 (f : Fin 1 → Fin 1 → Fin 768 → ℝ) (h) :
    View.ld (Val := Elt Ideal) (e' := .f32) (e3 (φ := .f32) f) (Rect.unit (s := ⟨3, ![1, 1, 768]⟩) ![0, 0, 0] ![1, 1, 256] h) = e3 (φ := .f32) (fun _ _ => thirdV 0 (f 0 0)) :=
  ld_cols f 0 h
theorem ld_thirdV2 (f : Fin 1 → Fin 1 → Fin 768 → ℝ) (h) :
    View.ld (Val := Elt Ideal) (e' := .f32) (e3 (φ := .f32) f) (Rect.unit (s := ⟨3, ![1, 1, 768]⟩) ![0, 0, 512] ![1, 1, 256] h) = e3 (φ := .f32) (fun _ _ => thirdV 2 (f 0 0)) :=
  ld_cols f 512 h

/-- One group's chunk. -/
theorem ld_inst (f : Fin 1 → Fin k → Fin 1 → Mat m n) (g : ℕ)
    (h : ∀ a, (![0, g, 0, 0, 0] : Fin 5 → ℕ) a + (⟨5, ![1, 1, 1, m, n]⟩ : Shape).size a ≤ (⟨5, ![1, k, 1, m, n]⟩ : Shape).size a) :
    View.ld (Val := Elt Ideal) (e' := .bf16) (e5 (φ := .bf16) f) (Rect.unit (s := ⟨5, ![1, k, 1, m, n]⟩) ![0, g, 0, 0, 0] ![1, 1, 1, m, n] h) = e5 (φ := .bf16) fun _ _ _ => f 0 ⟨g, h 1⟩ 0 := by
  funext j
  have h0 := (j 0).isLt; change (j 0).val < 1 at h0
  have h1 := (j 1).isLt; change (j 1).val < 1 at h1
  have h2 := (j 2).isLt; change (j 2).val < 1 at h2
  refine View.ld_unit_apply_of _ _ _ _ _ (ix5 0 ⟨g, h 1⟩ 0 (j 3) (j 4)) fun a => ?_
  match a with
  | ⟨0, _⟩ => show 0 = 0 + (j 0).val; omega
  | ⟨1, _⟩ => show g = g + (j 1).val; omega
  | ⟨2, _⟩ => show 0 = 0 + (j 2).val; omega
  | ⟨3, _⟩ => exact (Nat.zero_add _).symm
  | ⟨4, _⟩ => exact (Nat.zero_add _).symm

/-- What is at an index after a store of row `g`, under it or off it. -/
theorem canon_row {w} {Y : Mat m n} (hw : w = (e3 fun _ => Y : FVec Ideal ⟨3, ![1, m, n]⟩ .f32)) (g : ℕ)
    (h : ∀ a, (![g, 0, 0] : Fin 3 → ℕ) a + (⟨3, ![1, m, n]⟩ : Shape).size a ≤ (⟨3, ![k, m, n]⟩ : Shape).size a) (L) (y : (⟨3, ![k, m, n]⟩ : Shape).Idx) :
    View.canon (Val := Elt Ideal) (e := .f32) (⟨Rect.unit (s := ⟨3, ![k, m, n]⟩) ![g, 0, 0] (⟨3, ![1, m, n]⟩ : Shape).size h, w⟩ :: L) y
      = if (y 0).val = g then (e2 Y : FVec Ideal ⟨2, ![m, n]⟩ .f32) (ix2 (y 1) (y 2)) else View.canon L y := by
  subst hw
  split
  · next hy =>
    have : y = (Rect.unit (s := ⟨3, ![k, m, n]⟩) ![g, 0, 0] (⟨3, ![1, m, n]⟩ : Shape).size h).emb (ix3 0 (y 1) (y 2)) := by
      funext a; apply Fin.ext
      match a with
      | ⟨0, _⟩ => show (y 0).val = g + 1 * 0; omega
      | ⟨1, _⟩ => show (y 1).val = 0 + 1 * (y 1).val; omega
      | ⟨2, _⟩ => show (y 2).val = 0 + 1 * (y 2).val; omega
    conv_lhs => rw [this]
    rw [View.canon_cons_emb]; rfl
  · next hy =>
    refine View.canon_cons_of_not_mem _ _ fun hm => hy ?_
    have := (Rect.mem_set_unit (inb := h)).mp hm 0
    change g ≤ (y 0).val ∧ (y 0).val < g + 1 at this
    omega

/-- Two stores of one row each, covering a pair of matrices. -/
theorem canon_two {w1 w0} {f : Fin 2 → Mat m n} (h1 : w1 = (e3 fun _ => f 1 : FVec Ideal ⟨3, ![1, m, n]⟩ .f32)) (h0 : w0 = (e3 fun _ => f 0 : FVec Ideal ⟨3, ![1, m, n]⟩ .f32))
    (i1 i0 L) :
    View.canon (Val := Elt Ideal) (e := .f32) (s := ⟨3, ![2, m, n]⟩) (⟨Rect.unit (s := ⟨3, ![2, m, n]⟩) ![1, 0, 0] (⟨3, ![1, m, n]⟩ : Shape).size i1, w1⟩ ::
      ⟨Rect.unit (s := ⟨3, ![2, m, n]⟩) ![0, 0, 0] (⟨3, ![1, m, n]⟩ : Shape).size i0, w0⟩ :: L) = e3 (φ := .f32) f := by
  funext y
  rw [canon_row h1, canon_row h0]
  have hy := (y 0).isLt; change (y 0).val < 2 at hy
  split
  · next h => show _ = ((f (y 0) (y 1) (y 2) : ℝ) : EReal); rw [show y 0 = (1 : Fin 2) from Fin.ext h]; rfl
  · next h =>
    have h : (y 0).val = 0 := by omega
    rw [if_pos h]; show _ = ((f (y 0) (y 1) (y 2) : ℝ) : EReal); rw [show y 0 = (0 : Fin 2) from Fin.ext h]; rfl

/-- What is at an index of the result after a store of group `g`. -/
theorem canon_group {w} {Y : Mat m n} (hw : w = (e4 fun _ _ => Y : FVec Ideal ⟨4, ![1, 1, m, n]⟩ .f32)) (g : ℕ)
    (h : ∀ a, (![0, g, 0, 0] : Fin 4 → ℕ) a + (⟨4, ![1, 1, m, n]⟩ : Shape).size a ≤ (⟨4, ![1, k, m, n]⟩ : Shape).size a) (L) (y : (⟨4, ![1, k, m, n]⟩ : Shape).Idx) :
    View.canon (Val := Elt Ideal) (e := .f32) (⟨Rect.unit (s := ⟨4, ![1, k, m, n]⟩) ![0, g, 0, 0] (⟨4, ![1, 1, m, n]⟩ : Shape).size h, w⟩ :: L) y
      = if (y 1).val = g then (e2 Y : FVec Ideal ⟨2, ![m, n]⟩ .f32) (ix2 (y 2) (y 3)) else View.canon L y := by
  subst hw
  have h0 := (y 0).isLt; change (y 0).val < 1 at h0
  split
  · next hy =>
    have : y = (Rect.unit (s := ⟨4, ![1, k, m, n]⟩) ![0, g, 0, 0] (⟨4, ![1, 1, m, n]⟩ : Shape).size h).emb (ix4 0 0 (y 2) (y 3)) := by
      funext a; apply Fin.ext
      match a with
      | ⟨0, _⟩ => show (y 0).val = 0 + 1 * 0; omega
      | ⟨1, _⟩ => show (y 1).val = g + 1 * 0; omega
      | ⟨2, _⟩ => show (y 2).val = 0 + 1 * (y 2).val; omega
      | ⟨3, _⟩ => show (y 3).val = 0 + 1 * (y 3).val; omega
    conv_lhs => rw [this]
    rw [View.canon_cons_emb]; rfl
  · next hy =>
    refine View.canon_cons_of_not_mem _ _ fun hm => hy ?_
    have := (Rect.mem_set_unit (inb := h)).mp hm 1
    change g ≤ (y 1).val ∧ (y 1).val < g + 1 at this
    omega

/-- Two stores of one group each, covering a result block. -/
theorem canon_pair {w1 w0} {f : Fin 2 → Mat m n} (h1 : w1 = (e4 fun _ _ => f 1 : FVec Ideal ⟨4, ![1, 1, m, n]⟩ .f32)) (h0 : w0 = (e4 fun _ _ => f 0 : FVec Ideal ⟨4, ![1, 1, m, n]⟩ .f32))
    (i1 i0 L) :
    View.canon (Val := Elt Ideal) (e := .f32) (s := ⟨4, ![1, 2, m, n]⟩) (⟨Rect.unit (s := ⟨4, ![1, 2, m, n]⟩) ![0, 1, 0, 0] (⟨4, ![1, 1, m, n]⟩ : Shape).size i1, w1⟩ ::
      ⟨Rect.unit (s := ⟨4, ![1, 2, m, n]⟩) ![0, 0, 0, 0] (⟨4, ![1, 1, m, n]⟩ : Shape).size i0, w0⟩ :: L) = e4 (φ := .f32) fun _ => f := by
  funext y
  rw [canon_group h1, canon_group h0]
  have hy := (y 1).isLt; change (y 1).val < 2 at hy
  split
  · next h => show _ = ((f (y 1) (y 2) (y 3) : ℝ) : EReal); rw [show y 1 = (1 : Fin 2) from Fin.ext h]; rfl
  · next h =>
    have h : (y 1).val = 0 := by omega
    rw [if_pos h]; show _ = ((f (y 1) (y 2) (y 3) : ℝ) : EReal); rw [show y 1 = (0 : Fin 2) from Fin.ext h]; rfl

section Cov

variable {σ : RefSig} {κ : Kind} {sp : Space}

/-- A load after a store of the whole. -/
theorem cov_all (v : View σ κ sp ⟨3, ![k, m, n]⟩ .f32) (w : FVec Ideal ⟨3, ![k, m, n]⟩ .f32) (L h r) :
    v.readCov (Val := Elt Ideal) (⟨Rect.unit (s := ⟨3, ![k, m, n]⟩) ![0, 0, 0] ![k, m, n] h, w⟩ :: L) (Rect.toLoadRect r) = View.ld (Val := Elt Ideal) (e' := .f32) w r := by
  rw [View.readCov_eq_canon', View.canon_cons_unit_zero (S := ⟨3, ![k, m, n]⟩) zero3]

/-- A load of one row passes over a store of another. -/
theorem cov_skip (v : View σ κ sp ⟨3, ![k, m, n]⟩ .f32) (w : FVec Ideal ⟨3, ![1, m, n]⟩ .f32) (L) (g g' : ℕ) (hg : g' ≠ g) (h h') :
    v.readCov (Val := Elt Ideal) (⟨Rect.unit (s := ⟨3, ![k, m, n]⟩) ![g, 0, 0] ![1, m, n] h, w⟩ :: L) (Rect.toLoadRect (Rect.unit (s := ⟨3, ![k, m, n]⟩) ![g', 0, 0] ![1, m, n] h'))
      = v.readCov (Val := Elt Ideal) L (Rect.toLoadRect (Rect.unit (s := ⟨3, ![k, m, n]⟩) ![g', 0, 0] ![1, m, n] h')) := by
  refine View.readCov_cons_of_disjoint _ _ _ _ (Finset.disjoint_left.mpr fun y hy hy' => hg ?_)
  have a := (Rect.mem_set_unit (inb := h)).mp hy 0
  have b := (Rect.mem_set_unit (inb := h')).mp hy' 0
  change g ≤ (y 0).val ∧ (y 0).val < g + 1 at a
  change g' ≤ (y 0).val ∧ (y 0).val < g' + 1 at b
  omega

theorem cov_skip0 (v : View σ κ sp ⟨3, ![k, m, n]⟩ .f32) (w : FVec Ideal ⟨3, ![1, m, n]⟩ .f32) (L) (h h') :
    v.readCov (Val := Elt Ideal) (⟨Rect.unit (s := ⟨3, ![k, m, n]⟩) ![0, 0, 0] ![1, m, n] h, w⟩ :: L) (Rect.toLoadRect (Rect.unit (s := ⟨3, ![k, m, n]⟩) ![1, 0, 0] ![1, m, n] h'))
      = v.readCov (Val := Elt Ideal) L (Rect.toLoadRect (Rect.unit (s := ⟨3, ![k, m, n]⟩) ![1, 0, 0] ![1, m, n] h')) :=
  cov_skip v w L 0 1 (by decide) h h'
theorem cov_skip1 (v : View σ κ sp ⟨3, ![k, m, n]⟩ .f32) (w : FVec Ideal ⟨3, ![1, m, n]⟩ .f32) (L) (h h') :
    v.readCov (Val := Elt Ideal) (⟨Rect.unit (s := ⟨3, ![k, m, n]⟩) ![1, 0, 0] ![1, m, n] h, w⟩ :: L) (Rect.toLoadRect (Rect.unit (s := ⟨3, ![k, m, n]⟩) ![0, 0, 0] ![1, m, n] h'))
      = v.readCov (Val := Elt Ideal) L (Rect.toLoadRect (Rect.unit (s := ⟨3, ![k, m, n]⟩) ![0, 0, 0] ![1, m, n] h')) :=
  cov_skip v w L 1 0 (by decide) h h'

end Cov

end Cert.Read
-- ==== Proof.KernelVec.lean ====
/-
  The kernel's contractions and concatenations on arrays of real numbers (Vec.lean): a product with a transposed weight is
  `mulT`, a plain product a sum over the inner index, eight pieces side by side the piece of the column's head.
-/
module

public import proofs.«01_k».proof.Proof.Vec
public import proofs.«01_k».proof.Proof.Gen.KernelIdeal.Skeleton

@[expose] public section

set_option maxRecDepth 16384

noncomputable section

namespace Cert.Vec

open Idealize.ShloMosaic Cert.Plain Cert.KernelIdeal

variable {φ φ' : FTy}

/-- A plain product of matrices. -/
def mulN {m k n : ℕ} (A : Mat m k) (B : Mat k n) : Mat m n := fun i j => ∑ e, A i e * B e j

theorem dot_q (A : Mat 100 256) (B : Mat 256 256) :
    matmul dot_S100x256_S256x256_S100x256_1_1_0_0_n_n none (e2 A : FVec Ideal _ φ) (e2 B : FVec Ideal _ φ')
      (constant S100x256 .f32 0x00000000#32) = e2 (mulT A B) := by
  funext j; pointwise [e2]; exact coe_dot _ _

theorem dot_768 (A : Mat 100 256) (B : Mat 768 256) :
    matmul dot_S100x256_S768x256_S100x768_1_1_0_0_n_n none (e2 A : FVec Ideal _ φ) (e2 B : FVec Ideal _ φ')
      (constant S100x768 .f32 0x00000000#32) = e2 (mulT A B) := by
  funext j; pointwise [e2]; exact coe_dot _ _

theorem dot_1024 (A : Mat 100 256) (B : Mat 1024 256) :
    matmul dot_S100x256_S1024x256_S100x1024_1_1_0_0_n_n none (e2 A : FVec Ideal _ φ) (e2 B : FVec Ideal _ φ')
      (constant S100x1024 .f32 0x00000000#32) = e2 (mulT A B) := by
  funext j; pointwise [e2]; exact coe_dot _ _

theorem dot_back (A : Mat 100 1024) (B : Mat 256 1024) :
    matmul dot_S100x1024_S256x1024_S100x256_1_1_0_0_n_n none (e2 A : FVec Ideal _ φ) (e2 B : FVec Ideal _ φ')
      (constant S100x256 .f32 0x00000000#32) = e2 (mulT A B) := by
  funext j; pointwise [e2]; exact coe_dot _ _

theorem dot_19 (A : Mat 100 256) (B : Mat 19 256) :
    matmul dot_S100x256_S19x256_S100x19_1_1_0_0_n_n none (e2 A : FVec Ideal _ φ) (e2 B : FVec Ideal _ φ')
      (constant S100x19 .f32 0x00000000#32) = e2 (mulT A B) := by
  funext j; pointwise [e2]; exact coe_dot _ _

theorem dot_keys (A : Mat 256 256) (B : Mat 5000 256) :
    matmul dot_S256x256_S5000x256_S256x5000_1_1_0_0_n_n none (e2 A : FVec Ideal _ φ) (e2 B : FVec Ideal _ φ')
      (constant S256x5000 .f32 0x00000000#32) = e2 (mulT A B) := by
  funext j; pointwise [e2]; exact coe_dot _ _

theorem dot_values (A : Mat 5000 256) (B : Mat 256 256) :
    matmul dot_S5000x256_S256x256_S5000x256_1_1_0_0_n_n none (e2 A : FVec Ideal _ φ) (e2 B : FVec Ideal _ φ')
      (constant S5000x256 .f32 0x00000000#32) = e2 (mulT A B) := by
  funext j; pointwise [e2]; exact coe_dot _ _

theorem dot_scores (A : Mat 100 32) (B : Mat 32 5000) :
    matmul dot_S100x32_S32x5000_S100x5000_1_0_0_1_n_n none (e2 A : FVec Ideal _ φ) (e2 B : FVec Ideal _ φ')
      (constant S100x5000 .f32 0x00000000#32) = e2 (mulN A B) := by
  funext j; pointwise [e2]; exact coe_dot _ _

theorem dot_weigh (A : Mat 100 5000) (B : Mat 5000 256) :
    matmul dot_S100x5000_S5000x256_S100x256_1_0_0_1_n_n none (e2 A : FVec Ideal _ φ) (e2 B : FVec Ideal _ φ')
      (constant S100x256 .f32 0x00000000#32) = e2 (mulN A B) := by
  funext j; pointwise [e2]; exact coe_dot _ _

theorem dot_self (A B : Mat 100 32) :
    matmul dot_S100x32_S100x32_S100x100_1_1_0_0_n_n none (e2 A : FVec Ideal _ φ) (e2 B : FVec Ideal _ φ')
      (constant S100x100 .f32 0x00000000#32) = e2 (mulT A B) := by
  funext j; pointwise [e2]; exact coe_dot _ _

theorem dot_selfw (A : Mat 100 100) (B : Mat 100 32) :
    matmul dot_S100x100_S100x32_S100x32_1_0_0_1_n_n none (e2 A : FVec Ideal _ φ) (e2 B : FVec Ideal _ φ')
      (constant S100x32 .f32 0x00000000#32) = e2 (mulN A B) := by
  funext j; pointwise [e2]; exact coe_dot _ _

/-- Eight columns side by side. -/
def beside1 (f : Fin 8 → Mat 100 1) : Mat 100 8 := fun i h => f h i 0

/-- Eight blocks of 32 columns side by side. -/
def beside32 (f : Fin 8 → Mat 100 32) : Mat 100 256 := fun i j => f (head j) i ⟨j.val % 32, Nat.mod_lt _ (by norm_num)⟩

theorem cat1 (f0 f1 f2 f3 f4 f5 f6 f7 : Mat 100 1) (hc) :
    concatenate S100x8 1 [⟨S100x1, (e2 f0 : FVec Ideal _ φ)⟩, ⟨S100x1, (e2 f1 : FVec Ideal _ φ)⟩, ⟨S100x1, (e2 f2 : FVec Ideal _ φ)⟩,
      ⟨S100x1, (e2 f3 : FVec Ideal _ φ)⟩, ⟨S100x1, (e2 f4 : FVec Ideal _ φ)⟩, ⟨S100x1, (e2 f5 : FVec Ideal _ φ)⟩,
      ⟨S100x1, (e2 f6 : FVec Ideal _ φ)⟩, ⟨S100x1, (e2 f7 : FVec Ideal _ φ)⟩] hc
      = (e2 (beside1 ![f0, f1, f2, f3, f4, f5, f6, f7]) : FVec Ideal _ φ) := by
  funext j
  obtain ⟨i, h, rfl⟩ : ∃ i h, j = ix2 i h := ⟨_, _, eq_ix2 j⟩
  fin_cases h <;> pointwise [e2, beside1]

theorem cat32 (f0 f1 f2 f3 f4 f5 f6 f7 : Mat 100 32) (hc) :
    concatenate S100x256 1 [⟨S100x32, (e2 f0 : FVec Ideal _ φ)⟩, ⟨S100x32, (e2 f1 : FVec Ideal _ φ)⟩, ⟨S100x32, (e2 f2 : FVec Ideal _ φ)⟩,
      ⟨S100x32, (e2 f3 : FVec Ideal _ φ)⟩, ⟨S100x32, (e2 f4 : FVec Ideal _ φ)⟩, ⟨S100x32, (e2 f5 : FVec Ideal _ φ)⟩,
      ⟨S100x32, (e2 f6 : FVec Ideal _ φ)⟩, ⟨S100x32, (e2 f7 : FVec Ideal _ φ)⟩] hc
      = (e2 (beside32 ![f0, f1, f2, f3, f4, f5, f6, f7]) : FVec Ideal _ φ) := by
  funext j
  obtain ⟨i, c, rfl⟩ : ∃ i c, j = ix2 i c := ⟨_, _, eq_ix2 j⟩
  obtain ⟨h, e, rfl⟩ : ∃ h e, c = col h e := ⟨_, _, (col_head c).symm⟩
  have hr : (e2 (beside32 ![f0, f1, f2, f3, f4, f5, f6, f7]) : FVec Ideal _ φ) (ix2 i (col h e))
      = ((![f0, f1, f2, f3, f4, f5, f6, f7] h i e : ℝ) : EReal) := by
    refine congrArg Real.toEReal ?_
    show beside32 _ i (col h e) = _
    unfold beside32; rw [head_col]
    exact congrArg _ (Fin.ext (by simp only [col]; omega))
  rw [hr]
  have he := e.isLt
  fin_cases h <;>
    (pointwise [e2, col] <;>
      ((repeat rw [dif_neg (by omega)])
       (try rw [dif_pos (by omega)])
       refine congrArg Real.toEReal (congrArg _ (Fin.ext ?_))
       dsimp only; omega))

theorem max_5000 (A : Mat 100 5000) (ax) (hax : ax = [1]) (h) (hφ : FTy.f32 = FTy.f32 ∨ FTy.f32 = FTy.bf16)
    (acc : BitVec FTy.f32.bits) (hacc : acc = 0xFF800000#32) :
    multiReduction .maximumf ax S100 (e2 A : FVec Ideal S100x5000 .f32) acc h hφ hacc = e1 fun i => rmax (A i) := by
  subst hacc hax; exact max_e2 A h hφ rfl
theorem sum_5000 (A : Mat 100 5000) (ax) (hax : ax = [1]) (h) (hφ : FTy.f32 = FTy.f32 ∨ FTy.f32 = FTy.bf16)
    (acc : BitVec FTy.f32.bits) (hacc : acc = 0x00000000#32) :
    multiReduction .add ax S100 (e2 A : FVec Ideal S100x5000 .f32) acc h hφ hacc = e1 fun i => ∑ k, A i k := by
  subst hacc hax; exact sum_e2 A h hφ rfl
theorem max_100 (A : Mat 100 100) (ax) (hax : ax = [1]) (h) (hφ : FTy.f32 = FTy.f32 ∨ FTy.f32 = FTy.bf16)
    (acc : BitVec FTy.f32.bits) (hacc : acc = 0xFF800000#32) :
    multiReduction .maximumf ax S100 (e2 A : FVec Ideal S100x100 .f32) acc h hφ hacc = e1 fun i => rmax (A i) := by
  subst hacc hax; exact max_e2 A h hφ rfl
theorem sum_100 (A : Mat 100 100) (ax) (hax : ax = [1]) (h) (hφ : FTy.f32 = FTy.f32 ∨ FTy.f32 = FTy.bf16)
    (acc : BitVec FTy.f32.bits) (hacc : acc = 0x00000000#32) :
    multiReduction .add ax S100 (e2 A : FVec Ideal S100x100 .f32) acc h hφ hacc = e1 fun i => ∑ k, A i k := by
  subst hacc hax; exact sum_e2 A h hφ rfl
theorem sum_256 (A : Mat 100 256) (ax) (hax : ax = [1]) (h) (hφ : FTy.f32 = FTy.f32 ∨ FTy.f32 = FTy.bf16)
    (acc : BitVec FTy.f32.bits) (hacc : acc = 0x00000000#32) :
    multiReduction .add ax S100 (e2 A : FVec Ideal S100x256 .f32) acc h hφ hacc = e1 fun i => ∑ k, A i k := by
  subst hacc hax; exact sum_e2 A h hφ rfl

end Cert.Vec
-- ==== Proof.Chunk.lean ====
/-
  One chunk of the online softmax: what the body's three stores of a group (running maximum, running sum, running
  weighted values) hold, on arrays of real numbers.
-/
module

public import proofs.«01_k».proof.Proof.KernelVec

@[expose] public section

set_option maxRecDepth 16384

noncomputable section

namespace Cert.Chunk

open Idealize.ShloMosaic Cert.Plain Cert.Vec Cert.KernelIdeal Cert.KernelIdeal.Gen

/-- The score of query row `i` against row `k` of the chunk in head `h`; the keys are held transposed. -/
def sc (K : Mat 256 5000) (Q : Mat 100 256) (h : Fin 8) (i : Fin 100) (k : Fin 5000) : ℝ :=
  ∑ e, Q i (col h e) * K (col h e) k

/-- The running maximum after the chunk. -/
def newM (K : Mat 256 5000) (Q : Mat 100 256) (M : Mat 100 8) : Mat 100 8 :=
  fun i h => max (M i h) (rmax (sc K Q h i))

/-- The running sum of exponentials after the chunk. -/
def newL (K : Mat 256 5000) (Q : Mat 100 256) (M L : Mat 100 8) : Mat 100 8 :=
  fun i h => L i h * Real.exp (M i h - newM K Q M i h) + ∑ k, Real.exp (sc K Q h i k - newM K Q M i h)

/-- The running weighted values after the chunk. -/
def newA (K : Mat 256 5000) (V : Mat 5000 256) (Q : Mat 100 256) (M : Mat 100 8) (A : Mat 100 256) : Mat 100 256 :=
  fun i j => A i j * Real.exp (M i (head j) - newM K Q M i (head j))
    + ∑ k, Real.exp (sc K Q (head j) i k - newM K Q M i (head j)) * V k j

theorem columns (c0 c1 c2 c3 c4 c5 c6 c7 : Mat 100 1) (x : FVec Ideal S100x1 .f32) (hx : x = e2 c7) (h) (h') :
    shapeCast S1x100x8 (concatenate S100x8 1 [⟨S100x1, (e2 c0 : FVec Ideal _ .f32)⟩, ⟨S100x1, (e2 c1 : FVec Ideal _ .f32)⟩,
      ⟨S100x1, (e2 c2 : FVec Ideal _ .f32)⟩, ⟨S100x1, (e2 c3 : FVec Ideal _ .f32)⟩, ⟨S100x1, (e2 c4 : FVec Ideal _ .f32)⟩,
      ⟨S100x1, (e2 c5 : FVec Ideal _ .f32)⟩, ⟨S100x1, (e2 c6 : FVec Ideal _ .f32)⟩, ⟨S100x1, x⟩] h) h'
      = (e3 fun _ => beside1 ![c0, c1, c2, c3, c4, c5, c6, c7] : FVec Ideal S1x100x8 .f32) := by
  rw [hx, cat1, cast_to1mn]

theorem blocks (c0 c1 c2 c3 c4 c5 c6 c7 : Mat 100 32) (x : FVec Ideal S100x32 .f32) (hx : x = e2 c7) (h) (h') :
    shapeCast S1x100x256 (concatenate S100x256 1 [⟨S100x32, (e2 c0 : FVec Ideal _ .f32)⟩, ⟨S100x32, (e2 c1 : FVec Ideal _ .f32)⟩,
      ⟨S100x32, (e2 c2 : FVec Ideal _ .f32)⟩, ⟨S100x32, (e2 c3 : FVec Ideal _ .f32)⟩, ⟨S100x32, (e2 c4 : FVec Ideal _ .f32)⟩,
      ⟨S100x32, (e2 c5 : FVec Ideal _ .f32)⟩, ⟨S100x32, (e2 c6 : FVec Ideal _ .f32)⟩, ⟨S100x32, x⟩] h) h'
      = (e3 fun _ => beside32 ![c0, c1, c2, c3, c4, c5, c6, c7] : FVec Ideal S1x100x256 .f32) := by
  rw [hx, cat32, cast_to1mn]

/-- Eight blocks of 32 columns are a matrix when each of them is the matrix's columns of that head. -/
theorem eight (f : Fin 8 → Mat 100 32) (A : Mat 100 256) (h : ∀ h i e, f h i e = A i (col h e)) : beside32 f = A := by
  funext i j
  rw [← col_head j, ← h]
  show f (head (col _ _)) i _ = _
  rw [head_col]
  refine congrArg _ (Fin.ext ?_)
  simp only [col]; omega

section Group0

variable (Wk Wv : Fin 1 → Mat 256 256) (X : Fin 1 → Fin 1 → Fin 1 → Mat 5000 256) (Q : Fin 1 → Mat 100 256)
  (M L : Fin 1 → Mat 100 8) (A : Fin 1 → Mat 100 256)

theorem p97 : k0_pay97 (F := Ideal) (e3 (φ := .bf16) Wk) (e5 (φ := .bf16) X) = e2 (mulT (Wk 0) (X 0 0 0)) := by
  simp only [k0_pay97, k0_pay94, k0_pay96, cast_1mn, cast_111mn, dot_keys, truncf_e2]
theorem p98 : k0_pay98 (F := Ideal) (e3 (φ := .bf16) Wv) (e5 (φ := .bf16) X) = e2 (mulT (X 0 0 0) (Wv 0)) := by
  simp only [k0_pay98, k0_pay95, k0_pay96, cast_1mn, cast_111mn, dot_values, truncf_e2]
theorem p99 : k0_pay99 (F := Ideal) (e3 (φ := .f32) Q) = e2 (Q 0) := by
  simp only [k0_pay99, cast_1mn, truncf_e2]
theorem p100 : k0_pay100 (F := Ideal) (e3 (φ := .f32) M) = e2 (M 0) := by
  simp only [k0_pay100, cast_1mn]
theorem p101 : k0_pay101 (F := Ideal) (e3 (φ := .f32) L) = e2 (L 0) := by
  simp only [k0_pay101, cast_1mn]
theorem p102 : k0_pay102 (F := Ideal) (e3 (φ := .f32) A) = e2 (A 0) := by
  simp only [k0_pay102, cast_1mn]

variable (K : Mat 256 5000) (q : Mat 100 256) (μ l : Mat 100 8) (V : Mat 5000 256) (a : Mat 100 256)

theorem p157 : k0_pay157 (F := Ideal) (e2 K) (e2 q) (e2 μ) = e2 fun i _ => newM K q μ i 7 := by
  simp (disch := first | omega | rfl) only [k0_pay157, k0_pay155, k0_pay156,
    slice_cols, slice_rows, dot_scores, max_5000, cast_col, maximumf_e2]
  refine congrArg e2 (funext fun i => funext fun j => ?_)
  obtain rfl : j = 0 := Subsingleton.elim _ _
  rfl

theorem p160 (c0 c1 c2 c3 c4 c5 c6 : Mat 100 1) : k0_pay160 (F := Ideal) (e2 K) (e2 q) (e2 μ) (e2 c0) (e2 c1) (e2 c2) (e2 c3) (e2 c4) (e2 c5) (e2 c6)
      = e3 fun _ => beside1 ![c0, c1, c2, c3, c4, c5, c6, fun i _ => newM K q μ i 7] := by
  unfold k0_pay160
  dsimp only
  rw [p157, cat1, cast_to1mn]

theorem m0 : k0_pay160 (F := Ideal) (e2 (mulT (Wk 0) (X 0 0 0))) (e2 (Q 0)) (e2 (M 0))
      (k0_pay105 (e3 (φ := .bf16) Wk) (e5 (φ := .bf16) X) (e3 (φ := .f32) Q) (e3 (φ := .f32) M))
      (k0_pay113 (e2 (mulT (Wk 0) (X 0 0 0))) (e2 (Q 0)) (e2 (M 0))) (k0_pay120 (e2 (mulT (Wk 0) (X 0 0 0))) (e2 (Q 0)) (e2 (M 0)))
      (k0_pay127 (e2 (mulT (Wk 0) (X 0 0 0))) (e2 (Q 0)) (e2 (M 0))) (k0_pay134 (e2 (mulT (Wk 0) (X 0 0 0))) (e2 (Q 0)) (e2 (M 0)))
      (k0_pay143 (e2 (mulT (Wk 0) (X 0 0 0))) (e2 (Q 0)) (e2 (M 0))) (k0_pay150 (e2 (mulT (Wk 0) (X 0 0 0))) (e2 (Q 0)) (e2 (M 0)))
      = e3 fun _ => newM (mulT (Wk 0) (X 0 0 0)) (Q 0) (M 0) := by
  simp (disch := first | omega | rfl) only [k0_pay105, k0_pay103, k0_pay104, k0_pay113, k0_pay111, k0_pay112, k0_pay120, k0_pay118, k0_pay119, k0_pay127, k0_pay125, k0_pay126,
    k0_pay134, k0_pay132, k0_pay133, k0_pay143, k0_pay141, k0_pay142, k0_pay150, k0_pay148, k0_pay149, p97, p99, p100,
    slice_cols, slice_rows, dot_scores, max_5000, cast_col, maximumf_e2, p160]
  refine congrArg e3 (funext fun _ => funext fun i => funext fun h => ?_)
  fin_cases h <;> rfl

/-- The column of head 7 of the new running sum, written beside the seven columns before it. -/
theorem p161 (c0 c1 c2 c3 c4 c5 c6 : Mat 100 1) : k0_pay161 (F := Ideal) (e2 K) (e2 q) (e2 μ) (e2 l) (e2 c0) (e2 c1) (e2 c2) (e2 c3) (e2 c4) (e2 c5) (e2 c6)
      = e3 fun _ => beside1 ![c0, c1, c2, c3, c4, c5, c6, fun i _ => newL K q μ l i 7] := by
  unfold k0_pay161
  refine columns c0 c1 c2 c3 c4 c5 c6 _ _ ?_ _ _
  simp (disch := first | omega | rfl) only [k0_pay159, k0_pay158, p157, k0_pay155, k0_pay156,
    slice_cols, slice_rows, dot_scores, sum_5000, cast_col, bcast_col, subf_e2, exp_e2, mulf_e2, addf_e2]
  refine congrArg e2 (funext fun i => funext fun j => ?_)
  obtain rfl : j = 0 := Subsingleton.elim _ _
  rfl

theorem p162 (c0 c1 c2 c3 c4 c5 c6 : Mat 100 32) : k0_pay162 (F := Ideal) (e2 K) (e2 V) (e2 q) (e2 μ) (e2 a) (e2 c0) (e2 c1) (e2 c2) (e2 c3) (e2 c4) (e2 c5) (e2 c6)
      = e3 fun _ => beside32 ![c0, c1, c2, c3, c4, c5, c6, fun i e => newA K V q μ a i (col 7 e)] := by
  unfold k0_pay162
  refine blocks c0 c1 c2 c3 c4 c5 c6 _ _ ?_ _ _
  simp (disch := first | omega | rfl) only [k0_pay159, k0_pay158, p157, k0_pay155, k0_pay156,
    slice_cols, slice_rows, dot_scores, dot_weigh, sum_5000, cast_col, bcast_col, subf_e2, exp_e2, mulf_e2, addf_e2, truncf_e2]
  refine congrArg e2 (funext fun i => funext fun j => ?_)
  simp only [newA, head_col]
  rfl

theorem l0 : k0_pay161 (F := Ideal) (e2 (mulT (Wk 0) (X 0 0 0))) (e2 (Q 0)) (e2 (M 0)) (e2 (L 0))
      (k0_pay109 (k0_pay106 (e3 (φ := .bf16) Wk) (e5 (φ := .bf16) X) (e3 (φ := .f32) Q) (e3 (φ := .f32) M))
        (k0_pay108 (e3 (φ := .bf16) Wk) (e5 (φ := .bf16) X) (e3 (φ := .f32) Q) (e3 (φ := .f32) M) (e3 (φ := .f32) L)))
      (k0_pay116 (e2 (mulT (Wk 0) (X 0 0 0))) (e2 (Q 0)) (e2 (M 0)) (e2 (L 0))) (k0_pay123 (e2 (mulT (Wk 0) (X 0 0 0))) (e2 (Q 0)) (e2 (M 0)) (e2 (L 0)))
      (k0_pay130 (e2 (mulT (Wk 0) (X 0 0 0))) (e2 (Q 0)) (e2 (M 0)) (e2 (L 0))) (k0_pay137 (e2 (mulT (Wk 0) (X 0 0 0))) (e2 (Q 0)) (e2 (M 0)) (e2 (L 0)))
      (k0_pay146 (e2 (mulT (Wk 0) (X 0 0 0))) (e2 (Q 0)) (e2 (M 0)) (e2 (L 0))) (k0_pay153 (e2 (mulT (Wk 0) (X 0 0 0))) (e2 (Q 0)) (e2 (M 0)) (e2 (L 0)))
      = e3 fun _ => newL (mulT (Wk 0) (X 0 0 0)) (Q 0) (M 0) (L 0) := by
  simp (disch := first | omega | rfl) only [k0_pay103, k0_pay104, k0_pay105, k0_pay106, k0_pay107, k0_pay108, k0_pay109,
    k0_pay111, k0_pay112, k0_pay113, k0_pay114, k0_pay115, k0_pay116, k0_pay118, k0_pay119, k0_pay120, k0_pay121, k0_pay122, k0_pay123,
    k0_pay125, k0_pay126, k0_pay127, k0_pay128, k0_pay129, k0_pay130, k0_pay132, k0_pay133, k0_pay134, k0_pay135, k0_pay136, k0_pay137,
    k0_pay141, k0_pay142, k0_pay143, k0_pay144, k0_pay145, k0_pay146, k0_pay148, k0_pay149, k0_pay150, k0_pay151, k0_pay152, k0_pay153,
    p97, p99, p100, p101, slice_cols, slice_rows, dot_scores, max_5000, sum_5000, cast_col, bcast_col, maximumf_e2, subf_e2, exp_e2, mulf_e2,
    addf_e2, p161]
  refine congrArg e3 (funext fun _ => funext fun i => funext fun h => ?_)
  fin_cases h <;> rfl

theorem a0 : k0_pay162 (F := Ideal) (e2 (mulT (Wk 0) (X 0 0 0))) (e2 (mulT (X 0 0 0) (Wv 0))) (e2 (Q 0)) (e2 (M 0)) (e2 (A 0))
      (k0_pay110 (e2 (mulT (X 0 0 0) (Wv 0))) (e2 (A 0)) (k0_pay106 (e3 (φ := .bf16) Wk) (e5 (φ := .bf16) X) (e3 (φ := .f32) Q) (e3 (φ := .f32) M)) (k0_pay107 (e3 (φ := .bf16) Wk) (e5 (φ := .bf16) X) (e3 (φ := .f32) Q) (e3 (φ := .f32) M)))
      (k0_pay117 (e2 (mulT (Wk 0) (X 0 0 0))) (e2 (mulT (X 0 0 0) (Wv 0))) (e2 (Q 0)) (e2 (M 0)) (e2 (A 0)))
      (k0_pay124 (e2 (mulT (X 0 0 0) (Wv 0))) (e2 (A 0)) (k0_pay121 (e2 (mulT (Wk 0) (X 0 0 0))) (e2 (Q 0)) (e2 (M 0))) (k0_pay122 (e2 (mulT (Wk 0) (X 0 0 0))) (e2 (Q 0)) (e2 (M 0))))
      (k0_pay131 (e2 (mulT (Wk 0) (X 0 0 0))) (e2 (mulT (X 0 0 0) (Wv 0))) (e2 (Q 0)) (e2 (M 0)) (e2 (A 0)))
      (k0_pay140 (e2 (mulT (X 0 0 0) (Wv 0))) (k0_pay138 (e2 (mulT (Wk 0) (X 0 0 0))) (e2 (Q 0)) (e2 (M 0)) (e2 (A 0))) (k0_pay139 (e2 (mulT (Wk 0) (X 0 0 0))) (e2 (Q 0)) (e2 (M 0))))
      (k0_pay147 (e2 (mulT (Wk 0) (X 0 0 0))) (e2 (mulT (X 0 0 0) (Wv 0))) (e2 (Q 0)) (e2 (M 0)) (e2 (A 0)))
      (k0_pay154 (e2 (mulT (Wk 0) (X 0 0 0))) (e2 (mulT (X 0 0 0) (Wv 0))) (e2 (Q 0)) (e2 (M 0)) (e2 (A 0)))
      = e3 fun _ => newA (mulT (Wk 0) (X 0 0 0)) (mulT (X 0 0 0) (Wv 0)) (Q 0) (M 0) (A 0) := by
  simp (disch := first | omega | rfl) only [k0_pay103, k0_pay104, k0_pay105, k0_pay106, k0_pay107, k0_pay110,
    k0_pay111, k0_pay112, k0_pay113, k0_pay114, k0_pay115, k0_pay117, k0_pay118, k0_pay119, k0_pay120, k0_pay121, k0_pay122, k0_pay124,
    k0_pay125, k0_pay126, k0_pay127, k0_pay128, k0_pay129, k0_pay131, k0_pay132, k0_pay133, k0_pay134, k0_pay135, k0_pay136, k0_pay138,
    k0_pay139, k0_pay140, k0_pay141, k0_pay142, k0_pay143, k0_pay144, k0_pay145, k0_pay147, k0_pay148, k0_pay149, k0_pay150, k0_pay151,
    k0_pay152, k0_pay154, p97, p99, p100, slice_cols, slice_rows, dot_scores, dot_weigh, max_5000, cast_col, bcast_col, maximumf_e2,
    subf_e2, exp_e2, mulf_e2, addf_e2, truncf_e2, p162]
  refine congrArg e3 (funext fun _ => eight _ _ ?_)
  intro h i e
  simp only [newA, head_col]
  fin_cases h <;> rfl

end Group0

section Group1

variable (Wk Wv : Fin 1 → Mat 256 256) (X : Fin 1 → Fin 1 → Fin 1 → Mat 5000 256) (Q : Fin 1 → Mat 100 256)
  (M L : Fin 1 → Mat 100 8) (A : Fin 1 → Mat 100 256)

theorem p94 : k0_pay94 (F := Ideal) (e3 (φ := .bf16) Wk) = e2 (Wk 0) := by
  simp only [k0_pay94, cast_1mn]
theorem p95 : k0_pay95 (F := Ideal) (e3 (φ := .bf16) Wv) = e2 (Wv 0) := by
  simp only [k0_pay95, cast_1mn]
theorem p163 : k0_pay163 (F := Ideal) (e5 (φ := .bf16) X) = e2 (X 0 0 0) := by
  simp only [k0_pay163, cast_111mn]
theorem p164 (W : Mat 256 256) (Y : Mat 5000 256) : k0_pay164 (F := Ideal) (e2 W) (e2 Y) (constant S256x5000 .f32 0x00000000#32) = e2 (mulT W Y) := by
  simp only [k0_pay164, dot_keys, truncf_e2]
theorem p165 (W : Mat 256 256) (Y : Mat 5000 256) : k0_pay165 (F := Ideal) (e2 W) (e2 Y) = e2 (mulT Y W) := by
  simp only [k0_pay165, dot_values, truncf_e2]
theorem p166 : k0_pay166 (F := Ideal) (e3 (φ := .f32) Q) = e2 (Q 0) := by
  simp only [k0_pay166, cast_1mn, truncf_e2]
theorem p167 : k0_pay167 (F := Ideal) (e3 (φ := .f32) M) = e2 (M 0) := by
  simp only [k0_pay167, cast_1mn]
theorem p168 : k0_pay168 (F := Ideal) (e3 (φ := .f32) L) = e2 (L 0) := by
  simp only [k0_pay168, cast_1mn]
theorem p169 : k0_pay169 (F := Ideal) (e3 (φ := .f32) A) = e2 (A 0) := by
  simp only [k0_pay169, cast_1mn]

theorem m1 : k0_pay227 (F := Ideal) (k0_pay172 (e2 (Wk 0)) (e2 (X 0 0 0)) (constant S256x5000 .f32 0x00000000#32) (e3 (φ := .f32) Q) (e3 (φ := .f32) M))
      (k0_pay179 (k0_pay177 (e2 (Wk 0)) (e2 (X 0 0 0)) (constant S256x5000 .f32 0x00000000#32) (e3 (φ := .f32) Q)) (k0_pay178 (e3 (φ := .f32) M))) (k0_pay186 (e2 (mulT (Wk 0) (X 0 0 0))) (e2 (Q 0)) (e2 (M 0))) (k0_pay193 (e2 (mulT (Wk 0) (X 0 0 0))) (e2 (Q 0)) (e2 (M 0))) (k0_pay201 (e2 (mulT (Wk 0) (X 0 0 0))) (e2 (Q 0)) (e2 (M 0)))
      (k0_pay208 (e2 (mulT (Wk 0) (X 0 0 0))) (e2 (Q 0)) (e2 (M 0))) (k0_pay215 (e2 (mulT (Wk 0) (X 0 0 0))) (e2 (Q 0)) (e2 (M 0))) (k0_pay222 (e2 (mulT (Wk 0) (X 0 0 0))) (e2 (Q 0)) (e2 (M 0)))
      = e3 fun _ => newM (mulT (Wk 0) (X 0 0 0)) (Q 0) (M 0) := by
  simp (disch := first | omega | rfl) only [k0_pay170, k0_pay171, k0_pay172, k0_pay173, k0_pay174, k0_pay177, k0_pay178, k0_pay179, k0_pay180, k0_pay181, k0_pay184, k0_pay185, k0_pay186, k0_pay187, k0_pay188, k0_pay191, k0_pay192, k0_pay193, k0_pay194, k0_pay195, k0_pay196, k0_pay199, k0_pay200, k0_pay201, k0_pay202, k0_pay203, k0_pay206, k0_pay207, k0_pay208, k0_pay209, k0_pay210, k0_pay213, k0_pay214, k0_pay215, k0_pay216, k0_pay217, k0_pay220, k0_pay221, k0_pay222, k0_pay223, k0_pay224,
    p164, p165, p166, p167, p168, slice_cols, slice_rows, dot_scores, dot_weigh, max_5000, sum_5000, cast_col, bcast_col,
    maximumf_e2, subf_e2, exp_e2, mulf_e2, addf_e2, truncf_e2]
  unfold k0_pay227
  refine (columns _ _ _ _ _ _ _ _ _ rfl _ _).trans ?_
  refine congrArg e3 (funext fun _ => funext fun i => funext fun h => ?_)
  fin_cases h <;> rfl

theorem l1 : k0_pay228 (F := Ideal) (k0_pay175 (e2 (Wk 0)) (e2 (X 0 0 0)) (constant S256x5000 .f32 0x00000000#32) (e3 (φ := .f32) Q) (e3 (φ := .f32) M) (e3 (φ := .f32) L))
      (k0_pay182 (e2 (L 0)) (k0_pay177 (e2 (Wk 0)) (e2 (X 0 0 0)) (constant S256x5000 .f32 0x00000000#32) (e3 (φ := .f32) Q)) (k0_pay178 (e3 (φ := .f32) M))) (k0_pay189 (e2 (mulT (Wk 0) (X 0 0 0))) (e2 (Q 0)) (e2 (M 0)) (e2 (L 0))) (k0_pay197 (e2 (L 0)) (k0_pay191 (e2 (mulT (Wk 0) (X 0 0 0))) (e2 (Q 0))) (k0_pay192 (e2 (M 0))) (k0_pay193 (e2 (mulT (Wk 0) (X 0 0 0))) (e2 (Q 0)) (e2 (M 0))) (k0_pay194 (e2 (mulT (Wk 0) (X 0 0 0))) (e2 (Q 0)) (e2 (M 0)))) (k0_pay204 (e2 (mulT (Wk 0) (X 0 0 0))) (e2 (Q 0)) (e2 (M 0)) (e2 (L 0)))
      (k0_pay211 (e2 (L 0)) (k0_pay209 (e2 (mulT (Wk 0) (X 0 0 0))) (e2 (Q 0)) (e2 (M 0))) (k0_pay210 (e2 (mulT (Wk 0) (X 0 0 0))) (e2 (Q 0)) (e2 (M 0)))) (k0_pay218 (e2 (mulT (Wk 0) (X 0 0 0))) (e2 (Q 0)) (e2 (M 0)) (e2 (L 0))) (k0_pay225 (e2 (mulT (Wk 0) (X 0 0 0))) (e2 (Q 0)) (e2 (M 0)) (e2 (L 0))) (k0_pay226 (e2 (mulT (Wk 0) (X 0 0 0))) (e2 (Q 0)) (e2 (M 0)))
      = e3 fun _ => newL (mulT (Wk 0) (X 0 0 0)) (Q 0) (M 0) (L 0) := by
  simp (disch := first | omega | rfl) only [k0_pay170, k0_pay171, k0_pay172, k0_pay173, k0_pay174, k0_pay175, k0_pay177, k0_pay178, k0_pay179, k0_pay180, k0_pay181, k0_pay182, k0_pay184, k0_pay185, k0_pay186, k0_pay187, k0_pay188, k0_pay189, k0_pay191, k0_pay192, k0_pay193, k0_pay194, k0_pay195, k0_pay196, k0_pay197, k0_pay199, k0_pay200, k0_pay201, k0_pay202, k0_pay203, k0_pay204, k0_pay206, k0_pay207, k0_pay208, k0_pay209, k0_pay210, k0_pay211, k0_pay213, k0_pay214, k0_pay215, k0_pay216, k0_pay217, k0_pay218, k0_pay220, k0_pay221, k0_pay222, k0_pay223, k0_pay224, k0_pay225, k0_pay226,
    p164, p165, p166, p167, p168, slice_cols, slice_rows, dot_scores, dot_weigh, max_5000, sum_5000, cast_col, bcast_col,
    maximumf_e2, subf_e2, exp_e2, mulf_e2, addf_e2, truncf_e2]
  unfold k0_pay228
  refine (columns _ _ _ _ _ _ _ _ _ (by simp only [cast_col, addf_e2]; rfl) _ _).trans ?_
  refine congrArg e3 (funext fun _ => funext fun i => funext fun h => ?_)
  fin_cases h <;> rfl

theorem a1 : k0_pay229 (F := Ideal) (e2 (mulT (X 0 0 0) (Wv 0))) (e2 (A 0)) (k0_pay176 (e2 (Wk 0)) (e2 (Wv 0)) (e2 (X 0 0 0)) (constant S256x5000 .f32 0x00000000#32) (e3 (φ := .f32) Q) (e3 (φ := .f32) M) (e3 (φ := .f32) A))
      (k0_pay183 (e2 (mulT (X 0 0 0) (Wv 0))) (e2 (A 0)) (k0_pay177 (e2 (Wk 0)) (e2 (X 0 0 0)) (constant S256x5000 .f32 0x00000000#32) (e3 (φ := .f32) Q)) (k0_pay178 (e3 (φ := .f32) M))) (k0_pay190 (e2 (mulT (Wk 0) (X 0 0 0))) (e2 (mulT (X 0 0 0) (Wv 0))) (e2 (Q 0)) (e2 (M 0)) (e2 (A 0))) (k0_pay198 (e2 (mulT (X 0 0 0) (Wv 0))) (e2 (A 0)) (k0_pay191 (e2 (mulT (Wk 0) (X 0 0 0))) (e2 (Q 0))) (k0_pay192 (e2 (M 0))) (k0_pay193 (e2 (mulT (Wk 0) (X 0 0 0))) (e2 (Q 0)) (e2 (M 0))) (k0_pay194 (e2 (mulT (Wk 0) (X 0 0 0))) (e2 (Q 0)) (e2 (M 0)))) (k0_pay205 (e2 (mulT (Wk 0) (X 0 0 0))) (e2 (mulT (X 0 0 0) (Wv 0))) (e2 (Q 0)) (e2 (M 0)) (e2 (A 0)))
      (k0_pay212 (e2 (mulT (X 0 0 0) (Wv 0))) (e2 (A 0)) (k0_pay209 (e2 (mulT (Wk 0) (X 0 0 0))) (e2 (Q 0)) (e2 (M 0))) (k0_pay210 (e2 (mulT (Wk 0) (X 0 0 0))) (e2 (Q 0)) (e2 (M 0)))) (k0_pay219 (e2 (mulT (Wk 0) (X 0 0 0))) (e2 (mulT (X 0 0 0) (Wv 0))) (e2 (Q 0)) (e2 (M 0)) (e2 (A 0))) (k0_pay223 (e2 (mulT (Wk 0) (X 0 0 0))) (e2 (Q 0)) (e2 (M 0))) (k0_pay224 (e2 (mulT (Wk 0) (X 0 0 0))) (e2 (Q 0)) (e2 (M 0)))
      = e3 fun _ => newA (mulT (Wk 0) (X 0 0 0)) (mulT (X 0 0 0) (Wv 0)) (Q 0) (M 0) (A 0) := by
  simp (disch := first | omega | rfl) only [k0_pay170, k0_pay171, k0_pay172, k0_pay173, k0_pay174, k0_pay176, k0_pay177, k0_pay178, k0_pay179, k0_pay180, k0_pay181, k0_pay183, k0_pay184, k0_pay185, k0_pay186, k0_pay187, k0_pay188, k0_pay190, k0_pay191, k0_pay192, k0_pay193, k0_pay194, k0_pay195, k0_pay196, k0_pay198, k0_pay199, k0_pay200, k0_pay201, k0_pay202, k0_pay203, k0_pay205, k0_pay206, k0_pay207, k0_pay208, k0_pay209, k0_pay210, k0_pay212, k0_pay213, k0_pay214, k0_pay215, k0_pay216, k0_pay217, k0_pay219, k0_pay220, k0_pay221, k0_pay222, k0_pay223, k0_pay224,
    p169, p164, p165, p166, p167, p168, slice_cols, slice_rows, dot_scores, dot_weigh, max_5000, sum_5000, cast_col, bcast_col,
    maximumf_e2, subf_e2, exp_e2, mulf_e2, addf_e2, truncf_e2]
  unfold k0_pay229
  refine (blocks _ _ _ _ _ _ _ _ _ (by simp (disch := first | omega | rfl) only [slice_cols, dot_weigh, bcast_col, mulf_e2, truncf_e2, addf_e2]; rfl) _ _).trans ?_
  refine congrArg e3 (funext fun _ => eight _ _ ?_)
  intro h i e
  simp only [newA, head_col]
  fin_cases h <;> rfl

end Group1

end Cert.Chunk
-- ==== Proof.Layer.lean ====
/-
  The end of a layer as the body computes it: from the running sums of the cross-attention to the queries of the next
  layer, on arrays of real numbers, for the first group of the pair.
-/
module

public import proofs.«01_k».proof.Proof.Chunk

@[expose] public section

set_option maxRecDepth 16384

noncomputable section

namespace Cert.Layer

open Idealize.ShloMosaic Cert.Plain Cert.Vec Cert.Consts Cert.Chunk Cert.KernelIdeal Cert.KernelIdeal.Gen

/-! ## Constants spread over an array -/

theorem bc_one : broadcast S100x1 (Scalar.ofBits (F := Ideal) .f32 0x3F800000#32) = e2 fun _ _ => 1 := by
  funext _; exact f32_one
theorem bc_256 : broadcast S100x1 (Scalar.ofBits (F := Ideal) .f32 0x43800000#32) = e2 fun _ _ => 256 := by
  funext _; exact f32_256
theorem bc_eps : broadcast S100x1 (Scalar.ofBits (F := Ideal) .f32 0x3727C5AC#32) = e2 fun _ _ => eps := by
  funext _; exact f32_eps
theorem bc_zero : broadcast S100x1024 (Scalar.ofBits (F := Ideal) .f32 0x00000000#32) = e2 fun _ _ => 0 := by
  funext _; exact f32_zero
theorem bc_scale : broadcast S100x100 (Named.named (F := Ideal) κ "inv_sqrt_dh" (φ := .f32) 0x3E3504F3#32) = e2 fun _ _ => (√32)⁻¹ := by
  funext _; exact scale
theorem bc_scaleq : broadcast S100x256 (Named.named (F := Ideal) κ "inv_sqrt_dh" (φ := .f32) 0x3E3504F3#32) = e2 fun _ _ => (√32)⁻¹ := by
  funext _; exact scale

/-! ## Eight blocks side by side -/

/-- Eight blocks of 32 columns laid side by side. -/
def cat (x0 x1 x2 x3 x4 x5 x6 x7 : FVec Ideal S100x32 .f32) : FVec Ideal S100x256 .f32 :=
  concatenate S100x256 1 [⟨S100x32, x0⟩, ⟨S100x32, x1⟩, ⟨S100x32, x2⟩, ⟨S100x32, x3⟩, ⟨S100x32, x4⟩, ⟨S100x32, x5⟩, ⟨S100x32, x6⟩, ⟨S100x32, x7⟩]
    concatenates_S100x32_S100x32_S100x32_S100x32_S100x32_S100x32_S100x32_S100x32_S100x256_d1

theorem cat_fold (x0 x1 x2 x3 x4 x5 x6 x7 : FVec Ideal S100x32 .f32) (d) (hd : d = 1) (h) :
    concatenate S100x256 d [⟨S100x32, x0⟩, ⟨S100x32, x1⟩, ⟨S100x32, x2⟩, ⟨S100x32, x3⟩, ⟨S100x32, x4⟩, ⟨S100x32, x5⟩, ⟨S100x32, x6⟩, ⟨S100x32, x7⟩] h
      = cat x0 x1 x2 x3 x4 x5 x6 x7 := by subst hd; rfl

theorem cat_e2 (f0 f1 f2 f3 f4 f5 f6 f7 : Mat 100 32) :
    cat (e2 f0) (e2 f1) (e2 f2) (e2 f3) (e2 f4) (e2 f5) (e2 f6) (e2 f7) = e2 (beside32 ![f0, f1, f2, f3, f4, f5, f6, f7]) :=
  cat32 f0 f1 f2 f3 f4 f5 f6 f7 _

/-! ## The norm -/

/-- A row less its mean, over the square root of its variance plus epsilon. -/
def centred (x : Mat 100 256) : Mat 100 256 := fun i j => (x i j - mean x i) * (√(var x i + eps))⁻¹

theorem norm_eq (x : Mat 100 256) (g b : Fin 256 → ℝ) : Plain.norm x g b = fun i j => centred x i j * g j + b j := by
  funext i j; simp only [Plain.norm, centred, div_eq_mul_inv]

theorem ne_256 : ∀ (_ : Fin 100) (_ : Fin 1), (256 : ℝ) ≠ 0 := fun _ _ => by norm_num

theorem sq_pos (f : Fin 100 → Fin 1 → Fin 256 → ℝ) : ∀ i j, 0 < (∑ k, f i j k * f i j k) / 256 + eps := fun _ _ =>
  add_pos_of_nonneg_of_pos (div_nonneg (Finset.sum_nonneg fun _ _ => mul_self_nonneg _) (by norm_num)) eps_pos

/-- `centred` on arrays, in the order the body takes. -/
def centre (x : FVec Ideal S100x256 .f32) : FVec Ideal S100x256 .f32 :=
  let μ := broadcastTo S100x256 (divf (shapeCast S100x1 (multiReduction .add [1] S100 x 0x00000000#32 reduces_S100x256_S100 (.inl rfl) rfl)
    shapeCasts_S100_S100x1) (broadcast S100x1 (Scalar.ofBits (F := Ideal) .f32 0x43800000#32))) broadcasts_S100x1_S100x256
  mulf (subf x μ) (broadcastTo S100x256 (rsqrt (addf (divf (shapeCast S100x1 (multiReduction .add [1] S100 (mulf (subf x μ) (subf x μ)) 0x00000000#32
    reduces_S100x256_S100 (.inl rfl) rfl) shapeCasts_S100_S100x1) (broadcast S100x1 (Scalar.ofBits (F := Ideal) .f32 0x43800000#32)))
    (broadcast S100x1 (Scalar.ofBits (F := Ideal) .f32 0x3727C5AC#32)))) broadcasts_S100x1_S100x256)

theorem centre_e2 (x : Mat 100 256) : centre (e2 x) = e2 (centred x) := by
  simp (disch := first | rfl | exact ne_256 | exact sq_pos _) only [centre, sum_256, cast_col, bc_256, divf_e2, bcast_col, subf_e2, mulf_e2, bc_eps, addf_e2,
    rsqrt_e2]
  rfl

/-! ## From the running sums to the queries after cross-attention -/

/-- The queries after cross-attention, from the running sums `a` and `l`. -/
def caOut (q a : Mat 100 256) (l : Mat 100 8) (bv : Fin 256 → ℝ) (wo : Mat 256 256) (bo : Fin 256 → ℝ) : Mat 100 256 :=
  fun i j => q i j + mulT (fun i j => a i j * (1 / l i (head j)) + bv j) wo i j + bo j

/-! ## Self-attention of one head -/

/-- One head of self-attention as the body takes it, its scores already scaled: softmax with the row maximum subtracted. -/
def headRaw (S : Mat 100 100) (V : Mat 100 32) : Mat 100 32 :=
  fun i e => ∑ t, Real.exp (S i t - rmax (S i)) * (1 / ∑ u, Real.exp (S i u - rmax (S i))) * V t e

theorem headRaw_eq (Q K V : Mat 100 256) (h : Fin 8) (i : Fin 100) (e : Fin 32) :
    headRaw (fun i t => (∑ e, Q i (col h e) * K t (col h e)) * (√32)⁻¹) (fun t e => V t (col h e)) i e = attend Q K V i (col h e) := by
  have hs : (fun i t => (∑ e, Q i (col h e) * K t (col h e)) * (√32)⁻¹) = score Q K h := by
    funext i t; simp only [score, div_eq_mul_inv]
  rw [hs]
  unfold headRaw attend
  rw [head_col, ← sum_weights _ _ (rmax (score Q K h i))]
  exact Finset.sum_congr rfl fun t _ => by rw [mul_one_div]

theorem pos_ne (f : Fin 100 → Fin 1 → Fin 100 → ℝ) : ∀ i j, (∑ k, Real.exp (f i j k)) ≠ 0 := fun _ _ => (expsum_pos _).ne'

/-- The queries after self-attention and before its norm. -/
def saOut (y Q K V : Mat 100 256) (wo : Mat 256 256) (bo : Fin 256 → ℝ) : Mat 100 256 :=
  fun i j => y i j + mulT (attend Q K V) wo i j + bo j

/-- The slice of the columns of head `h`. -/
def cols (h : Fin 8) (Q : Mat 100 256) : Mat 100 32 := fun i e => Q i (col h e)

/-- The feed-forward block before its norm. -/
def ffOut (x : Mat 100 256) (w1 : Mat 1024 256) (b1 : Fin 1024 → ℝ) (w2 : Mat 256 1024) (b2 : Fin 256 → ℝ) : Mat 100 256 :=
  fun i j => x i j + affine (relu (affine x w1 b1)) w2 b2 i j

section

variable (q a : Fin 1 → Mat 100 256) (l : Fin 1 → Mat 100 8) (bv bo : Fin 1 → Fin 1 → Fin 256 → ℝ) (wo : Fin 1 → Mat 256 256)

theorem caLast0 (hl : ∀ i h, l 0 i h ≠ 0) :
    k0_pay17 (F := Ideal) (k0_pay6 (e3 (φ := .f32) q)) (k0_pay7 (e3 (φ := .f32) a)) (k0_pay8 (e3 (φ := .f32) l))
      (k0_pay9 (e3 (φ := .f32) a) (e3 (φ := .f32) l)) (k0_pay10 (e3 (φ := .f32) a) (e3 (φ := .f32) l))
      (k0_pay11 (e3 (φ := .f32) a) (e3 (φ := .f32) l)) (k0_pay12 (e3 (φ := .f32) a) (e3 (φ := .f32) l))
      (k0_pay13 (e3 (φ := .f32) a) (e3 (φ := .f32) l)) (k0_pay14 (e3 (φ := .f32) a) (e3 (φ := .f32) l))
      (k0_pay15 (e3 (φ := .f32) a)) (k0_pay16 (e3 (φ := .f32) l)) (Scalar.ofBits .f32 0x3F800000#32)
      (e3 (φ := .f32) bv) (e3 (φ := .f32) wo) (e3 (φ := .f32) bo)
      = e2 (caOut (q 0) (a 0) (l 0) (bv 0 0) (wo 0) (bo 0 0)) := by
  simp (disch := first | omega | rfl | exact fun i _ => hl i _) only
    [k0_pay6, k0_pay7, k0_pay8, k0_pay9, k0_pay10, k0_pay11, k0_pay12, k0_pay13, k0_pay14, k0_pay15, k0_pay16, k0_pay17,
    cast_1mn, slice_cols, bc_one, divf_e2, bcast_col, mulf_e2, cat_fold, cat_e2, cast_11n, cast_row, bcast_row, addf_e2, dot_q]
  refine congrArg e2 (funext fun i => funext fun j => ?_)
  unfold caOut
  refine congrArg (fun x => q 0 i j + mulT x (wo 0) i j + bo 0 0 j) (funext fun i => funext fun j => congrArg (· + bv 0 0 j) ?_)
  refine congrFun (congrFun (eight _ (fun i j => a 0 i j * (1 / l 0 i (head j))) ?_) i) j
  intro h i e
  rw [head_col]
  fin_cases h <;> rfl

/-! ## The first group of the pair -/

variable (W : Fin 1 → Mat 768 256) (b : Fin 1 → Fin 1 → Fin 768 → ℝ)

theorem qkv0 (y : Mat 100 256) (x1 x2 x3 x4 x5 x6 x7 x8 x9 x10 x11 x12 x13 x14 x15)
    (h : k0_pay17 (F := Ideal) x1 x2 x3 x4 x5 x6 x7 x8 x9 x10 x11 x12 x13 x14 x15 = e2 y) :
    k0_pay19 (F := Ideal) x1 x2 x3 x4 x5 x6 x7 x8 x9 x10 x11 x12 x13 x14 x15 (e3 (φ := .f32) W) (e3 (φ := .f32) b) = e2 (affine y (third 0 (W 0)) (thirdV 0 (b 0 0)))
    ∧ k0_pay20 (F := Ideal) x1 x2 x3 x4 x5 x6 x7 x8 x9 x10 x11 x12 x13 x14 x15 (e3 (φ := .f32) W) (e3 (φ := .f32) b) = e2 (affine y (third 1 (W 0)) (thirdV 1 (b 0 0)))
    ∧ k0_pay21 (F := Ideal) x1 x2 x3 x4 x5 x6 x7 x8 x9 x10 x11 x12 x13 x14 x15 (e3 (φ := .f32) W) (e3 (φ := .f32) b) = e2 (affine y (third 2 (W 0)) (thirdV 2 (b 0 0)))
    ∧ k0_pay22 (F := Ideal) x1 x2 x3 x4 x5 x6 x7 x8 x9 x10 x11 x12 x13 x14 x15 (e3 (φ := .f32) W) (e3 (φ := .f32) b) = e2 (mulT (cols 0 (affine y (third 0 (W 0)) (thirdV 0 (b 0 0))))
        (cols 0 (affine y (third 1 (W 0)) (thirdV 1 (b 0 0))))) := by
  have h18 : k0_pay18 (F := Ideal) x1 x2 x3 x4 x5 x6 x7 x8 x9 x10 x11 x12 x13 x14 x15 (e3 (φ := .f32) W) (e3 (φ := .f32) b) = e2 (affine y (W 0) (b 0 0)) := by
    simp only [k0_pay18, h, cast_1mn, dot_768, cast_11n, cast_row, bcast_row, addf_e2]
    rfl
  have h19 : k0_pay19 (F := Ideal) x1 x2 x3 x4 x5 x6 x7 x8 x9 x10 x11 x12 x13 x14 x15 (e3 (φ := .f32) W) (e3 (φ := .f32) b) = e2 (affine y (third 0 (W 0)) (thirdV 0 (b 0 0))) := by
    simp (disch := omega) only [k0_pay19, h18, slice_cols]; rfl
  have h20 : k0_pay20 (F := Ideal) x1 x2 x3 x4 x5 x6 x7 x8 x9 x10 x11 x12 x13 x14 x15 (e3 (φ := .f32) W) (e3 (φ := .f32) b) = e2 (affine y (third 1 (W 0)) (thirdV 1 (b 0 0))) := by
    simp (disch := omega) only [k0_pay20, h18, slice_cols]; rfl
  have h21 : k0_pay21 (F := Ideal) x1 x2 x3 x4 x5 x6 x7 x8 x9 x10 x11 x12 x13 x14 x15 (e3 (φ := .f32) W) (e3 (φ := .f32) b) = e2 (affine y (third 2 (W 0)) (thirdV 2 (b 0 0))) := by
    simp (disch := omega) only [k0_pay21, h18, slice_cols]; rfl
  refine ⟨h19, h20, h21, ?_⟩
  simp (disch := omega) only [k0_pay22, h19, h20, slice_cols, dot_self]
  rfl

theorem sa0 (y Q K V : Mat 100 256) :
    k0_pay40 (F := Ideal) (e2 y) (e2 V) (k0_pay24 (e2 V) (e2 (mulT (cols 0 Q) (cols 0 K))) k0_pay23) (k0_pay25 (e2 Q) (e2 K) (e2 V))
      (k0_pay29 (e2 V) (k0_pay26 (e2 Q) (e2 K)) (k0_pay27 (e2 Q) (e2 K)) k0_pay28) (k0_pay30 (e2 Q) (e2 K) (e2 V))
      (k0_pay31 (e2 Q) (e2 K) (e2 V)) (k0_pay34 (e2 V) (k0_pay32 (e2 Q) (e2 K)) k0_pay33) (k0_pay35 (e2 Q) (e2 K) (e2 V))
      (k0_pay36 (e2 Q) (e2 K)) (k0_pay37 (e2 Q) (e2 K)) k0_pay38 (e3 (φ := .f32) wo) (e3 (φ := .f32) bo)
      = e2 (centred (saOut y Q K V (wo 0) (bo 0 0))) := by
  rw [← centre_e2]
  refine congrArg centre (?_ : addf (addf _ _) _ = _)
  simp (disch := first | omega | rfl | exact pos_ne _) only [k0_pay23, k0_pay24, k0_pay25, k0_pay26, k0_pay27, k0_pay28, k0_pay29, k0_pay30,
    k0_pay31, k0_pay32, k0_pay33, k0_pay34, k0_pay35, k0_pay36, k0_pay37, k0_pay38,
    slice_cols, dot_self, bc_scale, bc_one, mulf_e2, max_100, cast_col, bcast_col, subf_e2, exp_e2, sum_100, divf_e2, dot_selfw,
    cat_fold, cat_e2, cast_1mn, cast_11n, cast_row, bcast_row, addf_e2, dot_q]
  refine congrArg e2 (funext fun i => funext fun j => ?_)
  refine congrArg (fun x => y i j + mulT x (wo 0) i j + bo 0 0 j) (eight _ _ ?_)
  intro h i e
  rw [← headRaw_eq]
  fin_cases h <;> rfl

variable (g o b2 : Fin 1 → Fin 1 → Fin 256 → ℝ) (w1 : Fin 1 → Mat 1024 256) (b1 : Fin 1 → Fin 1 → Fin 1024 → ℝ) (w2 : Fin 1 → Mat 256 1024)

theorem ff0 (x : Mat 100 256) :
    k0_pay42 (F := Ideal) (k0_pay39 (e3 (φ := .f32) o)) (e2 (centred x)) (k0_pay41 (e3 (φ := .f32) g)) (e3 (φ := .f32) w1) (e3 (φ := .f32) b1) (e3 (φ := .f32) w2) (e3 (φ := .f32) b2)
      = e2 (ffOut (Plain.norm x (g 0 0) (o 0 0)) (w1 0) (b1 0 0) (w2 0) (b2 0 0)) := by
  rw [norm_eq]
  simp only [k0_pay39, k0_pay41, k0_pay42, cast_11n, cast_row, bcast_row, mulf_e2, addf_e2, cast_1mn, dot_1024, bc_zero, maximumf_e2, dot_back]
  rfl

theorem out0 (x : Mat 100 256) (x1 x2 x3 x4 x5 x6 x7) (h : k0_pay42 (F := Ideal) x1 x2 x3 x4 x5 x6 x7 = e2 x) :
    k0_pay47 (F := Ideal) (e2 x) (k0_pay43 (e3 (φ := .f32) g)) (k0_pay44 (e3 (φ := .f32) o)) (k0_pay45 x1 x2 x3 x4 x5 x6 x7) (k0_pay46 x1 x2 x3 x4 x5 x6 x7)
      = e3 fun _ => Plain.norm x (g 0 0) (o 0 0) := by
  rw [norm_eq]
  simp (disch := first | rfl | exact ne_256 | exact sq_pos _) only [k0_pay43, k0_pay44, k0_pay45, k0_pay46, k0_pay47, h, sum_256, cast_col, bc_256, divf_e2, bcast_col,
    subf_e2, mulf_e2, bc_eps, addf_e2, rsqrt_e2, cast_11n, cast_row, bcast_row, cast_to1mn]
  rfl

/-! ## The second group of the pair -/

theorem ca1 (Q A : Fin 1 → Mat 100 256) (L : Fin 1 → Mat 100 8) (bv : Fin 1 → Fin 1 → Fin 256 → ℝ) (wo : Fin 1 → Mat 256 256) (bo : Fin 1 → Fin 1 → Fin 256 → ℝ)
    (hl : ∀ i h, L 0 i h ≠ 0) :
    k0_pay57 (F := Ideal) (k0_pay55 (k0_pay48 (e3 (φ := .f32) Q)) (k0_pay49 (e3 (φ := .f32) A)) (k0_pay50 (e3 (φ := .f32) L)) (k0_pay51 (e3 (φ := .f32) A) (e3 (φ := .f32) L)) (k0_pay52 (e3 (φ := .f32) A) (e3 (φ := .f32) L)) (k0_pay53 (e3 (φ := .f32) A)) (k0_pay54 (e3 (φ := .f32) L)) (e3 (φ := .f32) bv) (e3 (φ := .f32) wo)) (k0_pay56 (e3 (φ := .f32) bo))
      = e2 (caOut (Q 0) (A 0) (L 0) (bv 0 0) (wo 0) (bo 0 0)) := by
  simp (disch := first | omega | rfl | exact fun i _ => hl i _) only
    [k0_pay48, k0_pay49, k0_pay50, k0_pay51, k0_pay52, k0_pay53, k0_pay54, k0_pay55, k0_pay56, k0_pay57,
    cast_1mn, slice_cols, bc_one, divf_e2, bcast_col, mulf_e2, cat_fold, cat_e2, cast_11n, cast_row, bcast_row, addf_e2, dot_q]
  refine congrArg e2 (funext fun i => funext fun j => ?_)
  unfold caOut
  refine congrArg (fun x => Q 0 i j + mulT x (wo 0) i j + bo 0 0 j) (funext fun i => funext fun j => congrArg (· + bv 0 0 j) ?_)
  refine congrFun (congrFun (eight _ (fun i j => A 0 i j * (1 / L 0 i (head j))) ?_) i) j
  intro h i e
  rw [head_col]
  fin_cases h <;> rfl
theorem qkv1 (y : Mat 100 256) (x1 x2) (h : k0_pay57 (F := Ideal) x1 x2 = e2 y) :
    k0_pay59 (F := Ideal) x1 x2 (e3 (φ := .f32) W) (e3 (φ := .f32) b) = e2 (affine y (third 0 (W 0)) (thirdV 0 (b 0 0)))
    ∧ k0_pay60 (F := Ideal) x1 x2 (e3 (φ := .f32) W) (e3 (φ := .f32) b) = e2 (affine y (third 1 (W 0)) (thirdV 1 (b 0 0)))
    ∧ k0_pay61 (F := Ideal) x1 x2 (e3 (φ := .f32) W) (e3 (φ := .f32) b) = e2 (affine y (third 2 (W 0)) (thirdV 2 (b 0 0))) := by
  have h18 : k0_pay58 (F := Ideal) x1 x2 (e3 (φ := .f32) W) (e3 (φ := .f32) b) = e2 (affine y (W 0) (b 0 0)) := by
    simp only [k0_pay58, h, cast_1mn, dot_768, cast_11n, cast_row, bcast_row, addf_e2]
    rfl
  refine ⟨?_, ?_, ?_⟩
  · simp (disch := omega) only [k0_pay59, h18, slice_cols]; rfl
  · simp (disch := omega) only [k0_pay60, h18, slice_cols]; rfl
  · simp (disch := omega) only [k0_pay61, h18, slice_cols]; rfl

theorem sa1 (y Q K V : Mat 100 256) (x1 x2) (h59 : k0_pay59 (F := Ideal) x1 x2 (e3 (φ := .f32) W) (e3 (φ := .f32) b) = e2 Q)
    (h60 : k0_pay60 (F := Ideal) x1 x2 (e3 (φ := .f32) W) (e3 (φ := .f32) b) = e2 K) (h61 : k0_pay61 (F := Ideal) x1 x2 (e3 (φ := .f32) W) (e3 (φ := .f32) b) = e2 V) :
    k0_pay73 (F := Ideal) (e2 y) (e2 Q) (e2 K) (e2 V) (k0_pay62 x1 x2 (e3 (φ := .f32) W) (e3 (φ := .f32) b))
      (k0_pay65 (e2 V) (k0_pay63 x1 x2 (e3 (φ := .f32) W) (e3 (φ := .f32) b)) (k0_pay64 x1 x2 (e3 (φ := .f32) W) (e3 (φ := .f32) b)))
      (k0_pay66 (e2 Q) (e2 K) (e2 V)) (k0_pay67 (e2 Q) (e2 K) (e2 V)) (k0_pay69 (e2 V) (k0_pay68 (e2 Q) (e2 K)))
      (k0_pay70 (e2 Q) (e2 K) (e2 V)) (k0_pay71 (e2 Q) (e2 K)) (k0_pay72 (e2 Q) (e2 K)) (e3 (φ := .f32) wo) (e3 (φ := .f32) bo)
      = e2 (saOut y Q K V (wo 0) (bo 0 0)) := by
  simp (disch := first | omega | rfl | exact pos_ne _) only [k0_pay62, k0_pay63, k0_pay64, k0_pay65, k0_pay66, k0_pay67, k0_pay68, k0_pay69, k0_pay70,
    k0_pay71, k0_pay72, k0_pay73, h59, h60, h61,
    slice_cols, dot_self, bc_scale, bc_one, mulf_e2, max_100, cast_col, bcast_col, subf_e2, exp_e2, sum_100, divf_e2, dot_selfw,
    cat_fold, cat_e2, cast_1mn, cast_11n, cast_row, bcast_row, addf_e2, dot_q]
  refine congrArg e2 (funext fun i => funext fun j => ?_)
  refine congrArg (fun x => y i j + mulT x (wo 0) i j + bo 0 0 j) (eight _ _ ?_)
  intro h i e
  rw [← headRaw_eq]
  fin_cases h <;> rfl

theorem n1 (x : Mat 100 256) :
    k0_pay76 (F := Ideal) (e2 x) (k0_pay74 (e3 (φ := .f32) g)) (k0_pay75 (e3 (φ := .f32) o)) = e2 (Plain.norm x (g 0 0) (o 0 0)) := by
  rw [norm_eq]
  simp (disch := first | rfl | exact ne_256 | exact sq_pos _) only [k0_pay74, k0_pay75, k0_pay76, sum_256, cast_col, bc_256, divf_e2, bcast_col,
    subf_e2, mulf_e2, bc_eps, addf_e2, rsqrt_e2, cast_11n, cast_row, bcast_row]
  rfl

theorem out1 (x : Mat 100 256) (x1 x2 x3) (h : k0_pay76 (F := Ideal) x1 x2 x3 = e2 x) (g' o' : Fin 1 → Fin 1 → Fin 256 → ℝ) :
    k0_pay230 (F := Ideal) (k0_pay79 (e2 x) (k0_pay77 x1 x2 x3 (e3 (φ := .f32) w1) (e3 (φ := .f32) b1) (e3 (φ := .f32) w2)) (k0_pay78 (e3 (φ := .f32) b2)) (e3 (φ := .f32) g') (e3 (φ := .f32) o'))
      = e3 fun _ => Plain.norm (ffOut x (w1 0) (b1 0 0) (w2 0) (b2 0 0)) (g' 0 0) (o' 0 0) := by
  rw [norm_eq]
  simp (disch := first | rfl | exact ne_256 | exact sq_pos _) only [k0_pay77, k0_pay78, k0_pay79, k0_pay230, h, cast_1mn, dot_1024, bc_zero, maximumf_e2,
    dot_back, sum_256, cast_col, bc_256, divf_e2, bcast_col,
    subf_e2, mulf_e2, bc_eps, addf_e2, rsqrt_e2, cast_11n, cast_row, bcast_row, cast_to1mn]
  rfl

/-! ## The ends of the sweep -/

theorem bc_zeroq : broadcast S100x256 (Scalar.ofBits (F := Ideal) .f32 0x00000000#32) = e2 fun _ _ => 0 := by
  funext _; exact f32_zero

/-- The head of the classifier. -/
def labelsOf (x : Mat 100 256) (w1 : Mat 256 256) (b1 : Fin 256 → ℝ) (w2 : Mat 19 256) (b2 : Fin 19 → ℝ) : Mat 100 19 :=
  affine (relu (affine x w1 b1)) w2 b2

theorem q0 (Wq : Fin 1 → Mat 256 256) (bq : Fin 1 → Fin 1 → Fin 256 → ℝ) (q : Fin 1 → Mat 100 256) :
    k0_pay3 (F := Ideal) (e3 (φ := .bf16) Wq) (e3 (φ := .f32) bq) (e3 (φ := .f32) q)
      = e3 fun _ i j => affine (q 0) (Wq 0) (bq 0 0) i j * (√32)⁻¹ := by
  simp only [k0_pay3, k0_pay1, k0_pay2, cast_1mn, truncf_e2, dot_q, cast_11n, cast_row, bcast_row, addf_e2, bc_scaleq, mulf_e2, cast_to1mn]
  rfl

theorem q1 (Wq : Fin 1 → Mat 256 256) (bq : Fin 1 → Fin 1 → Fin 256 → ℝ) (q : Fin 1 → Mat 100 256) :
    k0_pay4 (F := Ideal) (e3 (φ := .bf16) Wq) (e3 (φ := .f32) bq) (e3 (φ := .f32) q)
      = e3 fun _ i j => affine (q 0) (Wq 0) (bq 0 0) i j * (√32)⁻¹ := by
  simp only [k0_pay4, k0_pay1, k0_pay2, cast_1mn, truncf_e2, dot_q, cast_11n, cast_row, bcast_row, addf_e2, bc_scaleq, mulf_e2, cast_to1mn]
  rfl

variable (q' : Fin 1 → Mat 100 256) (g1 o1 c1 : Fin 1 → Fin 256 → ℝ) (v1 : Mat 256 256) (v2 : Mat 19 256) (c2 : Fin 1 → Fin 19 → ℝ)

theorem end80 : k0_pay80 (F := Ideal) (e3 (φ := .f32) q') (e2 (φ := .f32) g1) (e2 (φ := .f32) o1) = e2 (Plain.norm (q' 0) (g1 0) (o1 0)) := by
  rw [norm_eq]
  simp (disch := first | rfl | exact ne_256 | exact sq_pos _) only [k0_pay80, cast_1mn, sum_256, cast_col, bc_256, divf_e2, bcast_col,
    subf_e2, mulf_e2, bc_eps, addf_e2, rsqrt_e2, cast_1n, cast_row, bcast_row]
  rfl

theorem end81 : k0_pay81 (F := Ideal) (e3 (φ := .f32) q') (e2 (φ := .f32) g1) (e2 (φ := .f32) o1)
    = e4 fun _ _ => Plain.norm (q' 0) (g1 0) (o1 0) := by
  simp only [k0_pay81, end80, cast_to11mn]

theorem end83 : k0_pay83 (F := Ideal) (k0_pay82 (e3 (φ := .f32) q') (e2 (φ := .f32) g1) (e2 (φ := .f32) o1) (e2 (φ := .f32) v1)) (e2 (φ := .f32) c1)
    (e2 (φ := .f32) v2) (e2 (φ := .f32) c2) = e4 fun _ _ => labelsOf (Plain.norm (q' 0) (g1 0) (o1 0)) v1 (c1 0) v2 (c2 0) := by
  simp only [k0_pay82, k0_pay83, end80, dot_q, cast_1n, cast_row, bcast_row, addf_e2, bc_zeroq, maximumf_e2, dot_19, cast_to11mn]
  rfl

theorem end231 : k0_pay231 (F := Ideal) (k0_pay85 (e2 (φ := .f32) g1)) (k0_pay86 (e2 (φ := .f32) o1)) (k0_pay88 (e3 (φ := .f32) q'))
    (k0_pay89 (e3 (φ := .f32) q')) (Scalar.ofBits .f32 0x3727C5AC#32) = e2 (Plain.norm (q' 0) (g1 0) (o1 0)) := by
  rw [norm_eq]
  simp (disch := first | rfl | exact ne_256 | exact sq_pos _) only [k0_pay84, k0_pay85, k0_pay86, k0_pay87, k0_pay88, k0_pay89, k0_pay231, cast_1mn, sum_256,
    cast_col, bc_256, divf_e2, bcast_col, subf_e2, mulf_e2, bc_eps, addf_e2, rsqrt_e2, cast_1n, cast_row, bcast_row]
  rfl

theorem end232 : k0_pay232 (F := Ideal) (k0_pay85 (e2 (φ := .f32) g1)) (k0_pay86 (e2 (φ := .f32) o1)) (k0_pay88 (e3 (φ := .f32) q'))
    (k0_pay89 (e3 (φ := .f32) q')) (Scalar.ofBits .f32 0x3727C5AC#32) = e4 fun _ _ => Plain.norm (q' 0) (g1 0) (o1 0) := by
  simp only [k0_pay232, end231, cast_to11mn]

theorem end233 : k0_pay233 (F := Ideal) (k0_pay85 (e2 (φ := .f32) g1)) (k0_pay86 (e2 (φ := .f32) o1)) (k0_pay88 (e3 (φ := .f32) q'))
    (k0_pay89 (e3 (φ := .f32) q')) (Scalar.ofBits .f32 0x3727C5AC#32) (e2 (φ := .f32) v1) (e2 (φ := .f32) c1)
    (e2 (φ := .f32) v2) (e2 (φ := .f32) c2) = e4 fun _ _ => labelsOf (Plain.norm (q' 0) (g1 0) (o1 0)) v1 (c1 0) v2 (c2 0) := by
  simp only [k0_pay233, end231, dot_q, cast_1n, cast_row, bcast_row, addf_e2, bc_zeroq, maximumf_e2, dot_19, cast_to11mn]
  rfl

end

end Cert.Layer
-- ==== Proof.Point.lean ====
/- The carried state of the decoder on real numbers, and what a chunk, the start of a layer and its end make of it. -/
module

public import proofs.«01_k».proof.Proof.Blocks
public import proofs.«01_k».proof.Proof.Read
public import proofs.«01_k».proof.Proof.Layer

@[expose] public section

noncomputable section

namespace Cert.Point

open Idealize.ShloMosaic Cert.KernelIdeal Cert.KernelIdeal.Gen Cert.Vec Cert.Plain Cert.Chunk Cert.Layer Cert.Blocks

/-- The input blocks of a point hold the weights `w` of its layer, the chunk `I` of its two batch entries and the arguments `A`. -/
structure Ins (A : Args) (w : Weights) (I : Fin 2 → Mat 5000 256)
    (x0 : Vec Ideal S1x2x1x5000x256 .bf16) (x1 : Vec Ideal S100x256 .f32) (x2 : Vec Ideal S1x768x256 .bf16) (x3 : Vec Ideal S1x1x768 .f32) (x4 : Vec Ideal S1x256x256 .f32) (x5 : Vec Ideal S1x1x256 .f32) (x6 : Vec Ideal S1x768x256 .f32) (x7 : Vec Ideal S1x1x768 .f32) (x8 : Vec Ideal S1x256x256 .f32) (x9 : Vec Ideal S1x1x256 .f32) (x10 : Vec Ideal S1x1x256 .f32) (x11 : Vec Ideal S1x1x256 .f32) (x12 : Vec Ideal S1x1024x256 .f32) (x13 : Vec Ideal S1x1x1024 .f32) (x14 : Vec Ideal S1x256x1024 .f32) (x15 : Vec Ideal S1x1x256 .f32) (x16 : Vec Ideal S1x1x256 .f32) (x17 : Vec Ideal S1x1x256 .f32) (x18 : Vec Ideal S1x256 .f32) (x19 : Vec Ideal S1x256 .f32) (x20 : Vec Ideal S256x256 .f32) (x21 : Vec Ideal S1x256 .f32) (x22 : Vec Ideal S19x256 .f32) (x23 : Vec Ideal S1x19 .f32) : Prop where
  h0 : x0 = e5 (φ := .bf16) fun _ g _ => I g
  h1 : x1 = e2 (φ := .f32) A.query
  h2 : x2 = e3 (φ := .bf16) fun _ => w.caW
  h3 : x3 = e3 (φ := .f32) fun _ _ j => w.caB j
  h4 : x4 = e3 (φ := .f32) fun _ => w.caWo
  h5 : x5 = e3 (φ := .f32) fun _ _ j => w.caBo j
  h6 : x6 = e3 (φ := .f32) fun _ => w.saW
  h7 : x7 = e3 (φ := .f32) fun _ _ j => w.saB j
  h8 : x8 = e3 (φ := .f32) fun _ => w.saWo
  h9 : x9 = e3 (φ := .f32) fun _ _ j => w.saBo j
  h10 : x10 = e3 (φ := .f32) fun _ _ j => w.saG j
  h11 : x11 = e3 (φ := .f32) fun _ _ j => w.saO j
  h12 : x12 = e3 (φ := .f32) fun _ => w.w1
  h13 : x13 = e3 (φ := .f32) fun _ _ j => w.b1 j
  h14 : x14 = e3 (φ := .f32) fun _ => w.w2
  h15 : x15 = e3 (φ := .f32) fun _ _ j => w.b2 j
  h16 : x16 = e3 (φ := .f32) fun _ _ j => w.ffG j
  h17 : x17 = e3 (φ := .f32) fun _ _ j => w.ffO j
  h18 : x18 = e2 (φ := .f32) fun _ j => A.outG j
  h19 : x19 = e2 (φ := .f32) fun _ j => A.outO j
  h20 : x20 = e2 (φ := .f32) A.cls1
  h21 : x21 = e2 (φ := .f32) fun _ j => A.clsB1 j
  h22 : x22 = e2 (φ := .f32) A.cls2
  h23 : x23 = e2 (φ := .f32) fun _ j => A.clsB2 j

/-- The five carried buffers: the queries, the scaled projected queries, the weighted sums, the maxima and the sums. -/
structure St where
  q : Fin 2 → Mat 100 256
  qp : Fin 2 → Mat 100 256
  a : Fin 2 → Mat 100 256
  μ : Fin 2 → Mat 100 8
  l : Fin 2 → Mat 100 8

/-- What a chunk makes of the state. -/
def chunk (w : Weights) (I : Fin 2 → Mat 5000 256) (s : St) : St :=
  { s with
    a := fun g => newA (mulT (third 1 w.caW) (I g)) (mulT (I g) (third 2 w.caW)) (s.qp g) (s.μ g) (s.a g)
    μ := fun g => newM (mulT (third 1 w.caW) (I g)) (s.qp g) (s.μ g)
    l := fun g => newL (mulT (third 1 w.caW) (I g)) (s.qp g) (s.μ g) (s.l g) }

/-- The state at the start of a layer whose queries are `q`. -/
def begin (w : Weights) (q : Fin 2 → Mat 100 256) : St :=
  { q := q
    qp := fun g i j => affine (q g) (third 0 w.caW) (thirdV 0 w.caB) i j * (√32)⁻¹
    a := fun _ _ _ => 0
    μ := fun _ _ _ => Consts.start
    l := fun _ _ _ => 0 }

/-- The queries after a layer, from the queries before it and the running sums `a`, `l` over all chunks. -/
def after (w : Weights) (q a : Mat 100 256) (l : Mat 100 8) : Mat 100 256 :=
  let y := caOut q a l (thirdV 2 w.caB) w.caWo w.caBo
  let x := saOut y (affine y (third 0 w.saW) (thirdV 0 w.saB)) (affine y (third 1 w.saW) (thirdV 1 w.saB))
    (affine y (third 2 w.saW) (thirdV 2 w.saB)) w.saWo w.saBo
  Plain.norm (ffOut (Plain.norm x w.saG w.saO) w.w1 w.b1 w.w2 w.b2) w.ffG w.ffO

/-- What the end of a layer makes of the state. -/
def finish (w : Weights) (s : St) : St := { s with q := fun g => after w (s.q g) (s.a g) (s.l g) }

theorem p5 : k0_pay5 (F := Ideal) = e3 fun _ _ _ => 0 := by
  unfold k0_pay5; dsimp only; rw [shapeCast_self]; funext _; exact Consts.f32_zero
theorem p92 : k0_pay92 (F := Ideal) = e3 fun _ _ _ => Consts.start := by
  unfold k0_pay92; dsimp only; rw [shapeCast_self]; funext _; exact Consts.f32_start
theorem p93 : k0_pay93 (F := Ideal) = e3 fun _ _ _ => 0 := by
  unfold k0_pay93; dsimp only; rw [shapeCast_self]; funext _; exact Consts.f32_zero
theorem p90 (q : Mat 100 256) : k0_pay90 (F := Ideal) (e2 (φ := .f32) q) = e3 (φ := .f32) fun _ => q := cast_to1mn _ _
theorem p91 (q : Mat 100 256) : k0_pay91 (F := Ideal) (e2 (φ := .f32) q) = e3 (φ := .f32) fun _ => q := cast_to1mn _ _

end Cert.Point
-- ==== Proof.Flash.lean ====
/-
  Five chunks of cross-attention with a running maximum are attention over all 25000 rows: the running sums after `c` chunks are the
  sums over their rows, whatever the maximum is, and what the end of a layer makes of them is the layer.
-/
module

public import proofs.«01_k».proof.Proof.Point

@[expose] public section

noncomputable section

namespace Cert.Flash

open Cert.Plain Cert.Vec Cert.Chunk Cert.Layer Cert.Point

/-- The rows of chunk `c`, for both batch entries of the pair. -/
def rows (X : Fin 2 → Mat 25000 256) (c : ℕ) (g : Fin 2) : Mat 5000 256 := fun k d => X g (row c k) d

/-- The state after the first `c` chunks of a layer. -/
def upto (w : Weights) (X : Fin 2 → Mat 25000 256) (q : Fin 2 → Mat 100 256) : ℕ → St
  | 0 => begin w q
  | c + 1 => chunk w (rows X c) (upto w X q c)

variable (w : Weights) (X : Fin 2 → Mat 25000 256) (q : Fin 2 → Mat 100 256)

theorem upto_q (c : ℕ) : (upto w X q c).q = q := by induction c with | zero => rfl | succ c ih => exact ih
theorem upto_qp (c : ℕ) : (upto w X q c).qp = (begin w q).qp := by induction c with | zero => rfl | succ c ih => exact ih

/-- The score of a query row against row `t`. -/
def s (g : Fin 2) (h : Fin 8) (i : Fin 100) (t : Fin 25000) : ℝ :=
  score (affine (q g) (third 0 w.caW) (thirdV 0 w.caB)) (mulT (X g) (third 1 w.caW)) h i t

theorem sc_eq (c : ℕ) (g : Fin 2) (h : Fin 8) (i : Fin 100) (k : Fin 5000) :
    sc (mulT (third 1 w.caW) (rows X c g)) ((upto w X q c).qp g) h i k = s w X q g h i (row c k) := by
  rw [upto_qp]
  unfold sc s score begin
  rw [Finset.sum_div]
  refine Finset.sum_congr rfl fun e _ => ?_
  have hk : mulT (third 1 w.caW) (rows X c g) (col h e) k = mulT (X g) (third 1 w.caW) (row c k) (col h e) := by
    unfold mulT rows; exact Finset.sum_congr rfl fun _ _ => mul_comm _ _
  rw [hk]; ring

theorem sums (c : ℕ) (g : Fin 2) :
    (∀ i h, (upto w X q c).l g i h = part (fun t => Real.exp (s w X q g h i t - (upto w X q c).μ g i h)) c)
    ∧ ∀ i j, (upto w X q c).a g i j
        = part (fun t => Real.exp (s w X q g (head j) i t - (upto w X q c).μ g i (head j)) * mulT (X g) (third 2 w.caW) t j) c := by
  induction c with
  | zero => exact ⟨fun _ _ => rfl, fun _ _ => rfl⟩
  | succ c ih =>
    refine ⟨fun i h => ?_, fun i j => ?_⟩
    · rw [part_succ]
      show newL _ _ _ _ i h = _
      unfold newL
      rw [ih.1, part_move_one]
      refine congrArg₂ (· + ·) rfl (Finset.sum_congr rfl fun k _ => ?_)
      rw [sc_eq]; rfl
    · rw [part_succ]
      show newA _ _ _ _ _ i j = _
      unfold newA
      rw [ih.2, part_move]
      refine congrArg₂ (· + ·) rfl (Finset.sum_congr rfl fun k _ => ?_)
      rw [sc_eq]; rfl

theorem l_pos (c : ℕ) (g : Fin 2) (i : Fin 100) (h : Fin 8) : 0 < (upto w X q (c + 1)).l g i h := by
  rw [(sums w X q (c + 1) g).1, part_succ]
  exact add_pos_of_nonneg_of_pos (Finset.sum_nonneg fun _ _ => Finset.sum_nonneg fun _ _ => (Real.exp_pos _).le) (expsum_pos _)

theorem selfOut_eq (y : Mat 100 256) : saOut y (affine y (third 0 w.saW) (thirdV 0 w.saB)) (affine y (third 1 w.saW) (thirdV 1 w.saB))
    (affine y (third 2 w.saW) (thirdV 2 w.saB)) w.saWo w.saBo = plus (mha y y w.saW w.saB w.saWo w.saBo) y := by
  funext i j; simp only [saOut, plus, mha, affine]; ring

theorem ffOut_eq (x : Mat 100 256) : ffOut x w.w1 w.b1 w.w2 w.b2 = plus (affine (relu (affine x w.w1 w.b1)) w.w2 w.b2) x := by
  funext i j; simp only [ffOut, plus]; ring

theorem cross_eq (g : Fin 2) : caOut (q g) ((upto w X q 5).a g) ((upto w X q 5).l g) (thirdV 2 w.caB) w.caWo w.caBo
    = plus (mha (q g) (X g) w.caW w.caB w.caWo w.caBo) (q g) := by
  funext i j
  have hw : (fun i j => (upto w X q 5).a g i j * (1 / (upto w X q 5).l g i (head j)) + thirdV 2 w.caB j)
      = attend (affine (q g) (third 0 w.caW) (thirdV 0 w.caB)) (affine (X g) (third 1 w.caW) (thirdV 1 w.caB))
          (affine (X g) (third 2 w.caW) (thirdV 2 w.caB)) := by
    funext i j
    rw [attend_bias, (sums w X q 5 g).1, (sums w X q 5 g).2, part_five, part_five, mul_one_div]
    exact congrArg (· + _) (wmean_sub _ _ _)
  simp only [caOut, plus, mha, affine]
  rw [hw]
  ring

/-- The end of a layer, after its five chunks, leaves the layer's queries. -/
theorem finish_eq (g : Fin 2) : (finish w (upto w X q 5)).q g = layer w (X g) (q g) := by
  show after w ((upto w X q 5).q g) _ _ = _
  unfold after layer ffnPart selfPart
  dsimp only
  rw [upto_q, cross_eq, selfOut_eq, ffOut_eq]

end Cert.Flash
-- ==== Proof.CaseA.lean ====
/-
  The first grid point of a group: what it leaves in the carried buffers, on arrays of real numbers.
-/
module

public import proofs.«01_k».proof.Proof.Point
public import proofs.«01_k».proof.Proof.Gen.Own.KernelIdeal.Frame.RunA

@[expose] public section

set_option maxRecDepth 16384

noncomputable section

namespace Cert.Point

open Idealize.ShloMosaic Cert.KernelIdeal Cert.KernelIdeal.Gen Cert.Vec Cert.Plain Cert.Chunk Cert.Layer Cert.Blocks Cert.Read

set_option maxHeartbeats 4000000 in
theorem caseA (c : Dev nD) (i : grid0.Coords) (arg3) (harg3) (arg4) (harg4) (arg5) (harg5) (arg6) (harg6) (arg7) (harg7) (arg8) (harg8) (arg9) (harg9) (arg10) (harg10) (arg11) (harg11) (arg12) (harg12) (arg13) (harg13) (arg14) (harg14) (arg15) (harg15) (arg16) (harg16) (arg17) (harg17) (arg18) (harg18) (arg19) (harg19) (arg20) (harg20) (arg21) (harg21) (arg22) (harg22) (arg23) (harg23) (arg24) (harg24) (arg25) (harg25) (arg26) (harg26) (arg27) (harg27) (arg28) (harg28) (arg29) (harg29) (arg30) (harg30) (arg31) (harg31) (arg32) (harg32) (arg33) (harg33) (hc0) (hc1) (hc2) (hc3) {A : Args} {w : Weights} {I : Fin 2 → Mat 5000 256} (x0 x1 x2 x3 x4 x5 x6 x7 x8 x9 x10 x11 x12 x13 x14 x15 x16 x17 x18 x19 x20 x21 x22 x23)
    (hI : Ins A w I x0 x1 x2 x3 x4 x5 x6 x7 x8 x9 x10 x11 x12 x13 x14 x15 x16 x17 x18 x19 x20 x21 x22 x23) :
    let r := (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 hc1 hc2 hc3 x0 x1 x2 x3 x4 x5 x6 x7 x8 x9 x10 x11 x12 x13 x14 x15 x16 x17 x18 x19 x20 x21 x22 x23)
    View.canon r.2.2.1 = e3 (φ := .f32) (begin w fun _ => A.query).q ∧ View.canon r.2.2.2.1 = e3 (φ := .f32) (begin w fun _ => A.query).qp ∧
      View.canon r.2.2.2.2.1 = e3 (φ := .f32) (chunk w I (begin w fun _ => A.query)).a ∧
      View.canon r.2.2.2.2.2.1 = e3 (φ := .f32) (chunk w I (begin w fun _ => A.query)).μ ∧
      View.canon r.2.2.2.2.2.2.1 = e3 (φ := .f32) (chunk w I (begin w fun _ => A.query)).l := by
  obtain ⟨rfl, rfl, rfl, rfl, rfl, rfl, rfl, rfl, rfl, rfl, rfl, rfl, rfl, rfl, rfl, rfl, rfl, rfl, rfl, rfl, rfl, rfl, rfl, rfl⟩ := hI
  have m1 := m1 (fun _ => third 1 w.caW) (fun _ _ _ => I 1) (fun _ => (begin w fun _ => A.query).qp 1) (fun _ => (begin w fun _ => A.query).μ 1)
  have m0 := m0 (fun _ => third 1 w.caW) (fun _ _ _ => I 0) (fun _ => (begin w fun _ => A.query).qp 0) (fun _ => (begin w fun _ => A.query).μ 0)
  have l1 := l1 (fun _ => third 1 w.caW) (fun _ _ _ => I 1) (fun _ => (begin w fun _ => A.query).qp 1) (fun _ => (begin w fun _ => A.query).μ 1) (fun _ => (begin w fun _ => A.query).l 1)
  have l0 := l0 (fun _ => third 1 w.caW) (fun _ _ _ => I 0) (fun _ => (begin w fun _ => A.query).qp 0) (fun _ => (begin w fun _ => A.query).μ 0) (fun _ => (begin w fun _ => A.query).l 0)
  have a1 := a1 (fun _ => third 1 w.caW) (fun _ => third 2 w.caW) (fun _ _ _ => I 1) (fun _ => (begin w fun _ => A.query).qp 1) (fun _ => (begin w fun _ => A.query).μ 1) (fun _ => (begin w fun _ => A.query).a 1)
  have a0 := a0 (fun _ => third 1 w.caW) (fun _ => third 2 w.caW) (fun _ _ _ => I 0) (fun _ => (begin w fun _ => A.query).qp 0) (fun _ => (begin w fun _ => A.query).μ 0) (fun _ => (begin w fun _ => A.query).a 0)
  intro r
  refine ⟨?_, ?_, ?_, ?_, ?_⟩
  all_goals
    unfold r kernelRun0_A
    dsimp only
    sl_unfold_words
    refine canon_two ?_ ?_ _ _ _
    all_goals
      simp only [View.readAt_eq_ld, Memref.IsWhole.read_unread]
      simp only [cov_all, cov_skip0, cov_skip1, View.readCov_cons_toLoadRect, p5, p92, p93, ld_row, ld_third0, ld_third1, ld_third2, ld_inst, ld_thirdV0, p94, p95, p97, p98, p99, p100, p101, p102, p163, p164, p165, p166, p167, p168, p169, ld_all2, p90, p91, q0, q1]
  · rfl
  · rfl
  · rfl
  · rfl
  · exact a1
  · exact a0
  · exact m1
  · exact m0
  · exact l1
  · exact l0

end Cert.Point
-- ==== Proof.CaseB.lean ====
/-
  A grid point in the middle of a layer: what it leaves in the carried buffers, on arrays of real numbers.
-/
module

public import proofs.«01_k».proof.Proof.Point
public import proofs.«01_k».proof.Proof.Gen.Own.KernelIdeal.Frame.RunB

@[expose] public section

set_option maxRecDepth 16384

noncomputable section

namespace Cert.Point

open Idealize.ShloMosaic Cert.KernelIdeal Cert.KernelIdeal.Gen Cert.Vec Cert.Plain Cert.Chunk Cert.Layer Cert.Blocks Cert.Read

set_option maxHeartbeats 4000000 in
theorem caseB (c : Dev nD) (i : grid0.Coords) (arg3) (harg3) (arg4) (harg4) (arg5) (harg5) (arg6) (harg6) (arg7) (harg7) (arg8) (harg8) (arg9) (harg9) (arg10) (harg10) (arg11) (harg11) (arg12) (harg12) (arg13) (harg13) (arg14) (harg14) (arg15) (harg15) (arg16) (harg16) (arg17) (harg17) (arg18) (harg18) (arg19) (harg19) (arg20) (harg20) (arg21) (harg21) (arg22) (harg22) (arg23) (harg23) (arg24) (harg24) (arg25) (harg25) (arg26) (harg26) (arg27) (harg27) (arg28) (harg28) (arg29) (harg29) (arg30) (harg30) (arg31) (harg31) (arg32) (harg32) (arg33) (harg33) (hc0) (hc1) (hc2) (hc3) {A : Args} {w : Weights} {I : Fin 2 → Mat 5000 256} (x0 x1 x2 x3 x4 x5 x6 x7 x8 x9 x10 x11 x12 x13 x14 x15 x16 x17 x18 x19 x20 x21 x22 x23)
    (xs0 xs1 xs2 xs3 xs4) (s : St) (h0 : xs0 = e3 (φ := .f32) s.q) (h1 : xs1 = e3 (φ := .f32) s.qp) (h2 : xs2 = e3 (φ := .f32) s.a) (h3 : xs3 = e3 (φ := .f32) s.μ) (h4 : xs4 = e3 (φ := .f32) s.l)
    (hI : Ins A w I x0 x1 x2 x3 x4 x5 x6 x7 x8 x9 x10 x11 x12 x13 x14 x15 x16 x17 x18 x19 x20 x21 x22 x23) :
    let r := (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 hc1 hc2 hc3 x0 x1 x2 x3 x4 x5 x6 x7 x8 x9 x10 x11 x12 x13 x14 x15 x16 x17 x18 x19 x20 x21 x22 x23 xs0 xs1 xs2 xs3 xs4)
    View.canon r.2.2.2.2.1 = e3 (φ := .f32) (chunk w I s).a ∧ View.canon r.2.2.2.2.2.1 = e3 (φ := .f32) (chunk w I s).μ ∧
      View.canon r.2.2.2.2.2.2.1 = e3 (φ := .f32) (chunk w I s).l := by
  obtain ⟨rfl, rfl, rfl, rfl, rfl, rfl, rfl, rfl, rfl, rfl, rfl, rfl, rfl, rfl, rfl, rfl, rfl, rfl, rfl, rfl, rfl, rfl, rfl, rfl⟩ := hI
  subst h0 h1 h2 h3 h4
  have m1 := m1 (fun _ => third 1 w.caW) (fun _ _ _ => I 1) (fun _ => s.qp 1) (fun _ => s.μ 1)
  have m0 := m0 (fun _ => third 1 w.caW) (fun _ _ _ => I 0) (fun _ => s.qp 0) (fun _ => s.μ 0)
  have l1 := l1 (fun _ => third 1 w.caW) (fun _ _ _ => I 1) (fun _ => s.qp 1) (fun _ => s.μ 1) (fun _ => s.l 1)
  have l0 := l0 (fun _ => third 1 w.caW) (fun _ _ _ => I 0) (fun _ => s.qp 0) (fun _ => s.μ 0) (fun _ => s.l 0)
  have a1 := a1 (fun _ => third 1 w.caW) (fun _ => third 2 w.caW) (fun _ _ _ => I 1) (fun _ => s.qp 1) (fun _ => s.μ 1) (fun _ => s.a 1)
  have a0 := a0 (fun _ => third 1 w.caW) (fun _ => third 2 w.caW) (fun _ _ _ => I 0) (fun _ => s.qp 0) (fun _ => s.μ 0) (fun _ => s.a 0)
  intro r
  refine ⟨?_, ?_, ?_⟩
  all_goals
    unfold r kernelRun0_B
    dsimp only
    sl_unfold_words
    refine canon_two ?_ ?_ _ _ _
    all_goals
      simp only [View.readAt_eq_ld, Memref.IsWhole.read_unread]
      simp only [ld_row, ld_third1, ld_third2, ld_inst, p94, p95, p97, p98, p99, p100, p101, p102, p163, p164, p165, p166, p167, p168, p169]
  · exact a1
  · exact a0
  · exact m1
  · exact m0
  · exact l1
  · exact l0

end Cert.Point
-- ==== Proof.Late.lean ====
/- The end of a layer from the running sums to the queries of the next layer, as one chain for each group of the pair. -/
module

public import proofs.«01_k».proof.Proof.Point

@[expose] public section

set_option maxRecDepth 16384

noncomputable section

namespace Cert.Late

open Idealize.ShloMosaic Cert.Plain Cert.Vec Cert.Consts Cert.Chunk Cert.Layer Cert.KernelIdeal Cert.KernelIdeal.Gen

variable (W : Fin 1 → Mat 768 256) (b : Fin 1 → Fin 1 → Fin 768 → ℝ) (wo : Fin 1 → Mat 256 256) (bo g o b2 g' o' : Fin 1 → Fin 1 → Fin 256 → ℝ)
  (w1 : Fin 1 → Mat 1024 256) (b1 : Fin 1 → Fin 1 → Fin 1024 → ℝ) (w2 : Fin 1 → Mat 256 1024)

/-- The queries after self-attention and before its norm, from those before it. -/
def selfOut (W : Mat 768 256) (b : Fin 768 → ℝ) (wo : Mat 256 256) (bo : Fin 256 → ℝ) (y : Mat 100 256) : Mat 100 256 :=
  saOut y (affine y (third 0 W) (thirdV 0 b)) (affine y (third 1 W) (thirdV 1 b)) (affine y (third 2 W) (thirdV 2 b)) wo bo

theorem self0 {y : Mat 100 256} {x1 x2 x3 x4 x5 x6 x7 x8 x9 x10 x11 x12 x13 x14 x15} (h : k0_pay17 (F := Ideal) x1 x2 x3 x4 x5 x6 x7 x8 x9 x10 x11 x12 x13 x14 x15 = e2 y) :
    k0_pay40 (F := Ideal) (k0_pay17 x1 x2 x3 x4 x5 x6 x7 x8 x9 x10 x11 x12 x13 x14 x15) (k0_pay21 x1 x2 x3 x4 x5 x6 x7 x8 x9 x10 x11 x12 x13 x14 x15 (e3 (φ := .f32) W) (e3 (φ := .f32) b)) (k0_pay24 (k0_pay21 x1 x2 x3 x4 x5 x6 x7 x8 x9 x10 x11 x12 x13 x14 x15 (e3 (φ := .f32) W) (e3 (φ := .f32) b)) (k0_pay22 x1 x2 x3 x4 x5 x6 x7 x8 x9 x10 x11 x12 x13 x14 x15 (e3 (φ := .f32) W) (e3 (φ := .f32) b)) k0_pay23) (k0_pay25 (k0_pay19 x1 x2 x3 x4 x5 x6 x7 x8 x9 x10 x11 x12 x13 x14 x15 (e3 (φ := .f32) W) (e3 (φ := .f32) b)) (k0_pay20 x1 x2 x3 x4 x5 x6 x7 x8 x9 x10 x11 x12 x13 x14 x15 (e3 (φ := .f32) W) (e3 (φ := .f32) b)) (k0_pay21 x1 x2 x3 x4 x5 x6 x7 x8 x9 x10 x11 x12 x13 x14 x15 (e3 (φ := .f32) W) (e3 (φ := .f32) b)))
      (k0_pay29 (k0_pay21 x1 x2 x3 x4 x5 x6 x7 x8 x9 x10 x11 x12 x13 x14 x15 (e3 (φ := .f32) W) (e3 (φ := .f32) b)) (k0_pay26 (k0_pay19 x1 x2 x3 x4 x5 x6 x7 x8 x9 x10 x11 x12 x13 x14 x15 (e3 (φ := .f32) W) (e3 (φ := .f32) b)) (k0_pay20 x1 x2 x3 x4 x5 x6 x7 x8 x9 x10 x11 x12 x13 x14 x15 (e3 (φ := .f32) W) (e3 (φ := .f32) b))) (k0_pay27 (k0_pay19 x1 x2 x3 x4 x5 x6 x7 x8 x9 x10 x11 x12 x13 x14 x15 (e3 (φ := .f32) W) (e3 (φ := .f32) b)) (k0_pay20 x1 x2 x3 x4 x5 x6 x7 x8 x9 x10 x11 x12 x13 x14 x15 (e3 (φ := .f32) W) (e3 (φ := .f32) b))) k0_pay28) (k0_pay30 (k0_pay19 x1 x2 x3 x4 x5 x6 x7 x8 x9 x10 x11 x12 x13 x14 x15 (e3 (φ := .f32) W) (e3 (φ := .f32) b)) (k0_pay20 x1 x2 x3 x4 x5 x6 x7 x8 x9 x10 x11 x12 x13 x14 x15 (e3 (φ := .f32) W) (e3 (φ := .f32) b)) (k0_pay21 x1 x2 x3 x4 x5 x6 x7 x8 x9 x10 x11 x12 x13 x14 x15 (e3 (φ := .f32) W) (e3 (φ := .f32) b)))
      (k0_pay31 (k0_pay19 x1 x2 x3 x4 x5 x6 x7 x8 x9 x10 x11 x12 x13 x14 x15 (e3 (φ := .f32) W) (e3 (φ := .f32) b)) (k0_pay20 x1 x2 x3 x4 x5 x6 x7 x8 x9 x10 x11 x12 x13 x14 x15 (e3 (φ := .f32) W) (e3 (φ := .f32) b)) (k0_pay21 x1 x2 x3 x4 x5 x6 x7 x8 x9 x10 x11 x12 x13 x14 x15 (e3 (φ := .f32) W) (e3 (φ := .f32) b))) (k0_pay34 (k0_pay21 x1 x2 x3 x4 x5 x6 x7 x8 x9 x10 x11 x12 x13 x14 x15 (e3 (φ := .f32) W) (e3 (φ := .f32) b)) (k0_pay32 (k0_pay19 x1 x2 x3 x4 x5 x6 x7 x8 x9 x10 x11 x12 x13 x14 x15 (e3 (φ := .f32) W) (e3 (φ := .f32) b)) (k0_pay20 x1 x2 x3 x4 x5 x6 x7 x8 x9 x10 x11 x12 x13 x14 x15 (e3 (φ := .f32) W) (e3 (φ := .f32) b))) k0_pay33) (k0_pay35 (k0_pay19 x1 x2 x3 x4 x5 x6 x7 x8 x9 x10 x11 x12 x13 x14 x15 (e3 (φ := .f32) W) (e3 (φ := .f32) b)) (k0_pay20 x1 x2 x3 x4 x5 x6 x7 x8 x9 x10 x11 x12 x13 x14 x15 (e3 (φ := .f32) W) (e3 (φ := .f32) b)) (k0_pay21 x1 x2 x3 x4 x5 x6 x7 x8 x9 x10 x11 x12 x13 x14 x15 (e3 (φ := .f32) W) (e3 (φ := .f32) b)))
      (k0_pay36 (k0_pay19 x1 x2 x3 x4 x5 x6 x7 x8 x9 x10 x11 x12 x13 x14 x15 (e3 (φ := .f32) W) (e3 (φ := .f32) b)) (k0_pay20 x1 x2 x3 x4 x5 x6 x7 x8 x9 x10 x11 x12 x13 x14 x15 (e3 (φ := .f32) W) (e3 (φ := .f32) b))) (k0_pay37 (k0_pay19 x1 x2 x3 x4 x5 x6 x7 x8 x9 x10 x11 x12 x13 x14 x15 (e3 (φ := .f32) W) (e3 (φ := .f32) b)) (k0_pay20 x1 x2 x3 x4 x5 x6 x7 x8 x9 x10 x11 x12 x13 x14 x15 (e3 (φ := .f32) W) (e3 (φ := .f32) b))) k0_pay38 (e3 (φ := .f32) wo) (e3 (φ := .f32) bo)
      = e2 (centred (selfOut (W 0) (b 0 0) (wo 0) (bo 0 0) y)) := by
  obtain ⟨h19, h20, h21, h22⟩ := qkv0 W b y x1 x2 x3 x4 x5 x6 x7 x8 x9 x10 x11 x12 x13 x14 x15 h
  rw [h22, h, h19, h20, h21]
  exact sa0 bo wo y _ _ _

theorem last0 {x : Mat 100 256} {s} (h : s = e2 (centred x)) :
    k0_pay47 (F := Ideal) (k0_pay42 (k0_pay39 (e3 (φ := .f32) o)) s (k0_pay41 (e3 (φ := .f32) g)) (e3 (φ := .f32) w1) (e3 (φ := .f32) b1) (e3 (φ := .f32) w2) (e3 (φ := .f32) b2)) (k0_pay43 (e3 (φ := .f32) g')) (k0_pay44 (e3 (φ := .f32) o'))
      (k0_pay45 (k0_pay39 (e3 (φ := .f32) o)) s (k0_pay41 (e3 (φ := .f32) g)) (e3 (φ := .f32) w1) (e3 (φ := .f32) b1) (e3 (φ := .f32) w2) (e3 (φ := .f32) b2))
      (k0_pay46 (k0_pay39 (e3 (φ := .f32) o)) s (k0_pay41 (e3 (φ := .f32) g)) (e3 (φ := .f32) w1) (e3 (φ := .f32) b1) (e3 (φ := .f32) w2) (e3 (φ := .f32) b2))
      = e3 fun _ => Plain.norm (ffOut (Plain.norm x (g 0 0) (o 0 0)) (w1 0) (b1 0 0) (w2 0) (b2 0 0)) (g' 0 0) (o' 0 0) := by
  subst h
  have h := ff0 g o b2 w1 b1 w2 x
  rw [h]
  exact out0 g' o' _ _ _ _ _ _ _ _ h

theorem self1 {y : Mat 100 256} {x1 x2} (h : k0_pay57 (F := Ideal) x1 x2 = e2 y) :
    k0_pay73 (F := Ideal) (k0_pay57 x1 x2) (k0_pay59 x1 x2 (e3 (φ := .f32) W) (e3 (φ := .f32) b)) (k0_pay60 x1 x2 (e3 (φ := .f32) W) (e3 (φ := .f32) b)) (k0_pay61 x1 x2 (e3 (φ := .f32) W) (e3 (φ := .f32) b)) (k0_pay62 x1 x2 (e3 (φ := .f32) W) (e3 (φ := .f32) b))
      (k0_pay65 (k0_pay61 x1 x2 (e3 (φ := .f32) W) (e3 (φ := .f32) b)) (k0_pay63 x1 x2 (e3 (φ := .f32) W) (e3 (φ := .f32) b)) (k0_pay64 x1 x2 (e3 (φ := .f32) W) (e3 (φ := .f32) b)))
      (k0_pay66 (k0_pay59 x1 x2 (e3 (φ := .f32) W) (e3 (φ := .f32) b)) (k0_pay60 x1 x2 (e3 (φ := .f32) W) (e3 (φ := .f32) b)) (k0_pay61 x1 x2 (e3 (φ := .f32) W) (e3 (φ := .f32) b))) (k0_pay67 (k0_pay59 x1 x2 (e3 (φ := .f32) W) (e3 (φ := .f32) b)) (k0_pay60 x1 x2 (e3 (φ := .f32) W) (e3 (φ := .f32) b)) (k0_pay61 x1 x2 (e3 (φ := .f32) W) (e3 (φ := .f32) b))) (k0_pay69 (k0_pay61 x1 x2 (e3 (φ := .f32) W) (e3 (φ := .f32) b)) (k0_pay68 (k0_pay59 x1 x2 (e3 (φ := .f32) W) (e3 (φ := .f32) b)) (k0_pay60 x1 x2 (e3 (φ := .f32) W) (e3 (φ := .f32) b))))
      (k0_pay70 (k0_pay59 x1 x2 (e3 (φ := .f32) W) (e3 (φ := .f32) b)) (k0_pay60 x1 x2 (e3 (φ := .f32) W) (e3 (φ := .f32) b)) (k0_pay61 x1 x2 (e3 (φ := .f32) W) (e3 (φ := .f32) b))) (k0_pay71 (k0_pay59 x1 x2 (e3 (φ := .f32) W) (e3 (φ := .f32) b)) (k0_pay60 x1 x2 (e3 (φ := .f32) W) (e3 (φ := .f32) b))) (k0_pay72 (k0_pay59 x1 x2 (e3 (φ := .f32) W) (e3 (φ := .f32) b)) (k0_pay60 x1 x2 (e3 (φ := .f32) W) (e3 (φ := .f32) b))) (e3 (φ := .f32) wo) (e3 (φ := .f32) bo)
      = e2 (selfOut (W 0) (b 0 0) (wo 0) (bo 0 0) y) := by
  obtain ⟨h59, h60, h61⟩ := qkv1 W b y x1 x2 h
  have := sa1 bo wo W b y _ _ _ x1 x2 h59 h60 h61
  rw [h, h59, h60, h61]
  exact this

theorem last1 {x : Mat 100 256} {s} (h : s = e2 x) :
    k0_pay230 (F := Ideal) (k0_pay79 (k0_pay76 s (k0_pay74 (e3 (φ := .f32) g)) (k0_pay75 (e3 (φ := .f32) o))) (k0_pay77 s (k0_pay74 (e3 (φ := .f32) g)) (k0_pay75 (e3 (φ := .f32) o)) (e3 (φ := .f32) w1) (e3 (φ := .f32) b1) (e3 (φ := .f32) w2)) (k0_pay78 (e3 (φ := .f32) b2)) (e3 (φ := .f32) g') (e3 (φ := .f32) o'))
      = e3 fun _ => Plain.norm (ffOut (Plain.norm x (g 0 0) (o 0 0)) (w1 0) (b1 0 0) (w2 0) (b2 0 0)) (g' 0 0) (o' 0 0) := by
  subst h
  have h := n1 g o x
  rw [h]
  exact out1 b2 w1 b1 w2 _ _ _ _ h g' o'

variable (g1 o1 c1 : Fin 1 → Fin 256 → ℝ) (v1 : Mat 256 256) (v2 : Mat 19 256) (c2 : Fin 1 → Fin 19 → ℝ)

theorem end81' {q : Mat 100 256} {x} (h : x = e3 (φ := .f32) fun _ => q) :
    k0_pay81 (F := Ideal) x (e2 (φ := .f32) g1) (e2 (φ := .f32) o1) = e4 fun _ _ => Plain.norm q (g1 0) (o1 0) := by
  subst h; exact end81 _ g1 o1

theorem end83' {q : Mat 100 256} {x} (h : x = e3 (φ := .f32) fun _ => q) :
    k0_pay83 (F := Ideal) (k0_pay82 x (e2 (φ := .f32) g1) (e2 (φ := .f32) o1) (e2 (φ := .f32) v1)) (e2 (φ := .f32) c1)
      (e2 (φ := .f32) v2) (e2 (φ := .f32) c2) = e4 fun _ _ => labelsOf (Plain.norm q (g1 0) (o1 0)) v1 (c1 0) v2 (c2 0) := by
  subst h; exact end83 _ g1 o1 c1 v1 v2 c2

theorem end232' {q : Mat 100 256} {x} (h : x = e3 (φ := .f32) fun _ => q) :
    k0_pay232 (F := Ideal) (k0_pay85 (e2 (φ := .f32) g1)) (k0_pay86 (e2 (φ := .f32) o1)) (k0_pay88 x)
      (k0_pay89 x) (Scalar.ofBits .f32 0x3727C5AC#32) = e4 fun _ _ => Plain.norm q (g1 0) (o1 0) := by
  subst h; exact end232 _ g1 o1

theorem end233' {q : Mat 100 256} {x} (h : x = e3 (φ := .f32) fun _ => q) :
    k0_pay233 (F := Ideal) (k0_pay85 (e2 (φ := .f32) g1)) (k0_pay86 (e2 (φ := .f32) o1)) (k0_pay88 x)
      (k0_pay89 x) (Scalar.ofBits .f32 0x3727C5AC#32) (e2 (φ := .f32) v1) (e2 (φ := .f32) c1)
      (e2 (φ := .f32) v2) (e2 (φ := .f32) c2) = e4 fun _ _ => labelsOf (Plain.norm q (g1 0) (o1 0)) v1 (c1 0) v2 (c2 0) := by
  subst h; exact end233 _ g1 o1 c1 v1 v2 c2

end Cert.Late
-- ==== Proof.CaseC.lean ====
/-
  The last grid point of a layer: what it leaves in the carried buffers, on arrays of real numbers.
-/
module

public import proofs.«01_k».proof.Proof.Late
public import proofs.«01_k».proof.Proof.Gen.Own.KernelIdeal.Frame.RunC

@[expose] public section

set_option maxRecDepth 16384

noncomputable section

namespace Cert.Point

open Idealize.ShloMosaic Cert.KernelIdeal Cert.KernelIdeal.Gen Cert.Vec Cert.Plain Cert.Chunk Cert.Layer Cert.Late Cert.Blocks Cert.Read

set_option maxHeartbeats 4000000 in
theorem caseC (c : Dev nD) (i : grid0.Coords) (arg3) (harg3) (arg4) (harg4) (arg5) (harg5) (arg6) (harg6) (arg7) (harg7) (arg8) (harg8) (arg9) (harg9) (arg10) (harg10) (arg11) (harg11) (arg12) (harg12) (arg13) (harg13) (arg14) (harg14) (arg15) (harg15) (arg16) (harg16) (arg17) (harg17) (arg18) (harg18) (arg19) (harg19) (arg20) (harg20) (arg21) (harg21) (arg22) (harg22) (arg23) (harg23) (arg24) (harg24) (arg25) (harg25) (arg26) (harg26) (arg27) (harg27) (arg28) (harg28) (arg29) (harg29) (arg30) (harg30) (arg31) (harg31) (arg32) (harg32) (arg33) (harg33) (hc0) (hc1) (hc2) (hc3) {A : Args} {w : Weights} {I : Fin 2 → Mat 5000 256} (x0 x1 x2 x3 x4 x5 x6 x7 x8 x9 x10 x11 x12 x13 x14 x15 x16 x17 x18 x19 x20 x21 x22 x23)
    (xs0 xs1 xs2 xs3 xs4) (s : St) (h0 : xs0 = e3 (φ := .f32) s.q) (h1 : xs1 = e3 (φ := .f32) s.qp) (h2 : xs2 = e3 (φ := .f32) s.a) (h3 : xs3 = e3 (φ := .f32) s.μ) (h4 : xs4 = e3 (φ := .f32) s.l)
    (hI : Ins A w I x0 x1 x2 x3 x4 x5 x6 x7 x8 x9 x10 x11 x12 x13 x14 x15 x16 x17 x18 x19 x20 x21 x22 x23) :
    let r := (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 hc1 hc2 hc3 x0 x1 x2 x3 x4 x5 x6 x7 x8 x9 x10 x11 x12 x13 x14 x15 x16 x17 x18 x19 x20 x21 x22 x23 xs0 xs1 xs2 xs3 xs4)
    (∀ g i h, (chunk w I s).l g i h ≠ 0) →
    View.canon r.2.2.1 = e3 (φ := .f32) (finish w (chunk w I s)).q ∧ View.canon r.2.2.2.2.1 = e3 (φ := .f32) (chunk w I s).a ∧
      View.canon r.2.2.2.2.2.1 = e3 (φ := .f32) (chunk w I s).μ ∧ View.canon r.2.2.2.2.2.2.1 = e3 (φ := .f32) (chunk w I s).l := by
  obtain ⟨rfl, rfl, rfl, rfl, rfl, rfl, rfl, rfl, rfl, rfl, rfl, rfl, rfl, rfl, rfl, rfl, rfl, rfl, rfl, rfl, rfl, rfl, rfl, rfl⟩ := hI
  subst h0 h1 h2 h3 h4
  have m1 := m1 (fun _ => third 1 w.caW) (fun _ _ _ => I 1) (fun _ => (s).qp 1) (fun _ => (s).μ 1)
  have m0 := m0 (fun _ => third 1 w.caW) (fun _ _ _ => I 0) (fun _ => (s).qp 0) (fun _ => (s).μ 0)
  have l1 := l1 (fun _ => third 1 w.caW) (fun _ _ _ => I 1) (fun _ => (s).qp 1) (fun _ => (s).μ 1) (fun _ => (s).l 1)
  have l0 := l0 (fun _ => third 1 w.caW) (fun _ _ _ => I 0) (fun _ => (s).qp 0) (fun _ => (s).μ 0) (fun _ => (s).l 0)
  have a1 := a1 (fun _ => third 1 w.caW) (fun _ => third 2 w.caW) (fun _ _ _ => I 1) (fun _ => (s).qp 1) (fun _ => (s).μ 1) (fun _ => (s).a 1)
  have a0 := a0 (fun _ => third 1 w.caW) (fun _ => third 2 w.caW) (fun _ _ _ => I 0) (fun _ => (s).qp 0) (fun _ => (s).μ 0) (fun _ => (s).a 0)

  intro r hl
  refine ⟨?_, ?_, ?_, ?_⟩
  all_goals
    unfold r kernelRun0_C
    dsimp only
    sl_unfold_words
    refine canon_two ?_ ?_ _ _ _
    all_goals
      simp (maxSteps := 10000000) (disch := rfl) only [View.readAt_eq_ld, cat_fold, Memref.IsWhole.read_unread]
      simp (maxSteps := 10000000) (disch := rfl) only [cov_all, cov_skip0, cov_skip1, View.readCov_cons_toLoadRect, p5, p92, p93, ld_row, ld_third0, ld_third1, ld_third2, ld_inst, ld_thirdV0, p94, p95, p97, p98, p99, p100, p101, p102, p163, p164, p165, p166, p167, p168, p169, ld_all3, ld_thirdV2, Fin.zero_eta, Fin.mk_one]
      try simp (maxSteps := 10000000) (disch := rfl) only [m0, l0, a0, m1, l1, a1]
  · refine last1 (x := selfOut w.saW w.saB w.saWo w.saBo (caOut (s.q 1) ((chunk w I s).a 1) ((chunk w I s).l 1) (thirdV 2 w.caB) w.caWo w.caBo))
      (fun _ _ => w.saG) (fun _ _ => w.saO) (fun _ _ => w.b2) (fun _ _ => w.ffG) (fun _ _ => w.ffO) (fun _ => w.w1) (fun _ _ => w.b1) (fun _ => w.w2) ?_
    refine self1 (fun _ => w.saW) (fun _ _ => w.saB) (fun _ => w.saWo) (fun _ _ => w.saBo) ?_
    exact ca1 (fun _ => s.q 1) (fun _ => (chunk w I s).a 1) (fun _ => (chunk w I s).l 1) (fun _ _ => thirdV 2 w.caB) (fun _ => w.caWo) (fun _ _ => w.caBo) (hl 1)
  · refine last0 (x := selfOut w.saW w.saB w.saWo w.saBo (caOut (s.q 0) ((chunk w I s).a 0) ((chunk w I s).l 0) (thirdV 2 w.caB) w.caWo w.caBo))
      (fun _ _ => w.saG) (fun _ _ => w.saO) (fun _ _ => w.b2) (fun _ _ => w.ffG) (fun _ _ => w.ffO) (fun _ => w.w1) (fun _ _ => w.b1) (fun _ => w.w2) ?_
    refine self0 (fun _ => w.saW) (fun _ _ => w.saB) (fun _ => w.saWo) (fun _ _ => w.saBo) ?_
    exact caLast0 (fun _ => s.q 0) (fun _ => (chunk w I s).a 0) (fun _ => (chunk w I s).l 0) (fun _ _ => thirdV 2 w.caB) (fun _ _ => w.caBo) (fun _ => w.caWo) (hl 0)
  all_goals rfl

end Cert.Point
-- ==== Proof.CaseD.lean ====
/-
  A grid point that starts a layer: what it leaves in the carried buffers, on arrays of real numbers.
-/
module

public import proofs.«01_k».proof.Proof.Point
public import proofs.«01_k».proof.Proof.Gen.Own.KernelIdeal.Frame.RunD

@[expose] public section

set_option maxRecDepth 16384

noncomputable section

namespace Cert.Point

open Idealize.ShloMosaic Cert.KernelIdeal Cert.KernelIdeal.Gen Cert.Vec Cert.Plain Cert.Chunk Cert.Layer Cert.Blocks Cert.Read

set_option maxHeartbeats 4000000 in
theorem caseD (c : Dev nD) (i : grid0.Coords) (arg3) (harg3) (arg4) (harg4) (arg5) (harg5) (arg6) (harg6) (arg7) (harg7) (arg8) (harg8) (arg9) (harg9) (arg10) (harg10) (arg11) (harg11) (arg12) (harg12) (arg13) (harg13) (arg14) (harg14) (arg15) (harg15) (arg16) (harg16) (arg17) (harg17) (arg18) (harg18) (arg19) (harg19) (arg20) (harg20) (arg21) (harg21) (arg22) (harg22) (arg23) (harg23) (arg24) (harg24) (arg25) (harg25) (arg26) (harg26) (arg27) (harg27) (arg28) (harg28) (arg29) (harg29) (arg30) (harg30) (arg31) (harg31) (arg32) (harg32) (arg33) (harg33) (hc0) (hc1) (hc2) (hc3) {A : Args} {w : Weights} {I : Fin 2 → Mat 5000 256} (x0 x1 x2 x3 x4 x5 x6 x7 x8 x9 x10 x11 x12 x13 x14 x15 x16 x17 x18 x19 x20 x21 x22 x23)
    (xs0) (q : Fin 2 → Mat 100 256) (h0 : xs0 = e3 (φ := .f32) q)
    (hI : Ins A w I x0 x1 x2 x3 x4 x5 x6 x7 x8 x9 x10 x11 x12 x13 x14 x15 x16 x17 x18 x19 x20 x21 x22 x23) :
    let r := (kernelRun0_D (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 hc1 hc2 hc3 x0 x1 x2 x3 x4 x5 x6 x7 x8 x9 x10 x11 x12 x13 x14 x15 x16 x17 x18 x19 x20 x21 x22 x23 xs0)
    View.canon r.2.2.2.1 = e3 (φ := .f32) (begin w q).qp ∧ View.canon r.2.2.2.2.1 = e3 (φ := .f32) (chunk w I (begin w q)).a ∧
      View.canon r.2.2.2.2.2.1 = e3 (φ := .f32) (chunk w I (begin w q)).μ ∧ View.canon r.2.2.2.2.2.2.1 = e3 (φ := .f32) (chunk w I (begin w q)).l := by
  obtain ⟨rfl, rfl, rfl, rfl, rfl, rfl, rfl, rfl, rfl, rfl, rfl, rfl, rfl, rfl, rfl, rfl, rfl, rfl, rfl, rfl, rfl, rfl, rfl, rfl⟩ := hI
  subst h0
  have m1 := m1 (fun _ => third 1 w.caW) (fun _ _ _ => I 1) (fun _ => (begin w q).qp 1) (fun _ => (begin w q).μ 1)
  have m0 := m0 (fun _ => third 1 w.caW) (fun _ _ _ => I 0) (fun _ => (begin w q).qp 0) (fun _ => (begin w q).μ 0)
  have l1 := l1 (fun _ => third 1 w.caW) (fun _ _ _ => I 1) (fun _ => (begin w q).qp 1) (fun _ => (begin w q).μ 1) (fun _ => (begin w q).l 1)
  have l0 := l0 (fun _ => third 1 w.caW) (fun _ _ _ => I 0) (fun _ => (begin w q).qp 0) (fun _ => (begin w q).μ 0) (fun _ => (begin w q).l 0)
  have a1 := a1 (fun _ => third 1 w.caW) (fun _ => third 2 w.caW) (fun _ _ _ => I 1) (fun _ => (begin w q).qp 1) (fun _ => (begin w q).μ 1) (fun _ => (begin w q).a 1)
  have a0 := a0 (fun _ => third 1 w.caW) (fun _ => third 2 w.caW) (fun _ _ _ => I 0) (fun _ => (begin w q).qp 0) (fun _ => (begin w q).μ 0) (fun _ => (begin w q).a 0)
  intro r
  refine ⟨?_, ?_, ?_, ?_⟩
  all_goals
    unfold r kernelRun0_D
    dsimp only
    sl_unfold_words
    refine canon_two ?_ ?_ _ _ _
    all_goals
      simp only [View.readAt_eq_ld, Memref.IsWhole.read_unread]
      simp only [cov_all, cov_skip0, cov_skip1, View.readCov_cons_toLoadRect, p5, p92, p93, ld_row, ld_third0, ld_third1, ld_third2, ld_inst, ld_thirdV0, p94, p95, p97, p98, p99, p100, p101, p102, p163, p164, p165, p166, p167, p168, p169, q0, q1]
  · rfl
  · rfl
  · exact a1
  · exact a0
  · exact m1
  · exact m0
  · exact l1
  · exact l0

end Cert.Point
-- ==== Proof.CaseE.lean ====
/-
  The last grid point of a group: what it leaves in the two result blocks, on arrays of real numbers.
-/
module

public import proofs.«01_k».proof.Proof.Late
public import proofs.«01_k».proof.Proof.Gen.Own.KernelIdeal.Frame.RunE

@[expose] public section

set_option maxRecDepth 16384

noncomputable section

namespace Cert.Point

open Idealize.ShloMosaic Cert.KernelIdeal Cert.KernelIdeal.Gen Cert.Vec Cert.Plain Cert.Chunk Cert.Layer Cert.Late Cert.Blocks Cert.Read

set_option maxHeartbeats 4000000 in
theorem caseE (c : Dev nD) (i : grid0.Coords) (arg3) (harg3) (arg4) (harg4) (arg5) (harg5) (arg6) (harg6) (arg7) (harg7) (arg8) (harg8) (arg9) (harg9) (arg10) (harg10) (arg11) (harg11) (arg12) (harg12) (arg13) (harg13) (arg14) (harg14) (arg15) (harg15) (arg16) (harg16) (arg17) (harg17) (arg18) (harg18) (arg19) (harg19) (arg20) (harg20) (arg21) (harg21) (arg22) (harg22) (arg23) (harg23) (arg24) (harg24) (arg25) (harg25) (arg26) (harg26) (arg27) (harg27) (arg28) (harg28) (arg29) (harg29) (arg30) (harg30) (arg31) (harg31) (arg32) (harg32) (arg33) (harg33) (hc0) (hc1) (hc2) (hc3) {A : Args} {w : Weights} {I : Fin 2 → Mat 5000 256} (x0 x1 x2 x3 x4 x5 x6 x7 x8 x9 x10 x11 x12 x13 x14 x15 x16 x17 x18 x19 x20 x21 x22 x23)
    (xs0 xs1 xs2 xs3 xs4) (s : St) (h0 : xs0 = e3 (φ := .f32) s.q) (h1 : xs1 = e3 (φ := .f32) s.qp) (h2 : xs2 = e3 (φ := .f32) s.a) (h3 : xs3 = e3 (φ := .f32) s.μ) (h4 : xs4 = e3 (φ := .f32) s.l)
    (hI : Ins A w I x0 x1 x2 x3 x4 x5 x6 x7 x8 x9 x10 x11 x12 x13 x14 x15 x16 x17 x18 x19 x20 x21 x22 x23) :
    let r := (kernelRun0_E (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 hc1 hc2 hc3 x0 x1 x2 x3 x4 x5 x6 x7 x8 x9 x10 x11 x12 x13 x14 x15 x16 x17 x18 x19 x20 x21 x22 x23 xs0 xs1 xs2 xs3 xs4)
    (∀ g i h, (chunk w I s).l g i h ≠ 0) →
    View.canon r.1 = e4 (φ := .f32) (fun _ g => Plain.norm ((finish w (chunk w I s)).q g) A.outG A.outO) ∧
      View.canon r.2.1 = e4 (φ := .f32) (fun _ g => labelsOf (Plain.norm ((finish w (chunk w I s)).q g) A.outG A.outO) A.cls1 A.clsB1 A.cls2 A.clsB2) := by
  obtain ⟨rfl, rfl, rfl, rfl, rfl, rfl, rfl, rfl, rfl, rfl, rfl, rfl, rfl, rfl, rfl, rfl, rfl, rfl, rfl, rfl, rfl, rfl, rfl, rfl⟩ := hI
  subst h0 h1 h2 h3 h4
  have m1 := m1 (fun _ => third 1 w.caW) (fun _ _ _ => I 1) (fun _ => (s).qp 1) (fun _ => (s).μ 1)
  have m0 := m0 (fun _ => third 1 w.caW) (fun _ _ _ => I 0) (fun _ => (s).qp 0) (fun _ => (s).μ 0)
  have l1 := l1 (fun _ => third 1 w.caW) (fun _ _ _ => I 1) (fun _ => (s).qp 1) (fun _ => (s).μ 1) (fun _ => (s).l 1)
  have l0 := l0 (fun _ => third 1 w.caW) (fun _ _ _ => I 0) (fun _ => (s).qp 0) (fun _ => (s).μ 0) (fun _ => (s).l 0)
  have a1 := a1 (fun _ => third 1 w.caW) (fun _ => third 2 w.caW) (fun _ _ _ => I 1) (fun _ => (s).qp 1) (fun _ => (s).μ 1) (fun _ => (s).a 1)
  have a0 := a0 (fun _ => third 1 w.caW) (fun _ => third 2 w.caW) (fun _ _ _ => I 0) (fun _ => (s).qp 0) (fun _ => (s).μ 0) (fun _ => (s).a 0)

  intro r hl
  refine ⟨?_, ?_⟩
  all_goals
    unfold r kernelRun0_E
    dsimp only
    sl_unfold_words
    refine canon_pair ?_ ?_ _ _ _
    all_goals
      simp (maxSteps := 10000000) (disch := rfl) only [View.readAt_eq_ld, cat_fold, Memref.IsWhole.read_unread]
      simp (maxSteps := 10000000) (disch := rfl) only [cov_all, cov_skip0, cov_skip1, View.readCov_cons_toLoadRect, p5, p92, p93, ld_row, ld_third0, ld_third1, ld_third2, ld_inst, ld_thirdV0, p94, p95, p97, p98, p99, p100, p101, p102, p163, p164, p165, p166, p167, p168, p169, ld_all3, ld_all2, ld_thirdV2, Fin.zero_eta, Fin.mk_one]
      try simp (maxSteps := 10000000) (disch := rfl) only [m0, l0, a0, m1, l1, a1]
  · refine end232' (fun _ => A.outG) (fun _ => A.outO) ?_
    refine last1 (x := selfOut w.saW w.saB w.saWo w.saBo (caOut (s.q 1) ((chunk w I s).a 1) ((chunk w I s).l 1) (thirdV 2 w.caB) w.caWo w.caBo))
      (fun _ _ => w.saG) (fun _ _ => w.saO) (fun _ _ => w.b2) (fun _ _ => w.ffG) (fun _ _ => w.ffO) (fun _ => w.w1) (fun _ _ => w.b1) (fun _ => w.w2) ?_
    refine self1 (fun _ => w.saW) (fun _ _ => w.saB) (fun _ => w.saWo) (fun _ _ => w.saBo) ?_
    exact ca1 (fun _ => s.q 1) (fun _ => (chunk w I s).a 1) (fun _ => (chunk w I s).l 1) (fun _ _ => thirdV 2 w.caB) (fun _ => w.caWo) (fun _ _ => w.caBo) (hl 1)
  · refine end81' (fun _ => A.outG) (fun _ => A.outO) ?_
    refine last0 (x := selfOut w.saW w.saB w.saWo w.saBo (caOut (s.q 0) ((chunk w I s).a 0) ((chunk w I s).l 0) (thirdV 2 w.caB) w.caWo w.caBo))
      (fun _ _ => w.saG) (fun _ _ => w.saO) (fun _ _ => w.b2) (fun _ _ => w.ffG) (fun _ _ => w.ffO) (fun _ => w.w1) (fun _ _ => w.b1) (fun _ => w.w2) ?_
    refine self0 (fun _ => w.saW) (fun _ _ => w.saB) (fun _ => w.saWo) (fun _ _ => w.saBo) ?_
    exact caLast0 (fun _ => s.q 0) (fun _ => (chunk w I s).a 0) (fun _ => (chunk w I s).l 0) (fun _ _ => thirdV 2 w.caB) (fun _ _ => w.caBo) (fun _ => w.caWo) (hl 0)
  · refine end233' (fun _ => A.outG) (fun _ => A.outO) (fun _ => A.clsB1) A.cls1 A.cls2 (fun _ => A.clsB2) ?_
    refine last1 (x := selfOut w.saW w.saB w.saWo w.saBo (caOut (s.q 1) ((chunk w I s).a 1) ((chunk w I s).l 1) (thirdV 2 w.caB) w.caWo w.caBo))
      (fun _ _ => w.saG) (fun _ _ => w.saO) (fun _ _ => w.b2) (fun _ _ => w.ffG) (fun _ _ => w.ffO) (fun _ => w.w1) (fun _ _ => w.b1) (fun _ => w.w2) ?_
    refine self1 (fun _ => w.saW) (fun _ _ => w.saB) (fun _ => w.saWo) (fun _ _ => w.saBo) ?_
    exact ca1 (fun _ => s.q 1) (fun _ => (chunk w I s).a 1) (fun _ => (chunk w I s).l 1) (fun _ _ => thirdV 2 w.caB) (fun _ => w.caWo) (fun _ _ => w.caBo) (hl 1)
  · refine end83' (fun _ => A.outG) (fun _ => A.outO) (fun _ => A.clsB1) A.cls1 A.cls2 (fun _ => A.clsB2) ?_
    refine last0 (x := selfOut w.saW w.saB w.saWo w.saBo (caOut (s.q 0) ((chunk w I s).a 0) ((chunk w I s).l 0) (thirdV 2 w.caB) w.caWo w.caBo))
      (fun _ _ => w.saG) (fun _ _ => w.saO) (fun _ _ => w.b2) (fun _ _ => w.ffG) (fun _ _ => w.ffO) (fun _ => w.w1) (fun _ _ => w.b1) (fun _ => w.w2) ?_
    refine self0 (fun _ => w.saW) (fun _ _ => w.saB) (fun _ => w.saWo) (fun _ _ => w.saBo) ?_
    exact caLast0 (fun _ => s.q 0) (fun _ => (chunk w I s).a 0) (fun _ => (chunk w I s).l 0) (fun _ _ => thirdV 2 w.caB) (fun _ _ => w.caBo) (fun _ => w.caWo) (hl 0)

end Cert.Point
-- ==== Proof.Sweep.lean ====
/- The sweep of the grid: what the carried buffers hold after each point, and what the two result arrays hold in the end. -/
module

public import proofs.«01_k».proof.Proof.Flash
public import proofs.«01_k».proof.Proof.CaseA
public import proofs.«01_k».proof.Proof.CaseB
public import proofs.«01_k».proof.Proof.CaseC
public import proofs.«01_k».proof.Proof.CaseD
public import proofs.«01_k».proof.Proof.CaseE
public import proofs.«01_k».proof.Proof.Gen.Own.KernelIdeal.Value

@[expose] public section

set_option maxRecDepth 16384

noncomputable section

namespace Cert.Sweep

open Idealize.ShloMosaic Idealize.ShloMosaic.TcCoe
open Cert.KernelIdeal Cert.KernelIdeal.Gen Cert.KernelIdeal.Value Cert.Vec Cert.Plain Cert.Layer Cert.Blocks Cert.Point Cert.Flash

/-- The two batch entries of group `g`. -/
def pair (A : Args) (g : ℕ) (gi : Fin 2) : Mat 25000 256 := A.inst (bat g gi)

/-- The weights of layer `l`. -/
def wt (A : Args) (l : ℕ) : Weights := A.layer ⟨l % 6, Nat.mod_lt _ (by norm_num)⟩

/-- The queries of the two batch entries of group `g` after `l` layers. -/
def qs (A : Args) (g l : ℕ) (gi : Fin 2) : Mat 100 256 := layers (wt A) (pair A g gi) A.query l

/-- The five carried buffers. -/
abbrev Bufs := Vec Ideal S2x100x256 .f32 × Vec Ideal S2x100x256 .f32 × Vec Ideal S2x100x256 .f32 × Vec Ideal S2x100x8 .f32 × Vec Ideal S2x100x8 .f32

/-- The five carried buffers holding a state. -/
def vals (s : St) : Bufs := (e3 (φ := .f32) s.q, e3 (φ := .f32) s.qp, e3 (φ := .f32) s.a, e3 (φ := .f32) s.μ, e3 (φ := .f32) s.l)

/-- The two result blocks and the five carried buffers. -/
abbrev Acc := Vec Ideal S1x2x100x256 .f32 × Vec Ideal S1x2x100x19 .f32 × Bufs

variable {m : (ℓ : Loc nD τ sig) → Buf (Elt Ideal) ℓ} {c : Dev nD} {A : Args} (H : Holds m c A)

include H

/-- The blocks of point `t` hold the arguments of its layer and its chunk of rows. -/
theorem ins (t : Fin cfg0.N) : Ins A (A.layer (lay t.val)) (rows (pair A (t.val / 30)) (t.val % 5)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) :=
  ⟨b0 H t, b1 H t, b2 H t, b3 H t, b4 H t, b5 H t, b6 H t, b7 H t, b8 H t, b9 H t, b10 H t, b11 H t, b12 H t, b13 H t, b14 H t, b15 H t, b16 H t, b17 H t, b18 H t, b19 H t, b20 H t, b21 H t, b22 H t, b23 H t⟩

theorem stepA (t : Fin cfg0.N) (acc : Acc) (h0 : t.val % 30 = 0) (h1 : t.val % 5 = 0) (h2 : ¬t.val % 5 = 4) (h3 : ¬t.val % 30 = 29) :
    (stAt0 m c t.val t.isLt acc).2.2 = vals (chunk (A.layer (lay t.val)) (rows (pair A (t.val / 30)) (t.val % 5)) (begin (A.layer (lay t.val)) fun _ => A.query)) := by
  have h := Point.caseA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)  (ins H t)
  dsimp only at h
  obtain ⟨hq, hp, ha, hμ, hl⟩ := h
  rw [stAt0_A m c t acc h0 h1 h2 h3]
  refine Prod.ext ?_ (Prod.ext ?_ (Prod.ext ?_ (Prod.ext ?_ ?_)))
  · dsimp only [vals]; unfold sout0_A_0; rw [View.read_writes_junk_eq_canon]; exact hq
  · dsimp only [vals]; unfold sout0_A_1; rw [View.read_writes_junk_eq_canon]; exact hp
  · dsimp only [vals]; unfold sout0_A_2; rw [View.read_writes_junk_eq_canon]; exact ha
  · dsimp only [vals]; unfold sout0_A_3; rw [View.read_writes_junk_eq_canon]; exact hμ
  · dsimp only [vals]; unfold sout0_A_4; rw [View.read_writes_junk_eq_canon]; exact hl

theorem stepD (t : Fin cfg0.N) (acc : Acc) (h0 : ¬t.val % 30 = 0) (h1 : t.val % 5 = 0) (h2 : ¬t.val % 5 = 4) (h3 : ¬t.val % 30 = 29) (q : Fin 2 → Mat 100 256) (hs : acc.2.2.1 = e3 (φ := .f32) q) :
    (stAt0 m c t.val t.isLt acc).2.2 = vals (chunk (A.layer (lay t.val)) (rows (pair A (t.val / 30)) (t.val % 5)) (begin (A.layer (lay t.val)) q)) := by
  have h := Point.caseD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) acc.2.2.1 q hs (ins H t)
  dsimp only at h
  obtain ⟨hp, ha, hμ, hl⟩ := h
  rw [stAt0_D m c t acc h0 h1 h2 h3]
  refine Prod.ext ?_ (Prod.ext ?_ (Prod.ext ?_ (Prod.ext ?_ ?_)))
  · exact hs
  · dsimp only [vals]; unfold sout0_D_1; rw [View.read_writes_junk_eq_canon]; exact hp
  · dsimp only [vals]; unfold sout0_D_2; rw [View.read_writes_junk_eq_canon]; exact ha
  · dsimp only [vals]; unfold sout0_D_3; rw [View.read_writes_junk_eq_canon]; exact hμ
  · dsimp only [vals]; unfold sout0_D_4; rw [View.read_writes_junk_eq_canon]; exact hl

theorem stepB (t : Fin cfg0.N) (acc : Acc) (h0 : ¬t.val % 30 = 0) (h1 : ¬t.val % 5 = 0) (h2 : ¬t.val % 5 = 4) (h3 : ¬t.val % 30 = 29) (s : St) (hs : acc.2.2 = vals s) :
    (stAt0 m c t.val t.isLt acc).2.2 = vals (chunk (A.layer (lay t.val)) (rows (pair A (t.val / 30)) (t.val % 5)) s) := by
  have h := Point.caseB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) acc.2.2.1 acc.2.2.2.1 acc.2.2.2.2.1 acc.2.2.2.2.2.1 acc.2.2.2.2.2.2 s (congrArg (fun p => p.1) hs) (congrArg (fun p => p.2.1) hs) (congrArg (fun p => p.2.2.1) hs) (congrArg (fun p => p.2.2.2.1) hs) (congrArg (fun p => p.2.2.2.2) hs) (ins H t)
  dsimp only at h
  obtain ⟨ha, hμ, hl⟩ := h
  rw [stAt0_B m c t acc h0 h1 h2 h3]
  refine Prod.ext ?_ (Prod.ext ?_ (Prod.ext ?_ (Prod.ext ?_ ?_)))
  · exact congrArg (fun p => p.1) hs
  · exact congrArg (fun p => p.2.1) hs
  · dsimp only [vals]; unfold sout0_B_2; rw [View.read_writes_junk_eq_canon]; exact ha
  · dsimp only [vals]; unfold sout0_B_3; rw [View.read_writes_junk_eq_canon]; exact hμ
  · dsimp only [vals]; unfold sout0_B_4; rw [View.read_writes_junk_eq_canon]; exact hl

theorem stepC (t : Fin cfg0.N) (acc : Acc) (h0 : ¬t.val % 30 = 0) (h1 : ¬t.val % 5 = 0) (h2 : t.val % 5 = 4) (h3 : ¬t.val % 30 = 29) (s : St) (hs : acc.2.2 = vals s)
    (hl : ∀ g i h, (chunk (A.layer (lay t.val)) (rows (pair A (t.val / 30)) (t.val % 5)) s).l g i h ≠ 0) :
    (stAt0 m c t.val t.isLt acc).2.2.1
      = e3 (φ := .f32) (finish (A.layer (lay t.val)) (chunk (A.layer (lay t.val)) (rows (pair A (t.val / 30)) (t.val % 5)) s)).q := by
  have h := Point.caseC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) acc.2.2.1 acc.2.2.2.1 acc.2.2.2.2.1 acc.2.2.2.2.2.1 acc.2.2.2.2.2.2 s (congrArg (fun p => p.1) hs) (congrArg (fun p => p.2.1) hs) (congrArg (fun p => p.2.2.1) hs) (congrArg (fun p => p.2.2.2.1) hs) (congrArg (fun p => p.2.2.2.2) hs) (ins H t)
  dsimp only at h
  rw [stAt0_C m c t acc h0 h1 h2 h3]
  dsimp only; unfold sout0_C_0; rw [View.read_writes_junk_eq_canon]; exact (h hl).1

theorem stepE (t : Fin cfg0.N) (acc : Acc) (h0 : ¬t.val % 30 = 0) (h1 : ¬t.val % 5 = 0) (h2 : t.val % 5 = 4) (h3 : t.val % 30 = 29) (s : St) (hs : acc.2.2 = vals s)
    (hl : ∀ g i h, (chunk (A.layer (lay t.val)) (rows (pair A (t.val / 30)) (t.val % 5)) s).l g i h ≠ 0) :
    (stAt0 m c t.val t.isLt acc).1 = e4 (φ := .f32) (fun _ g =>
        Plain.norm ((finish (A.layer (lay t.val)) (chunk (A.layer (lay t.val)) (rows (pair A (t.val / 30)) (t.val % 5)) s)).q g) A.outG A.outO)
    ∧ (stAt0 m c t.val t.isLt acc).2.1 = e4 (φ := .f32) (fun _ g => labelsOf
        (Plain.norm ((finish (A.layer (lay t.val)) (chunk (A.layer (lay t.val)) (rows (pair A (t.val / 30)) (t.val % 5)) s)).q g) A.outG A.outO)
        A.cls1 A.clsB1 A.cls2 A.clsB2) := by
  have h := Point.caseE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) acc.2.2.1 acc.2.2.2.1 acc.2.2.2.2.1 acc.2.2.2.2.2.1 acc.2.2.2.2.2.2 s (congrArg (fun p => p.1) hs) (congrArg (fun p => p.2.1) hs) (congrArg (fun p => p.2.2.1) hs) (congrArg (fun p => p.2.2.2.1) hs) (congrArg (fun p => p.2.2.2.2) hs) (ins H t)
  dsimp only at h
  rw [stAt0_E m c t acc h0 h1 h2 h3]
  dsimp only; unfold out0_E_24 out0_E_25
  rw [View.read_writes_junk_eq_canon, View.read_writes_junk_eq_canon]; exact h hl

omit H

/-- What is known after point `n`. -/
structure Inv (A : Args) (n : ℕ) (acc : Acc) : Prop where
  mid : n % 5 ≠ 4 → acc.2.2 = vals (upto (wt A (n / 5)) (pair A (n / 30)) (qs A (n / 30) (n / 5 % 6)) (n % 5 + 1))
  late : n % 5 = 4 → n % 30 ≠ 29 → acc.2.2.1 = e3 (φ := .f32) (qs A (n / 30) (n / 5 % 6 + 1))
  last : n % 30 = 29 → acc.1 = e4 (φ := .f32) (fun _ gi => Plain.norm (qs A (n / 30) 6 gi) A.outG A.outO)
    ∧ acc.2.1 = e4 (φ := .f32) (fun _ gi => labelsOf (Plain.norm (qs A (n / 30) 6 gi) A.outG A.outO) A.cls1 A.clsB1 A.cls2 A.clsB2)

theorem wt_mod (l : ℕ) : wt A (l % 6) = wt A l := by
  unfold wt; congr 1; exact Fin.ext (Nat.mod_mod _ _)

/-- The end of layer `l` leaves the queries after `l + 1` layers. -/
theorem finish_qs (g l : ℕ) : (finish (wt A l) (upto (wt A l) (pair A g) (qs A g (l % 6)) 5)).q = qs A g (l % 6 + 1) := by
  funext gi
  rw [finish_eq]
  show layer (wt A l) _ _ = layer (wt A (l % 6)) _ _
  rw [wt_mod]; rfl

include H

/-- One point, from what is known after the point before. -/
theorem step (t : Fin cfg0.N) (acc : Acc) (prev : t.val % 30 ≠ 0 → Inv A (t.val - 1) acc) : Inv A t.val (stAt0 m c t.val t.isLt acc) := by
  by_cases h1 : t.val % 5 = 0
  · have h2 : ¬t.val % 5 = 4 := by omega
    have h3 : ¬t.val % 30 = 29 := by omega
    refine ⟨fun _ => ?_, fun h => absurd h h2, fun h => absurd h h3⟩
    by_cases h0 : t.val % 30 = 0
    · rw [stepA H t acc h0 h1 h2 h3]
      have hz : t.val / 5 % 6 = 0 := by omega
      rw [hz, h1]; rfl
    · have p := (prev h0).late (by omega) (by omega)
      rw [show (t.val - 1) / 30 = t.val / 30 by omega, show (t.val - 1) / 5 % 6 + 1 = t.val / 5 % 6 by omega] at p
      rw [stepD H t acc h0 h1 h2 h3 _ p, h1]; rfl
  · have h0 : ¬t.val % 30 = 0 := by omega
    have p := (prev h0).mid (by omega)
    rw [show (t.val - 1) / 30 = t.val / 30 by omega, show (t.val - 1) / 5 = t.val / 5 by omega,
      show (t.val - 1) % 5 + 1 = t.val % 5 by omega] at p
    have hc : chunk (A.layer (lay t.val)) (rows (pair A (t.val / 30)) (t.val % 5))
        (upto (wt A (t.val / 5)) (pair A (t.val / 30)) (qs A (t.val / 30) (t.val / 5 % 6)) (t.val % 5))
        = upto (wt A (t.val / 5)) (pair A (t.val / 30)) (qs A (t.val / 30) (t.val / 5 % 6)) (t.val % 5 + 1) := rfl
    have hl : ∀ g i h, (chunk (A.layer (lay t.val)) (rows (pair A (t.val / 30)) (t.val % 5))
        (upto (wt A (t.val / 5)) (pair A (t.val / 30)) (qs A (t.val / 30) (t.val / 5 % 6)) (t.val % 5))).l g i h ≠ 0 := fun g i h => by
      rw [hc]; exact (l_pos _ _ _ _ g i h).ne'
    by_cases h2 : t.val % 5 = 4
    · have hf : (finish (A.layer (lay t.val)) (chunk (A.layer (lay t.val)) (rows (pair A (t.val / 30)) (t.val % 5))
          (upto (wt A (t.val / 5)) (pair A (t.val / 30)) (qs A (t.val / 30) (t.val / 5 % 6)) (t.val % 5)))).q
          = qs A (t.val / 30) (t.val / 5 % 6 + 1) := by
        rw [hc, h2]; exact finish_qs _ _
      by_cases h3 : t.val % 30 = 29
      · refine ⟨fun h => absurd h2 h, fun _ h => absurd h3 h, fun _ => ?_⟩
        have e := stepE H t acc h0 h1 h2 h3 _ p hl
        rw [hf, show t.val / 5 % 6 + 1 = 6 by omega] at e
        exact e
      · refine ⟨fun h => absurd h2 h, fun _ _ => ?_, fun h => absurd h h3⟩
        rw [stepC H t acc h0 h1 h2 h3 _ p hl, hf]
    · have h3 : ¬t.val % 30 = 29 := by omega
      refine ⟨fun _ => ?_, fun h => absurd h h2, fun h => absurd h h3⟩
      rw [stepB H t acc h0 h1 h2 h3 _ p, hc]

theorem inv : ∀ (n : ℕ) (hn : n < cfg0.N), Inv A n (outsAt0 m c n hn)
  | 0, hn => by rw [outsAt0_zero]; exact step H ⟨0, hn⟩ _ fun h => absurd rfl h
  | n + 1, hn => by rw [outsAt0_succ]; exact step H ⟨n + 1, hn⟩ _ fun _ => inv n _

/-- The first result array: the normed queries after the six layers. -/
theorem result0 : G24 m c = e4 (φ := .f32) fun b gi => Plain.norm (qs A b.val 6 gi) A.outG A.outO := by
  funext i
  have i0 : (i 0).val < 2 := (i 0).isLt
  have i1 : (i 1).val < 2 := (i 1).isLt
  have i2 : (i 2).val < 100 := (i 2).isLt
  have i3 : (i 3).val < 256 := (i 3).isLt
  have hr : run24Of i = (i 0).val := by unfold run24Of; omega
  have hp : pt24Of i < cfg0.N := by rw [show cfg0.N = 60 from N_0]; unfold pt24Of; omega
  unfold G24
  rw [dif_pos hp, ← outsAt0_sweep m c _ hp, ((inv H _ hp).last (by unfold pt24Of; omega)).1,
    show pt24Of i / 30 = (i 0).val by unfold pt24Of; omega]
  show ((Plain.norm (qs A (i 0).val 6 (loc24Of i 1)) A.outG A.outO (loc24Of i 2) (loc24Of i 3) : ℝ) : EReal) = _
  rw [show loc24Of i 1 = i 1 from Fin.ext (Nat.mod_eq_of_lt i1), show loc24Of i 2 = i 2 from Fin.ext (Nat.mod_eq_of_lt i2),
    show loc24Of i 3 = i 3 from Fin.ext (Nat.mod_eq_of_lt i3)]
  rfl

/-- The second result array: the class scores of the normed queries. -/
theorem result1 : G25 m c = e4 (φ := .f32) fun b gi =>
    labelsOf (Plain.norm (qs A b.val 6 gi) A.outG A.outO) A.cls1 A.clsB1 A.cls2 A.clsB2 := by
  funext i
  have i0 : (i 0).val < 2 := (i 0).isLt
  have i1 : (i 1).val < 2 := (i 1).isLt
  have i2 : (i 2).val < 100 := (i 2).isLt
  have i3 : (i 3).val < 19 := (i 3).isLt
  have hr : run25Of i = (i 0).val := by unfold run25Of; omega
  have hp : pt25Of i < cfg0.N := by rw [show cfg0.N = 60 from N_0]; unfold pt25Of; omega
  unfold G25
  rw [dif_pos hp, ← outsAt0_sweep m c _ hp, ((inv H _ hp).last (by unfold pt25Of; omega)).2,
    show pt25Of i / 30 = (i 0).val by unfold pt25Of; omega]
  show ((labelsOf (Plain.norm (qs A (i 0).val 6 (loc25Of i 1)) A.outG A.outO) A.cls1 A.clsB1 A.cls2 A.clsB2 (loc25Of i 2) (loc25Of i 3) : ℝ) : EReal) = _
  rw [show loc25Of i 1 = i 1 from Fin.ext (Nat.mod_eq_of_lt i1), show loc25Of i 2 = i 2 from Fin.ext (Nat.mod_eq_of_lt i2),
    show loc25Of i 3 = i 3 from Fin.ext (Nat.mod_eq_of_lt i3)]
  rfl

end Cert.Sweep
-- ==== Proof.RefVec.lean ====
/-
  The reference's operations on arrays of real numbers (Vec.lean), four batch entries at once: one layer's weights read
  out of a stack, a linear map with bias, the layer norm, splitting into heads, and attention as a softmax of the scores.
-/
module

public import proofs.«01_k».proof.Proof.Vec
public import proofs.«01_k».proof.Proof.Gen.ReferenceIdeal.Step
public import Idealize.ShloMosaic.Lib.DynamicIndex

@[expose] public section

set_option maxRecDepth 16384

noncomputable section

namespace Cert.RefVec

open Idealize.ShloMosaic Cert.Plain Cert.Vec Cert.ReferenceIdeal Cert.ReferenceIdeal.Gen

variable {φ φ' : FTy} {m n k p q : ℕ}

/-! ## One layer out of a stack -/

/-- The first offset of a slice that starts at number `j` of its stack. -/
theorem start3 (j : ℕ) (hj : j < 6) (a : Fin 3) :
    ((![(constantI S_ 32 (BitVec.ofNat 32 j) : IVec S_ 32), constantI S_ 32 0#32, constantI S_ 32 0#32] : Fin 3 → IVec S_ 32) a
      (Shape.Idx.first h_S_)).toInt = ((![j, 0, 0] : Fin 3 → ℕ) a : Int) := by
  match a with
  | ⟨0, _⟩ => exact toInt_ofNat_of_lt (by omega)
  | ⟨1, _⟩ => rfl
  | ⟨2, _⟩ => rfl

theorem start2 (j : ℕ) (hj : j < 6) (a : Fin 2) :
    ((![(constantI S_ 32 (BitVec.ofNat 32 j) : IVec S_ 32), constantI S_ 32 0#32] : Fin 2 → IVec S_ 32) a
      (Shape.Idx.first h_S_)).toInt = ((![j, 0] : Fin 2 → ℕ) a : Int) := by
  match a with
  | ⟨0, _⟩ => exact toInt_ofNat_of_lt (by omega)
  | ⟨1, _⟩ => rfl

theorem pick3 (W : Fin 6 → Mat m n) (j : ℕ) (hj : j < 6) (h hc) :
    shapeCast ⟨2, ![m, n]⟩ (Host.dynamicSlice ⟨3, ![1, m, n]⟩ (e3 W : FVec Ideal ⟨3, ![6, m, n]⟩ φ)
      (fun a => ((![(constantI S_ 32 (BitVec.ofNat 32 j) : IVec S_ 32), constantI S_ 32 0#32, constantI S_ 32 0#32] : Fin 3 → IVec S_ 32) a
        (Shape.Idx.first h_S_)).toInt) h) hc = (e2 (W ⟨j, hj⟩) : FVec Ideal ⟨2, ![m, n]⟩ φ) := by
  have hs : (⟨3, ![6, m, n]⟩ : Shape).Slices ![j, 0, 0] ⟨3, ![1, m, n]⟩ := ⟨rfl, fun a => by
    match a with
    | ⟨0, _⟩ => show j + 1 ≤ 6; omega
    | ⟨1, _⟩ => show 0 + m ≤ m; omega
    | ⟨2, _⟩ => show 0 + n ≤ n; omega⟩
  rw [Host.dynamicSlice_eq_extractStridedSlice _ _ _ _ _ hs (start3 j hj)]
  have he : extractStridedSlice ⟨3, ![1, m, n]⟩ ![j, 0, 0] (e3 W : FVec Ideal ⟨3, ![6, m, n]⟩ φ) hs = e3 fun _ : Fin 1 => W ⟨j, hj⟩ := by
    funext i
    have i0 : (i 0).val < 1 := (i 0).isLt
    show ((W _ _ _ : ℝ) : EReal) = _
    refine congrArg Real.toEReal ((congrFun (congrFun (congrArg W (Fin.ext ?_)) _) _).trans
      (congrArg₂ (W ⟨j, hj⟩) (Fin.ext (Nat.zero_add _)) (Fin.ext (Nat.zero_add _))))
    show j + (i 0).val = j; omega
  rw [he, cast_1mn]

theorem pick2 (W : Mat 6 n) (j : ℕ) (hj : j < 6) (h hc) :
    shapeCast ⟨1, ![n]⟩ (Host.dynamicSlice ⟨2, ![1, n]⟩ (e2 W : FVec Ideal ⟨2, ![6, n]⟩ φ)
      (fun a => ((![(constantI S_ 32 (BitVec.ofNat 32 j) : IVec S_ 32), constantI S_ 32 0#32] : Fin 2 → IVec S_ 32) a
        (Shape.Idx.first h_S_)).toInt) h) hc = (e1 (W ⟨j, hj⟩) : FVec Ideal ⟨1, ![n]⟩ φ) := by
  have hs : (⟨2, ![6, n]⟩ : Shape).Slices ![j, 0] ⟨2, ![1, n]⟩ := ⟨rfl, fun a => by
    match a with
    | ⟨0, _⟩ => show j + 1 ≤ 6; omega
    | ⟨1, _⟩ => show 0 + n ≤ n; omega⟩
  rw [Host.dynamicSlice_eq_extractStridedSlice _ _ _ _ _ hs (start2 j hj)]
  have he : extractStridedSlice ⟨2, ![1, n]⟩ ![j, 0] (e2 W : FVec Ideal ⟨2, ![6, n]⟩ φ) hs = e2 fun _ : Fin 1 => W ⟨j, hj⟩ := by
    funext i
    have i0 : (i 0).val < 1 := (i 0).isLt
    show ((W _ _ : ℝ) : EReal) = _
    refine congrArg Real.toEReal (congrArg₂ W (Fin.ext ?_) (Fin.ext (Nat.zero_add _)))
    show j + (i 0).val = j; omega
  rw [he, cast_1n]

/-- A third of a stack of three biases. -/
theorem slice_1 {c o : ℕ} (A : Fin n → ℝ) (h : (⟨1, ![n]⟩ : Shape).Slices ![o] ⟨1, ![c]⟩) (hb : o + c ≤ n) :
    extractStridedSlice ⟨1, ![c]⟩ ![o] (e1 A : FVec Ideal _ φ) h = e1 fun i : Fin c => A ⟨o + i.val, by omega⟩ := rfl

theorem flip_e2 (A : Mat m n) (h) : transpose ⟨2, ![n, m]⟩ [1, 0] (e2 A : FVec Ideal ⟨2, ![m, n]⟩ φ) h = e2 fun i j => A j i := by
  funext j; exact transpose_apply _ _ _ j (ix2 (j 1) (j 0)) (fun a => by match a with | ⟨0, _⟩ => rfl | ⟨1, _⟩ => rfl)

/-- A position inside an axis is itself, also where the axis has length one. -/
theorem clamp {i n : ℕ} (h : i < n) : i = if n = 1 then 0 else i := by split_ifs <;> omega

/-! ## Linear maps with bias -/

/-- A bias copied to every row of every batch entry. -/
theorem bias (b : Fin n → ℝ) (h1 h2) :
    broadcastInDim ⟨3, ![4, m, n]⟩ ![0, 1, 2] h1 (broadcastInDim ⟨3, ![1, 1, n]⟩ ![2] h2 (e1 b : FVec Ideal ⟨1, ![n]⟩ φ))
      = e3 fun _ _ j => b j := by
  funext j
  have hj : (broadcastInDim ⟨3, ![1, 1, n]⟩ ![2] h2 (e1 b : FVec Ideal ⟨1, ![n]⟩ φ)) = e3 fun _ _ j => b j := by
    funext j
    exact broadcastInDim_apply _ _ _ j (ix1 (j 2)) fun a => by
      match a with
      | ⟨0, _⟩ => exact clamp (j 2).isLt
  rw [hj]
  exact broadcastInDim_apply _ _ _ j (ix3 0 0 (j 2)) fun a => by
    match a with
    | ⟨0, _⟩ => rfl
    | ⟨1, _⟩ => rfl
    | ⟨2, _⟩ => exact clamp (j 2).isLt

theorem dot_q (X : Fin 4 → Mat 100 256) (W : Mat 256 256) :
    Host.dotGeneral dot_S4x100x256_S256x256_S4x100x256_2_0_01_1_n_n none (e3 X : FVec Ideal _ .f32) (e2 W : FVec Ideal _ .f32)
      = e3 fun b i j => ∑ e, X b i e * W e j := by
  funext j; pointwise [e2, e3]; exact coe_dot _ _

theorem dot_kv (X : Fin 4 → Mat 25000 256) (W : Mat 256 256) :
    Host.dotGeneral dot_S4x25000x256_S256x256_S4x25000x256_2_0_01_1_n_n none (e3 X : FVec Ideal _ .f32) (e2 W : FVec Ideal _ .f32)
      = e3 fun b i j => ∑ e, X b i e * W e j := by
  funext j; pointwise [e2, e3]; exact coe_dot _ _

theorem dot_up (X : Fin 4 → Mat 100 256) (W : Mat 256 1024) :
    Host.dotGeneral dot_S4x100x256_S256x1024_S4x100x1024_2_0_01_1_n_n none (e3 X : FVec Ideal _ .f32) (e2 W : FVec Ideal _ .f32)
      = e3 fun b i j => ∑ e, X b i e * W e j := by
  funext j; pointwise [e2, e3]; exact coe_dot _ _

theorem dot_down (X : Fin 4 → Mat 100 1024) (W : Mat 1024 256) :
    Host.dotGeneral dot_S4x100x1024_S1024x256_S4x100x256_2_0_01_1_n_n none (e3 X : FVec Ideal _ .f32) (e2 W : FVec Ideal _ .f32)
      = e3 fun b i j => ∑ e, X b i e * W e j := by
  funext j; pointwise [e2, e3]; exact coe_dot _ _

theorem dot_cls (X : Fin 4 → Mat 100 256) (W : Mat 256 19) :
    Host.dotGeneral dot_S4x100x256_S256x19_S4x100x19_2_0_01_1_n_n none (e3 X : FVec Ideal _ .f32) (e2 W : FVec Ideal _ .f32)
      = e3 fun b i j => ∑ e, X b i e * W e j := by
  funext j; pointwise [e2, e3]; exact coe_dot _ _

/-! ## Entry by entry -/

theorem addf_e3 (A B : Fin p → Mat m n) : addf (e3 A : FVec Ideal _ φ) (e3 B) = e3 fun b i j => A b i j + B b i j := rfl
theorem subf_e3 (A B : Fin p → Mat m n) : subf (e3 A : FVec Ideal _ φ) (e3 B) = e3 fun b i j => A b i j - B b i j := rfl
theorem mulf_e3 (A B : Fin p → Mat m n) : mulf (e3 A : FVec Ideal _ φ) (e3 B) = e3 fun b i j => A b i j * B b i j := rfl
theorem maximumf_e3 (A B : Fin p → Mat m n) : maximumf (e3 A : FVec Ideal _ φ) (e3 B) = e3 fun b i j => max (A b i j) (B b i j) :=
  funext fun _ => coe_max _ _
theorem divf_e3 (A B : Fin p → Mat m n) (h : ∀ b i j, B b i j ≠ 0) :
    Host.divf (e3 A : FVec Ideal _ φ) (e3 B) = e3 fun b i j => A b i j / B b i j :=
  funext fun _ => coe_div _ (h _ _ _)
theorem sqrt_e3 (A : Fin p → Mat m n) (h : ∀ b i j, 0 ≤ A b i j) : Host.sqrt (e3 A : FVec Ideal _ φ) = e3 fun b i j => √(A b i j) :=
  funext fun _ => coe_sqrt (h _ _ _)

/-- One number everywhere. -/
theorem fill3 (x : BitVec 32) (r : ℝ) (hx : Ideal.ofBits .f32 x = (r : EReal)) (h) :
    broadcastInDim ⟨3, ![p, m, n]⟩ ![] h (constant S_ .f32 x : FVec Ideal S_ .f32) = e3 fun _ _ _ => r := by
  funext j; exact hx

/-- The row sums. -/
theorem sum_e3 (A : Fin p → Mat m n) (h) :
    Host.reduceAdd (axes := [2]) (t := ⟨2, ![p, m]⟩) (e3 A : FVec Ideal ⟨3, ![p, m, n]⟩ .f32) (constant S_ .f32 0x00000000#32 : FVec Ideal S_ .f32) h h_S_
      = e2 fun b i => ∑ k, A b i k := by
  funext j; pointwise [e2, e3, Consts.f32_zero]; rw [← coe_sum]; simp

theorem up_e2 (A : Mat p m) (h) : broadcastInDim ⟨3, ![p, m, 1]⟩ ![0, 1] h (e2 A : FVec Ideal ⟨2, ![p, m]⟩ φ) = e3 fun b i _ => A b i := by
  funext j
  exact broadcastInDim_apply _ _ _ j (ix2 (j 0) (j 1)) fun a => by
    match a with
    | ⟨0, _⟩ => exact clamp (j 0).isLt
    | ⟨1, _⟩ => exact clamp (j 1).isLt

theorem along_e3 (A : Fin 4 → Mat 100 1) (h) : broadcastInDim ⟨3, ![4, 100, n]⟩ ![0, 1, 2] h (e3 A : FVec Ideal ⟨3, ![4, 100, 1]⟩ φ) = e3 fun b i _ => A b i 0 := by
  funext j; pointwise [e3]

end Cert.RefVec
-- ==== Proof.RefAttn.lean ====
/- The reference's blocks on arrays of real numbers: a linear map with bias, the layer norm, attention. -/
module

public import proofs.«01_k».proof.Proof.RefVec

@[expose] public section

set_option maxRecDepth 16384

noncomputable section

namespace Cert.RefVec

open Idealize.ShloMosaic Cert.Plain Cert.Vec Cert.ReferenceIdeal Cert.ReferenceIdeal.Gen

variable {φ φ' : FTy} {m n k p q : ℕ}

/-- The layer norm of every row of every batch entry. -/
theorem norm_e3 (X : Fin 4 → Mat 100 256) (g o : Fin 256 → ℝ) :
    addf (mulf (Host.divf (subf (e3 X : FVec Ideal S4x100x256 .f32) (broadcastInDim S4x100x256 ![0, 1, 2] bcast_S4x100x1_S4x100x256_0_1_2
        (Host.divf (broadcastInDim S4x100x1 ![0, 1] bcast_S4x100_S4x100x1_0_1 (Host.reduceAdd (e3 X : FVec Ideal S4x100x256 .f32)
          (constant S_ .f32 0x00000000#32) reducesTo_S4x100x256_S4x100_d2 h_S_)) (broadcastInDim S4x100x1 ![] bcast_S_S4x100x1 (constant S_ .f32 0x43800000#32)))))
      (broadcastInDim S4x100x256 ![0, 1, 2] bcast_S4x100x1_S4x100x256_0_1_2 (Host.sqrt (addf (Host.divf
        (broadcastInDim S4x100x1 ![0, 1] bcast_S4x100_S4x100x1_0_1 (Host.reduceAdd
          (mulf (subf (e3 X : FVec Ideal S4x100x256 .f32) (broadcastInDim S4x100x256 ![0, 1, 2] bcast_S4x100x1_S4x100x256_0_1_2
              (Host.divf (broadcastInDim S4x100x1 ![0, 1] bcast_S4x100_S4x100x1_0_1 (Host.reduceAdd (e3 X : FVec Ideal S4x100x256 .f32)
                (constant S_ .f32 0x00000000#32) reducesTo_S4x100x256_S4x100_d2 h_S_)) (broadcastInDim S4x100x1 ![] bcast_S_S4x100x1 (constant S_ .f32 0x43800000#32)))))
            (subf (e3 X : FVec Ideal S4x100x256 .f32) (broadcastInDim S4x100x256 ![0, 1, 2] bcast_S4x100x1_S4x100x256_0_1_2
              (Host.divf (broadcastInDim S4x100x1 ![0, 1] bcast_S4x100_S4x100x1_0_1 (Host.reduceAdd (e3 X : FVec Ideal S4x100x256 .f32)
                (constant S_ .f32 0x00000000#32) reducesTo_S4x100x256_S4x100_d2 h_S_)) (broadcastInDim S4x100x1 ![] bcast_S_S4x100x1 (constant S_ .f32 0x43800000#32))))))
          (constant S_ .f32 0x00000000#32) reducesTo_S4x100x256_S4x100_d2 h_S_)) (broadcastInDim S4x100x1 ![] bcast_S_S4x100x1 (constant S_ .f32 0x43800000#32)))
        (broadcastInDim S4x100x1 ![] bcast_S_S4x100x1 (constant S_ .f32 0x3727C5AC#32))))))
      (broadcastInDim S4x100x256 ![0, 1, 2] bcast_S1x1x256_S4x100x256_0_1_2 (broadcastInDim S1x1x256 ![2] bcast_S256_S1x1x256_2 (e1 g : FVec Ideal S256 .f32))))
      (broadcastInDim S4x100x256 ![0, 1, 2] bcast_S1x1x256_S4x100x256_0_1_2 (broadcastInDim S1x1x256 ![2] bcast_S256_S1x1x256_2 (e1 o : FVec Ideal S256 .f32)))
      = e3 fun b => norm (X b) g o := by
  have h256 : ∀ (b : Fin 4) (i : Fin 100) (j : Fin 1), (256 : ℝ) ≠ 0 := fun _ _ _ => by norm_num
  have hb : ∀ v : Fin 256 → ℝ, broadcastInDim S4x100x256 ![0, 1, 2] bcast_S1x1x256_S4x100x256_0_1_2 (broadcastInDim S1x1x256 ![2] bcast_S256_S1x1x256_2
      (e1 v : FVec Ideal S256 .f32)) = (e3 fun _ _ j => v j : FVec Ideal S4x100x256 .f32) := fun v => bias v _ _
  have hu : ∀ v : Fin 4 → Fin 100 → ℝ, broadcastInDim S4x100x1 ![0, 1] bcast_S4x100_S4x100x1_0_1 (e2 v : FVec Ideal S4x100 .f32)
      = (e3 fun b i _ => v b i : FVec Ideal S4x100x1 .f32) := fun v => up_e2 v _
  have ha : ∀ v : Fin 4 → Mat 100 1, broadcastInDim S4x100x256 ![0, 1, 2] bcast_S4x100x1_S4x100x256_0_1_2 (e3 v : FVec Ideal S4x100x1 .f32)
      = (e3 fun b i _ => v b i 0 : FVec Ideal S4x100x256 .f32) := fun v => along_e3 v _
  simp only [hb, sum_e3, hu, fill3 _ _ Consts.f32_256, fill3 _ _ Consts.f32_eps]
  rw [divf_e3 _ _ h256, ha, subf_e3, mulf_e3, sum_e3, hu, divf_e3 _ _ h256, addf_e3,
    sqrt_e3, ha, divf_e3, mulf_e3, addf_e3]
  · rfl
  · exact fun b i _ => (Real.sqrt_pos.2 (var_eps_pos (X b) i)).ne'
  · exact fun b i _ => (var_eps_pos (X b) i).le

/-! ## Linear maps -/

theorem lin_q (X : Fin 4 → Mat 100 256) (W : Mat 256 256) (v : Fin 256 → ℝ) :
    addf (Host.dotGeneral dot_S4x100x256_S256x256_S4x100x256_2_0_01_1_n_n none (e3 X : FVec Ideal S4x100x256 .f32)
        (transpose S256x256 [1, 0] (e2 W : FVec Ideal S256x256 .f32) transposes_S256x256_S256x256_1_0))
      (broadcastInDim S4x100x256 ![0, 1, 2] bcast_S1x1x256_S4x100x256_0_1_2 (broadcastInDim S1x1x256 ![2] bcast_S256_S1x1x256_2 (e1 v : FVec Ideal S256 .f32)))
      = e3 fun b => affine (X b) W v :=
  congrArg₂ addf ((congrArg (Host.dotGeneral _ none _) (flip_e2 W _)).trans (dot_q _ _)) (bias v _ _)

theorem lin_kv (X : Fin 4 → Mat 25000 256) (W : Mat 256 256) (v : Fin 256 → ℝ) :
    addf (Host.dotGeneral dot_S4x25000x256_S256x256_S4x25000x256_2_0_01_1_n_n none (e3 X : FVec Ideal S4x25000x256 .f32)
        (transpose S256x256 [1, 0] (e2 W : FVec Ideal S256x256 .f32) transposes_S256x256_S256x256_1_0))
      (broadcastInDim S4x25000x256 ![0, 1, 2] bcast_S1x1x256_S4x25000x256_0_1_2 (broadcastInDim S1x1x256 ![2] bcast_S256_S1x1x256_2 (e1 v : FVec Ideal S256 .f32)))
      = e3 fun b => affine (X b) W v :=
  congrArg₂ addf ((congrArg (Host.dotGeneral _ none _) (flip_e2 W _)).trans (dot_kv _ _)) (bias v _ _)

theorem lin_up (X : Fin 4 → Mat 100 256) (W : Mat 1024 256) (v : Fin 1024 → ℝ) :
    addf (Host.dotGeneral dot_S4x100x256_S256x1024_S4x100x1024_2_0_01_1_n_n none (e3 X : FVec Ideal S4x100x256 .f32)
        (transpose S256x1024 [1, 0] (e2 W : FVec Ideal S1024x256 .f32) transposes_S1024x256_S256x1024_1_0))
      (broadcastInDim S4x100x1024 ![0, 1, 2] bcast_S1x1x1024_S4x100x1024_0_1_2 (broadcastInDim S1x1x1024 ![2] bcast_S1024_S1x1x1024_2 (e1 v : FVec Ideal S1024 .f32)))
      = e3 fun b => affine (X b) W v :=
  congrArg₂ addf ((congrArg (Host.dotGeneral _ none _) (flip_e2 W _)).trans (dot_up _ _)) (bias v _ _)

theorem lin_down (X : Fin 4 → Mat 100 1024) (W : Mat 256 1024) (v : Fin 256 → ℝ) :
    addf (Host.dotGeneral dot_S4x100x1024_S1024x256_S4x100x256_2_0_01_1_n_n none (e3 X : FVec Ideal S4x100x1024 .f32)
        (transpose S1024x256 [1, 0] (e2 W : FVec Ideal S256x1024 .f32) transposes_S256x1024_S1024x256_1_0))
      (broadcastInDim S4x100x256 ![0, 1, 2] bcast_S1x1x256_S4x100x256_0_1_2 (broadcastInDim S1x1x256 ![2] bcast_S256_S1x1x256_2 (e1 v : FVec Ideal S256 .f32)))
      = e3 fun b => affine (X b) W v :=
  congrArg₂ addf ((congrArg (Host.dotGeneral _ none _) (flip_e2 W _)).trans (dot_down _ _)) (bias v _ _)

theorem lin_cls (X : Fin 4 → Mat 100 256) (W : Mat 19 256) (v : Fin 19 → ℝ) :
    addf (Host.dotGeneral dot_S4x100x256_S256x19_S4x100x19_2_0_01_1_n_n none (e3 X : FVec Ideal S4x100x256 .f32)
        (transpose S256x19 [1, 0] (e2 W : FVec Ideal S19x256 .f32) transposes_S19x256_S256x19_1_0))
      (broadcastInDim S4x100x19 ![0, 1, 2] bcast_S1x1x19_S4x100x19_0_1_2 (broadcastInDim S1x1x19 ![2] bcast_S19_S1x1x19_2 (e1 v : FVec Ideal S19 .f32)))
      = e3 fun b => affine (X b) W v :=
  congrArg₂ addf ((congrArg (Host.dotGeneral _ none _) (flip_e2 W _)).trans (dot_cls _ _)) (bias v _ _)

/-- The positive part. -/
theorem relu_e3 (X : Fin 4 → Mat m n) (h) :
    maximumf (e3 X : FVec Ideal ⟨3, ![4, m, n]⟩ .f32) (broadcastInDim ⟨3, ![4, m, n]⟩ ![] h (constant S_ .f32 0x00000000#32 : FVec Ideal S_ .f32))
      = e3 fun b => relu (X b) := by
  rw [fill3 _ _ Consts.f32_zero, maximumf_e3]; rfl

/-! ## Heads -/

theorem split (X : Fin 4 → Mat m 256) (h) :
    shapeCast ⟨4, ![4, m, 8, 32]⟩ (e3 X : FVec Ideal ⟨3, ![4, m, 256]⟩ φ) h = e4 fun b i g e => X b i (col g e) := by
  funext j
  refine cast_at _ h j (ix3 (j 0) (j 1) (col (j 2) (j 3))) ?_
  rw [rowMajor_val3 _ (m * 256) 256 rfl rfl, rowMajor_val4 _ (m * (8 * 32)) (8 * 32) 32 rfl rfl rfl]
  show (j 0).val * (m * 256) + (j 1).val * 256 + (32 * (j 2).val + (j 3).val)
    = (j 0).val * (m * 256) + (j 1).val * 256 + (j 2).val * 32 + (j 3).val
  omega

theorem join (X : Fin 4 → Fin m → Fin 8 → Fin 32 → ℝ) (h) :
    shapeCast ⟨3, ![4, m, 256]⟩ (e4 X : FVec Ideal ⟨4, ![4, m, 8, 32]⟩ φ) h
      = e3 fun b i j => X b i (head j) ⟨j.val % 32, Nat.mod_lt _ (by norm_num)⟩ := by
  funext j
  refine cast_at _ h j (ix4 (j 0) (j 1) (head (j 2)) ⟨(j 2).val % 32, Nat.mod_lt _ (by norm_num)⟩) ?_
  rw [rowMajor_val3 _ (m * 256) 256 rfl rfl, rowMajor_val4 _ (m * (8 * 32)) (8 * 32) 32 rfl rfl rfl]
  show (j 0).val * (m * 256) + (j 1).val * 256 + (j 2).val / 32 * 32 + (j 2).val % 32
    = (j 0).val * (m * 256) + (j 1).val * 256 + (j 2).val
  omega

theorem back (X : Fin 4 → Fin 8 → Fin 32 → Fin m → ℝ) (h) :
    transpose ⟨4, ![4, m, 8, 32]⟩ [0, 3, 1, 2] (e4 X : FVec Ideal ⟨4, ![4, 8, 32, m]⟩ φ) h = e4 fun b i g e => X b g e i := by
  funext j
  exact transpose_apply _ _ _ j (ix4 (j 0) (j 2) (j 3) (j 1)) fun a => by
    match a with
    | ⟨0, _⟩ => rfl
    | ⟨1, _⟩ => rfl
    | ⟨2, _⟩ => rfl
    | ⟨3, _⟩ => rfl

/-! ## The softmax of the scores -/

theorem subf_e4 (A B : Fin q → Fin p → Mat m n) :
    subf (e4 A : FVec Ideal _ φ) (e4 B) = e4 fun a b i j => A a b i j - B a b i j := rfl
theorem exp_e4 (A : Fin q → Fin p → Mat m n) : Host.exp (e4 A : FVec Ideal _ φ) = e4 fun a b i j => Real.exp (A a b i j) := rfl
theorem divf_e4 (A B : Fin q → Fin p → Mat m n) (h : ∀ a b i j, B a b i j ≠ 0) :
    Host.divf (e4 A : FVec Ideal _ φ) (e4 B) = e4 fun a b i j => A a b i j / B a b i j :=
  funext fun _ => coe_div _ (h _ _ _ _)

/-- The square root of 32 everywhere. -/
theorem root32 (h) :
    broadcastInDim ⟨4, ![q, p, m, n]⟩ ![] h (Host.sqrt (constant S_ .f32 0x42000000#32 : FVec Ideal S_ .f32)) = e4 fun _ _ _ _ => √32 := by
  funext j
  show Ideal.sqrt (Ideal.ofBits .f32 0x42000000#32) = _
  rw [Consts.f32_32, coe_sqrt (by norm_num)]; rfl

/-- The largest score of each row, also against minus infinity. -/
theorem max_e4 [NeZero n] (A : Fin q → Fin p → Mat m n) (h hb) :
    maximumf (broadcastInDim ⟨3, ![q, p, m]⟩ ![] hb (constant S_ .f32 0xFF800000#32 : FVec Ideal S_ .f32))
      (Host.reduce (axes := [3]) (t := ⟨3, ![q, p, m]⟩) FloatOps.maximumf (e4 A : FVec Ideal ⟨4, ![q, p, m, n]⟩ .f32)
        (constant S_ .f32 0xFF800000#32 : FVec Ideal S_ .f32) h h_S_)
      = e3 fun a b i => rmax (A a b i) := by
  funext j
  have hr : Host.reduce (axes := [3]) (t := ⟨3, ![q, p, m]⟩) FloatOps.maximumf (e4 A : FVec Ideal ⟨4, ![q, p, m, n]⟩ .f32)
      (constant S_ .f32 0xFF800000#32 : FVec Ideal S_ .f32) h h_S_ j = ((rmax (A (j 0) (j 1) (j 2)) : ℝ) : EReal) := by
    pointwise [e4, Consts.f32_bot]; exact fold_max _
  show max (Ideal.ofBits .f32 0xFF800000#32) _ = _
  rw [hr, Consts.f32_bot]; exact max_eq_right bot_le

theorem sum_e4 (A : Fin q → Fin p → Mat m n) (h) :
    Host.reduceAdd (axes := [3]) (t := ⟨3, ![q, p, m]⟩) (e4 A : FVec Ideal ⟨4, ![q, p, m, n]⟩ .f32) (constant S_ .f32 0x00000000#32 : FVec Ideal S_ .f32) h h_S_
      = e3 fun a b i => ∑ k, A a b i k := by
  funext j; pointwise [e4, e3, Consts.f32_zero]; rw [← coe_sum]; simp

/-- A number of each row copied along the row. -/
theorem along_e4 (A : Fin q → Fin p → Fin m → ℝ) (h1 h2) :
    broadcastInDim ⟨4, ![q, p, m, n]⟩ ![0, 1, 2, 3] h1 (broadcastInDim ⟨4, ![q, p, m, 1]⟩ ![0, 1, 2] h2 (e3 A : FVec Ideal ⟨3, ![q, p, m]⟩ φ))
      = e4 fun a b i _ => A a b i := by
  have hu : broadcastInDim ⟨4, ![q, p, m, 1]⟩ ![0, 1, 2] h2 (e3 A : FVec Ideal ⟨3, ![q, p, m]⟩ φ) = e4 fun a b i _ => A a b i := by
    funext j
    exact broadcastInDim_apply _ _ _ j (ix3 (j 0) (j 1) (j 2)) fun a => by
      match a with
      | ⟨0, _⟩ => exact clamp (j 0).isLt
      | ⟨1, _⟩ => exact clamp (j 1).isLt
      | ⟨2, _⟩ => exact clamp (j 2).isLt
  rw [hu]
  funext j
  exact broadcastInDim_apply _ _ _ j (ix4 (j 0) (j 1) (j 2) 0) fun a => by
    match a with
    | ⟨0, _⟩ => exact clamp (j 0).isLt
    | ⟨1, _⟩ => exact clamp (j 1).isLt
    | ⟨2, _⟩ => exact clamp (j 2).isLt
    | ⟨3, _⟩ => rfl

/-- The normalised weights of a row of scores, the scores taken relative to their largest. -/
def weigh [NeZero n] (s : Fin n → ℝ) (t : Fin n) : ℝ := Real.exp (s t - rmax s) / ∑ u, Real.exp (s u - rmax s)

/-- The exponentials of the scores relative to the largest of the row. -/
theorem exps [NeZero n] (S : Fin 4 → Fin 8 → Mat m n) (hb h h1 h2) :
    Host.exp (subf (e4 S : FVec Ideal ⟨4, ![4, 8, m, n]⟩ .f32) (broadcastInDim ⟨4, ![4, 8, m, n]⟩ ![0, 1, 2, 3] h1
      (broadcastInDim ⟨4, ![4, 8, m, 1]⟩ ![0, 1, 2] h2 (maximumf (broadcastInDim ⟨3, ![4, 8, m]⟩ ![] hb (constant S_ .f32 0xFF800000#32 : FVec Ideal S_ .f32))
        (Host.reduce (axes := [3]) (t := ⟨3, ![4, 8, m]⟩) FloatOps.maximumf (e4 S : FVec Ideal ⟨4, ![4, 8, m, n]⟩ .f32)
          (constant S_ .f32 0xFF800000#32 : FVec Ideal S_ .f32) h h_S_)))))
      = e4 fun b g i t => Real.exp (S b g i t - rmax (S b g i)) := by
  rw [max_e4, along_e4, subf_e4, exp_e4]

/-- … divided by their sum. -/
theorem weights [NeZero n] (S : Fin 4 → Fin 8 → Mat m n) (h h1 h2) :
    Host.divf (e4 fun b g i t => Real.exp (S b g i t - rmax (S b g i)) : FVec Ideal ⟨4, ![4, 8, m, n]⟩ .f32)
      (broadcastInDim ⟨4, ![4, 8, m, n]⟩ ![0, 1, 2, 3] h1 (broadcastInDim ⟨4, ![4, 8, m, 1]⟩ ![0, 1, 2] h2
        (Host.reduceAdd (axes := [3]) (t := ⟨3, ![4, 8, m]⟩)
          (e4 fun b g i t => Real.exp (S b g i t - rmax (S b g i)) : FVec Ideal ⟨4, ![4, 8, m, n]⟩ .f32)
          (constant S_ .f32 0x00000000#32 : FVec Ideal S_ .f32) h h_S_)))
      = e4 fun b g i t => weigh (S b g i) t := by
  rw [sum_e4, along_e4, divf_e4 _ _ fun b g i _ => (expsum_pos fun u => S b g i u - rmax (S b g i)).ne']
  rfl

/-- Scores divided by the square root of 32. -/
theorem scaled (S : Fin 4 → Fin 8 → Mat m n) (h) :
    Host.divf (e4 S : FVec Ideal ⟨4, ![4, 8, m, n]⟩ .f32) (broadcastInDim ⟨4, ![4, 8, m, n]⟩ ![] h (Host.sqrt (constant S_ .f32 0x42000000#32 : FVec Ideal S_ .f32)))
      = e4 fun b g i t => S b g i t / √32 := by
  rw [root32, divf_e4 _ _ fun _ _ _ _ => (Real.sqrt_pos.2 (by norm_num)).ne']

theorem dot_scores (Q : Fin 4 → Fin 100 → Fin 8 → Fin 32 → ℝ) (K : Fin 4 → Fin 25000 → Fin 8 → Fin 32 → ℝ) :
    Host.dotGeneral dot_S4x100x8x32_S4x25000x8x32_S4x8x100x25000_3_3_1_1_02_02 none (e4 Q : FVec Ideal _ .f32) (e4 K : FVec Ideal _ .f32)
      = e4 fun b g i t => ∑ e, Q b i g e * K b t g e := by
  funext j; pointwise [e4]; exact coe_dot _ _

theorem dot_self (Q : Fin 4 → Fin 100 → Fin 8 → Fin 32 → ℝ) (K : Fin 4 → Fin 100 → Fin 8 → Fin 32 → ℝ) :
    Host.dotGeneral dot_S4x100x8x32_S4x100x8x32_S4x8x100x100_3_3_1_1_02_02 none (e4 Q : FVec Ideal _ .f32) (e4 K : FVec Ideal _ .f32)
      = e4 fun b g i t => ∑ e, Q b i g e * K b t g e := by
  funext j; pointwise [e4]; exact coe_dot _ _

theorem dot_mean (V : Fin 4 → Fin 25000 → Fin 8 → Fin 32 → ℝ) (P : Fin 4 → Fin 8 → Mat 100 25000) :
    Host.dotGeneral dot_S4x25000x8x32_S4x8x100x25000_S4x8x32x100_1_3_3_2_02_01 none (e4 V : FVec Ideal _ .f32) (e4 P : FVec Ideal _ .f32)
      = e4 fun b g e i => ∑ t, V b t g e * P b g i t := by
  funext j; pointwise [e4]; exact coe_dot _ _

theorem dot_selfmean (V : Fin 4 → Fin 100 → Fin 8 → Fin 32 → ℝ) (P : Fin 4 → Fin 8 → Mat 100 100) :
    Host.dotGeneral dot_S4x100x8x32_S4x8x100x100_S4x8x32x100_1_3_3_2_02_01 none (e4 V : FVec Ideal _ .f32) (e4 P : FVec Ideal _ .f32)
      = e4 fun b g e i => ∑ t, V b t g e * P b g i t := by
  funext j; pointwise [e4]; exact coe_dot _ _

/-- The softmax-weighted sum of the values, head by head, is attention. -/
theorem attend_eq [NeZero n] (Q : Mat m 256) (K V : Mat n 256) (i : Fin m) (j : Fin 256) :
    ∑ t, V t (col (head j) ⟨j.val % 32, Nat.mod_lt _ (by norm_num)⟩)
        * weigh (fun t => (∑ e, Q i (col (head j) e) * K t (col (head j) e)) / √32) t = attend Q K V i j := by
  rw [col_head]
  unfold attend
  rw [← sum_weights _ _ (rmax (score Q K (head j) i))]
  exact Finset.sum_congr rfl fun t _ => mul_comm _ _

end Cert.RefVec
-- ==== Proof.RefLayer.lean ====
/- One trip of the reference's loop, and the operations after it, on arrays of real numbers. -/
module

public import proofs.«01_k».proof.Proof.RefAttn
public import proofs.«01_k».proof.Proof.Blocks
public import proofs.«01_k».proof.Proof.Layer

@[expose] public section

set_option maxRecDepth 16384

noncomputable section

namespace Cert.RefLayer

open Idealize.ShloMosaic Cert.Plain Cert.Vec Cert.RefVec Cert.ReferenceIdeal Cert.ReferenceIdeal.Gen Cert.ReferenceIdeal.Step
open Cert.Blocks (Args)

/-- The loop's state holds the arguments `A` and the queries `q`. -/
structure Is (s : State Ideal) (A : Args) (q : Fin 4 → Mat 100 256) : Prop where
  hq : s.main_v2_18 = (e3 q : FVec Ideal S4x100x256 .f32)
  hi : s.main_v2_16 = (e3 A.inst : FVec Ideal S4x25000x256 .f32)
  h0 : s.main_v2_0 = (e3 A.caW : FVec Ideal S6x768x256 .f32)
  h1 : s.main_v2_1 = (e2 A.caB : FVec Ideal S6x768 .f32)
  h2 : s.main_v2_2 = (e3 A.caWo : FVec Ideal S6x256x256 .f32)
  h3 : s.main_v2_3 = (e2 A.caBo : FVec Ideal S6x256 .f32)
  h4 : s.main_v2_4 = (e3 A.saW : FVec Ideal S6x768x256 .f32)
  h5 : s.main_v2_5 = (e2 A.saB : FVec Ideal S6x768 .f32)
  h6 : s.main_v2_6 = (e3 A.saWo : FVec Ideal S6x256x256 .f32)
  h7 : s.main_v2_7 = (e2 A.saBo : FVec Ideal S6x256 .f32)
  h8 : s.main_v2_8 = (e2 A.saG : FVec Ideal S6x256 .f32)
  h9 : s.main_v2_9 = (e2 A.saO : FVec Ideal S6x256 .f32)
  h10 : s.main_v2_10 = (e3 A.w1 : FVec Ideal S6x1024x256 .f32)
  h11 : s.main_v2_11 = (e2 A.b1 : FVec Ideal S6x1024 .f32)
  h12 : s.main_v2_12 = (e3 A.w2 : FVec Ideal S6x256x1024 .f32)
  h13 : s.main_v2_13 = (e2 A.b2 : FVec Ideal S6x256 .f32)
  h14 : s.main_v2_14 = (e2 A.ffG : FVec Ideal S6x256 .f32)
  h15 : s.main_v2_15 = (e2 A.ffO : FVec Ideal S6x256 .f32)

variable {s : State Ideal} {A : Args} {q : Fin 4 → Mat 100 256} (H : Is s A q) {j : ℕ} (hj : j < 6)

include H hj

/-! ## The layer's weights -/

theorem w3 : b3 j s = (e2 (A.caW ⟨j, hj⟩) : FVec Ideal S768x256 .f32) := by
  unfold b3 b2 b1 b0; rw [H.h0]; exact pick3 A.caW j hj _ _
theorem w6 : b6 j s = (e1 (A.caB ⟨j, hj⟩) : FVec Ideal S768 .f32) := by
  unfold b6 b5 b4; rw [H.h1]; exact pick2 A.caB j hj _ _
theorem w10 : b10 j s = (e2 (A.caWo ⟨j, hj⟩) : FVec Ideal S256x256 .f32) := by
  unfold b10 b9 b8 b7; rw [H.h2]; exact pick3 A.caWo j hj _ _
theorem w13 : b13 j s = (e1 (A.caBo ⟨j, hj⟩) : FVec Ideal S256 .f32) := by
  unfold b13 b12 b11; rw [H.h3]; exact pick2 A.caBo j hj _ _
theorem w17 : b17 j s = (e2 (A.saW ⟨j, hj⟩) : FVec Ideal S768x256 .f32) := by
  unfold b17 b16 b15 b14; rw [H.h4]; exact pick3 A.saW j hj _ _
theorem w20 : b20 j s = (e1 (A.saB ⟨j, hj⟩) : FVec Ideal S768 .f32) := by
  unfold b20 b19 b18; rw [H.h5]; exact pick2 A.saB j hj _ _
theorem w24 : b24 j s = (e2 (A.saWo ⟨j, hj⟩) : FVec Ideal S256x256 .f32) := by
  unfold b24 b23 b22 b21; rw [H.h6]; exact pick3 A.saWo j hj _ _
theorem w27 : b27 j s = (e1 (A.saBo ⟨j, hj⟩) : FVec Ideal S256 .f32) := by
  unfold b27 b26 b25; rw [H.h7]; exact pick2 A.saBo j hj _ _
theorem w30 : b30 j s = (e1 (A.saG ⟨j, hj⟩) : FVec Ideal S256 .f32) := by
  unfold b30 b29 b28; rw [H.h8]; exact pick2 A.saG j hj _ _
theorem w33 : b33 j s = (e1 (A.saO ⟨j, hj⟩) : FVec Ideal S256 .f32) := by
  unfold b33 b32 b31; rw [H.h9]; exact pick2 A.saO j hj _ _
theorem w37 : b37 j s = (e2 (A.w1 ⟨j, hj⟩) : FVec Ideal S1024x256 .f32) := by
  unfold b37 b36 b35 b34; rw [H.h10]; exact pick3 A.w1 j hj _ _
theorem w40 : b40 j s = (e1 (A.b1 ⟨j, hj⟩) : FVec Ideal S1024 .f32) := by
  unfold b40 b39 b38; rw [H.h11]; exact pick2 A.b1 j hj _ _
theorem w44 : b44 j s = (e2 (A.w2 ⟨j, hj⟩) : FVec Ideal S256x1024 .f32) := by
  unfold b44 b43 b42 b41; rw [H.h12]; exact pick3 A.w2 j hj _ _
theorem w47 : b47 j s = (e1 (A.b2 ⟨j, hj⟩) : FVec Ideal S256 .f32) := by
  unfold b47 b46 b45; rw [H.h13]; exact pick2 A.b2 j hj _ _
theorem w50 : b50 j s = (e1 (A.ffG ⟨j, hj⟩) : FVec Ideal S256 .f32) := by
  unfold b50 b49 b48; rw [H.h14]; exact pick2 A.ffG j hj _ _
theorem w53 : b53 j s = (e1 (A.ffO ⟨j, hj⟩) : FVec Ideal S256 .f32) := by
  unfold b53 b52 b51; rw [H.h15]; exact pick2 A.ffO j hj _ _

/-! ## Cross-attention -/

theorem t54 : b54 j s = (e2 (third 0 (A.caW ⟨j, hj⟩)) : FVec Ideal S256x256 .f32) := by
  unfold b54; rw [w3 H hj]; exact slice_rows _ _ (by norm_num)
theorem t55 : b55 j s = (e2 (third 1 (A.caW ⟨j, hj⟩)) : FVec Ideal S256x256 .f32) := by
  unfold b55; rw [w3 H hj]; exact slice_rows _ _ (by norm_num)
theorem t56 : b56 j s = (e2 (third 2 (A.caW ⟨j, hj⟩)) : FVec Ideal S256x256 .f32) := by
  unfold b56; rw [w3 H hj]; exact slice_rows _ _ (by norm_num)
theorem t57 : b57 j s = (e1 (thirdV 0 (A.caB ⟨j, hj⟩)) : FVec Ideal S256 .f32) := by
  unfold b57; rw [w6 H hj]; exact slice_1 _ _ (by norm_num)
theorem t58 : b58 j s = (e1 (thirdV 1 (A.caB ⟨j, hj⟩)) : FVec Ideal S256 .f32) := by
  unfold b58; rw [w6 H hj]; exact slice_1 _ _ (by norm_num)
theorem t59 : b59 j s = (e1 (thirdV 2 (A.caB ⟨j, hj⟩)) : FVec Ideal S256 .f32) := by
  unfold b59; rw [w6 H hj]; exact slice_1 _ _ (by norm_num)

/-- Queries, keys, values of cross-attention. -/
def Q (A : Args) (q : Fin 4 → Mat 100 256) (l : Fin 6) (b : Fin 4) : Mat 100 256 := affine (q b) (third 0 (A.caW l)) (thirdV 0 (A.caB l))
def K (A : Args) (l : Fin 6) (b : Fin 4) : Mat 25000 256 := affine (A.inst b) (third 1 (A.caW l)) (thirdV 1 (A.caB l))
def V (A : Args) (l : Fin 6) (b : Fin 4) : Mat 25000 256 := affine (A.inst b) (third 2 (A.caW l)) (thirdV 2 (A.caB l))

theorem c64 : b64 j s = (e3 (Q A q ⟨j, hj⟩) : FVec Ideal S4x100x256 .f32) := by
  unfold b64 b63 b62 b61 b60; rw [H.hq, t54 H hj, t57 H hj]; exact lin_q _ _ _
theorem c70 : b70 j s = (e3 (K A ⟨j, hj⟩) : FVec Ideal S4x25000x256 .f32) := by
  unfold b70 b69 b68 b67 b66; rw [H.hi, t55 H hj, t58 H hj]; exact lin_kv _ _ _
theorem c76 : b76 j s = (e3 (V A ⟨j, hj⟩) : FVec Ideal S4x25000x256 .f32) := by
  unfold b76 b75 b74 b73 b72; rw [H.hi, t56 H hj, t59 H hj]; exact lin_kv _ _ _

/-- The scores of cross-attention. -/
def S (A : Args) (q : Fin 4 → Mat 100 256) (l : Fin 6) (b : Fin 4) (g : Fin 8) : Mat 100 25000 :=
  fun i t => (∑ e, Q A q l b i (col g e) * K A l b t (col g e)) / √32

theorem c82 : b82 j s = (e4 (S A q ⟨j, hj⟩) : FVec Ideal S4x8x100x25000 .f32) := by
  unfold b82 b81 b80 b79 b78 b71 b65
  rw [c64 H hj, c70 H hj]
  refine Eq.trans (congrArg (fun x => Host.divf x _) ?_) (scaled (fun b g i t => ∑ e, Q A q ⟨j, hj⟩ b i (col g e) * K A ⟨j, hj⟩ b t (col g e)) _)
  exact (congrArg₂ (Host.dotGeneral _ none) (split _ _) (split _ _)).trans (dot_scores _ _)

theorem c91 : b91 j s = (e4 (fun b g i t => Real.exp (S A q ⟨j, hj⟩ b g i t - rmax (S A q ⟨j, hj⟩ b g i))) : FVec Ideal S4x8x100x25000 .f32) := by
  unfold b91 b90 b89 b88 b87 b86 b85 b84 b83
  rw [c82 H hj]; exact exps _ _ _ _ _

theorem c96 : b96 j s = (e4 (fun b g i t => weigh (S A q ⟨j, hj⟩ b g i) t) : FVec Ideal S4x8x100x25000 .f32) := by
  unfold b96 b95 b94 b93 b92
  rw [c91 H hj]; exact weights _ _ _ _

theorem c99 : b99 j s = (e3 (fun b => attend (Q A q ⟨j, hj⟩ b) (K A ⟨j, hj⟩ b) (V A ⟨j, hj⟩ b)) : FVec Ideal S4x100x256 .f32) := by
  unfold b99 b98 b97 b77
  rw [c96 H hj, c76 H hj]
  refine (congrArg (fun x => shapeCast S4x100x256 (transpose S4x100x8x32 [0, 3, 1, 2] x _) _)
    ((congrArg (fun x => Host.dotGeneral _ none x _) (split _ _)).trans (dot_mean _ _))).trans ?_
  refine (congrArg (fun x => shapeCast S4x100x256 x _) (back _ _)).trans ((join _ _).trans ?_)
  exact congrArg e3 (funext fun b => funext fun i => funext fun c => attend_eq _ _ _ i c)

theorem c105 : b105 j s = (e3 (fun b => plus (mha (q b) (A.inst b) (A.caW ⟨j, hj⟩) (A.caB ⟨j, hj⟩) (A.caWo ⟨j, hj⟩) (A.caBo ⟨j, hj⟩)) (q b)) :
    FVec Ideal S4x100x256 .f32) := by
  unfold b105 b104 b103 b102 b101 b100
  rw [c99 H hj, w10 H hj, w13 H hj, H.hq]
  exact congrArg (fun x => addf x (e3 q : FVec Ideal S4x100x256 .f32)) (lin_q _ _ _)

/-! ## Self-attention -/

theorem t106 : b106 j s = (e2 (third 0 (A.saW ⟨j, hj⟩)) : FVec Ideal S256x256 .f32) := by
  unfold b106; rw [w17 H hj]; exact slice_rows _ _ (by norm_num)
theorem t107 : b107 j s = (e2 (third 1 (A.saW ⟨j, hj⟩)) : FVec Ideal S256x256 .f32) := by
  unfold b107; rw [w17 H hj]; exact slice_rows _ _ (by norm_num)
theorem t108 : b108 j s = (e2 (third 2 (A.saW ⟨j, hj⟩)) : FVec Ideal S256x256 .f32) := by
  unfold b108; rw [w17 H hj]; exact slice_rows _ _ (by norm_num)
theorem t109 : b109 j s = (e1 (thirdV 0 (A.saB ⟨j, hj⟩)) : FVec Ideal S256 .f32) := by
  unfold b109; rw [w20 H hj]; exact slice_1 _ _ (by norm_num)
theorem t110 : b110 j s = (e1 (thirdV 1 (A.saB ⟨j, hj⟩)) : FVec Ideal S256 .f32) := by
  unfold b110; rw [w20 H hj]; exact slice_1 _ _ (by norm_num)
theorem t111 : b111 j s = (e1 (thirdV 2 (A.saB ⟨j, hj⟩)) : FVec Ideal S256 .f32) := by
  unfold b111; rw [w20 H hj]; exact slice_1 _ _ (by norm_num)

/-- The queries after cross-attention. -/
def X (A : Args) (q : Fin 4 → Mat 100 256) (l : Fin 6) (b : Fin 4) : Mat 100 256 :=
  plus (mha (q b) (A.inst b) (A.caW l) (A.caB l) (A.caWo l) (A.caBo l)) (q b)

theorem x105 : b105 j s = (e3 (X A q ⟨j, hj⟩) : FVec Ideal S4x100x256 .f32) := c105 H hj

/-- Queries, keys (`a = 1`), values (`a = 2`) of self-attention. -/
def P (A : Args) (q : Fin 4 → Mat 100 256) (l : Fin 6) (a : Fin 3) (b : Fin 4) : Mat 100 256 :=
  affine (X A q l b) (third a (A.saW l)) (thirdV a (A.saB l))

theorem s116 : b116 j s = (e3 (P A q ⟨j, hj⟩ 0) : FVec Ideal S4x100x256 .f32) := by
  unfold b116 b115 b114 b113 b112; rw [x105 H hj, t106 H hj, t109 H hj]; exact lin_q _ _ _
theorem s122 : b122 j s = (e3 (P A q ⟨j, hj⟩ 1) : FVec Ideal S4x100x256 .f32) := by
  unfold b122 b121 b120 b119 b118; rw [x105 H hj, t107 H hj, t110 H hj]; exact lin_q _ _ _
theorem s128 : b128 j s = (e3 (P A q ⟨j, hj⟩ 2) : FVec Ideal S4x100x256 .f32) := by
  unfold b128 b127 b126 b125 b124; rw [x105 H hj, t108 H hj, t111 H hj]; exact lin_q _ _ _

/-- The scores of self-attention. -/
def T (A : Args) (q : Fin 4 → Mat 100 256) (l : Fin 6) (b : Fin 4) (g : Fin 8) : Mat 100 100 :=
  fun i t => (∑ e, P A q l 0 b i (col g e) * P A q l 1 b t (col g e)) / √32

theorem s134 : b134 j s = (e4 (T A q ⟨j, hj⟩) : FVec Ideal S4x8x100x100 .f32) := by
  unfold b134 b133 b132 b131 b130 b123 b117
  rw [s116 H hj, s122 H hj]
  refine Eq.trans (congrArg (fun x => Host.divf x _) ?_)
    (scaled (fun b g i t => ∑ e, P A q ⟨j, hj⟩ 0 b i (col g e) * P A q ⟨j, hj⟩ 1 b t (col g e)) _)
  exact (congrArg₂ (Host.dotGeneral _ none) (split _ _) (split _ _)).trans (dot_self _ _)

theorem s143 : b143 j s = (e4 (fun b g i t => Real.exp (T A q ⟨j, hj⟩ b g i t - rmax (T A q ⟨j, hj⟩ b g i))) : FVec Ideal S4x8x100x100 .f32) := by
  unfold b143 b142 b141 b140 b139 b138 b137 b136 b135
  rw [s134 H hj]; exact exps _ _ _ _ _

theorem s148 : b148 j s = (e4 (fun b g i t => weigh (T A q ⟨j, hj⟩ b g i) t) : FVec Ideal S4x8x100x100 .f32) := by
  unfold b148 b147 b146 b145 b144
  rw [s143 H hj]; exact weights _ _ _ _

theorem s151 : b151 j s = (e3 (fun b => attend (P A q ⟨j, hj⟩ 0 b) (P A q ⟨j, hj⟩ 1 b) (P A q ⟨j, hj⟩ 2 b)) : FVec Ideal S4x100x256 .f32) := by
  unfold b151 b150 b149 b129
  rw [s148 H hj, s128 H hj]
  refine (congrArg (fun x => shapeCast S4x100x256 (transpose S4x100x8x32 [0, 3, 1, 2] x _) _)
    ((congrArg (fun x => Host.dotGeneral _ none x _) (split _ _)).trans (dot_selfmean _ _))).trans ?_
  refine (congrArg (fun x => shapeCast S4x100x256 x _) (back _ _)).trans ((join _ _).trans ?_)
  exact congrArg e3 (funext fun b => funext fun i => funext fun c => attend_eq _ _ _ i c)

theorem s157 : b157 j s = (e3 (fun b => plus (mha (X A q ⟨j, hj⟩ b) (X A q ⟨j, hj⟩ b) (A.saW ⟨j, hj⟩) (A.saB ⟨j, hj⟩) (A.saWo ⟨j, hj⟩) (A.saBo ⟨j, hj⟩))
    (X A q ⟨j, hj⟩ b)) : FVec Ideal S4x100x256 .f32) := by
  unfold b157 b156 b155 b154 b153 b152
  rw [s151 H hj, w24 H hj, w27 H hj, x105 H hj]
  exact congrArg (fun x => addf x (e3 (X A q ⟨j, hj⟩) : FVec Ideal S4x100x256 .f32)) (lin_q _ _ _)

theorem s186 : b186 j s = (e3 (fun b => selfPart (A.layer ⟨j, hj⟩) (X A q ⟨j, hj⟩ b)) : FVec Ideal S4x100x256 .f32) := by
  unfold b186 b185 b184 b183 b182 b181 b180 b179 b178 b177 b176 b175 b174 b173 b172 b171 b170 b169 b168 b167 b166 b165 b164 b163 b162 b161 b160 b159 b158
  rw [s157 H hj, w30 H hj, w33 H hj]; exact norm_e3 _ _ _

/-! ## The feed-forward block -/

theorem f194 : b194 j s = (e3 (fun b => relu (affine (selfPart (A.layer ⟨j, hj⟩) (X A q ⟨j, hj⟩ b)) (A.w1 ⟨j, hj⟩) (A.b1 ⟨j, hj⟩))) :
    FVec Ideal S4x100x1024 .f32) := by
  unfold b194 b193 b192 b191 b190 b189 b188 b187
  rw [s186 H hj, w37 H hj, w40 H hj, lin_up]; exact relu_e3 _ _

theorem f200 : b200 j s = (e3 (fun b => plus (affine (relu (affine (selfPart (A.layer ⟨j, hj⟩) (X A q ⟨j, hj⟩ b)) (A.w1 ⟨j, hj⟩) (A.b1 ⟨j, hj⟩)))
    (A.w2 ⟨j, hj⟩) (A.b2 ⟨j, hj⟩)) (selfPart (A.layer ⟨j, hj⟩) (X A q ⟨j, hj⟩ b))) : FVec Ideal S4x100x256 .f32) := by
  unfold b200 b199 b198 b197 b196 b195
  rw [f194 H hj, w44 H hj, w47 H hj, s186 H hj, lin_down]; rfl

theorem f229 : b229 j s = (e3 (fun b => layer (A.layer ⟨j, hj⟩) (A.inst b) (q b)) : FVec Ideal S4x100x256 .f32) := by
  unfold b229 b228 b227 b226 b225 b224 b223 b222 b221 b220 b219 b218 b217 b216 b215 b214 b213 b212 b211 b210 b209 b208 b207 b206 b205 b204 b203 b202 b201
  rw [f200 H hj, w50 H hj, w53 H hj]; exact norm_e3 _ _ _

/-- One trip takes the queries through one layer. -/
theorem step_is : Is (step j s) A fun b => layer (A.layer ⟨j, hj⟩) (A.inst b) (q b) :=
  ⟨(step_main_v2_18 j s).trans (f229 H hj), H.hi, H.h0, H.h1, H.h2, H.h3, H.h4, H.h5, H.h6, H.h7, H.h8, H.h9, H.h10, H.h11, H.h12, H.h13, H.h14, H.h15⟩

omit H hj

/-! ## After the loop -/

/-- Four batch entries as two groups of two. -/
theorem regroup {n : ℕ} (Y : Fin 4 → Mat 100 n) (h) :
    shapeCast ⟨4, ![2, 2, 100, n]⟩ (e3 Y : FVec Ideal ⟨3, ![4, 100, n]⟩ .f32) h = e4 fun b gi => Y (Blocks.bat b.val gi) := by
  funext i
  have i0 : (i 0).val < 2 := (i 0).isLt
  have i1 : (i 1).val < 2 := (i 1).isLt
  refine cast_at _ h i (ix3 (Blocks.bat (i 0).val (i 1)) (i 2) (i 3)) ?_
  rw [rowMajor_val3 _ (100 * n) n rfl rfl, rowMajor_val4 _ (2 * (100 * n)) (100 * n) n rfl rfl rfl]
  show (2 * (i 0).val + (i 1).val) % 4 * (100 * n) + (i 2).val * n + (i 3).val
    = (i 0).val * (2 * (100 * n)) + (i 1).val * (100 * n) + (i 2).val * n + (i 3).val
  rw [Nat.mod_eq_of_lt (by omega)]; ring

include H

theorem r38 : R_main_v38 s (e1 A.outG : FVec Ideal S256 .f32) (e1 A.outO : FVec Ideal S256 .f32)
    = (e4 (fun b gi => norm (q (Blocks.bat b.val gi)) A.outG A.outO) : FVec Ideal S2x2x100x256 .f32) := by
  unfold R_main_v38
  rw [H.hq, norm_e3]; exact regroup _ _

theorem r39 : R_main_v39 s (e1 A.outG : FVec Ideal S256 .f32) (e1 A.outO : FVec Ideal S256 .f32) (e2 A.cls1 : FVec Ideal S256x256 .f32)
      (e1 A.clsB1 : FVec Ideal S256 .f32) (e2 A.cls2 : FVec Ideal S19x256 .f32) (e1 A.clsB2 : FVec Ideal S19 .f32)
    = (e4 (fun b gi => Layer.labelsOf (norm (q (Blocks.bat b.val gi)) A.outG A.outO) A.cls1 A.clsB1 A.cls2 A.clsB2) : FVec Ideal S2x2x100x19 .f32) := by
  unfold R_main_v39
  rw [H.hq, norm_e3, lin_q, relu_e3, lin_cls]
  exact regroup (fun b => Layer.labelsOf (norm (q b) A.outG A.outO) A.cls1 A.clsB1 A.cls2 A.clsB2) _

omit H

end Cert.RefLayer
-- ==== Proof.Algebraic.lean ====
/- The value claim: on real arguments the kernel and the reference leave the same two arrays. -/
module

public import proofs.«01_k».proof.Proof.Frames
public import proofs.«01_k».proof.Proof.Finite
public import proofs.«01_k».proof.Proof.Sweep
public import proofs.«01_k».proof.Proof.RefLayer
public import proofs.«01_k».proof.Proof.Gen.ReferenceIdeal.StepRun

@[expose] public section

set_option maxRecDepth 16384

noncomputable section

namespace Cert.Algebraic

open Idealize.ShloMosaic Idealize.ShloMosaic.TcCoe Idealize.SL.Sem Cert.Plain Cert.Vec Cert.ReferenceIdeal Cert.ReferenceIdeal.Gen
open Cert.ReferenceIdeal.Step
open Cert.Blocks (Args)

variable (m : (ℓ : Loc nD τ sig) → Buf (Elt Ideal) ℓ) (c : Dev nD)

/-- The reference's states, trip by trip. -/
def it : ℕ → State Ideal
  | 0 => StepRun.initState m c
  | n + 1 => step n (it n)

/-- The queries, copied to every batch entry. -/
theorem copies (X : Mat 100 256) (h) : broadcastInDim S4x100x256 ![1, 2] h (e2 X : FVec Ideal S100x256 .f32) = e3 fun _ => X := by
  funext i
  rfl

/-- After `n` trips the state holds the queries of `n` layers. -/
theorem it_is {A : Args} (h : RefLayer.Is (StepRun.initState m c) A fun _ => A.query) :
    ∀ n, n ≤ 6 → RefLayer.Is (it m c n) A fun b => layers (Sweep.wt A) (A.inst b) A.query n
  | 0, _ => h
  | n + 1, hn => by
    have hl : Sweep.wt A n = A.layer ⟨n, hn⟩ := congrArg A.layer (Fin.ext (Nat.mod_eq_of_lt hn))
    have s := RefLayer.step_is (it_is h n (Nat.le_of_succ_le hn)) hn
    rw [← hl] at s
    exact s

theorem claim [Cert.Pre_finite.Facts] : Cert.algebraic_KernelIdeal_ReferenceIdeal_pre_finite := by
  intro m ρ m' ρ' hpre hagree
  refine ⟨_, _, Cert.KernelIdeal.Value.run (F := Ideal) m ρ, ?_⟩
  refine (θ_run Cert.ReferenceIdeal.defs _ _).mono (fun r h c => ?_) (StepRun.run_iter (F := Ideal) m' ρ' (it m') (fun _ => rfl) fun _ _ => rfl)
  obtain ⟨A, H⟩ := Finite.holds m hpre c
  obtain ⟨g0, g1, g2, g3, g4, g5, g6, g7, g8, g9, g10, g11, g12, g13, g14, g15, g16, g17, g18, g19, g20, g21, g22, g23⟩ := hagree c
  have h0 : RefLayer.Is (StepRun.initState m' c) A fun _ => A.query :=
    { hq := (congrArg (A_main_v1 (F := Ideal) (m' ((c : Thread nD τ).loc main_arg0))) (g1.trans H.h1)).trans (copies A.query _)
      hi := congrArg (fun x => A_main_v0 (F := Ideal) x (m' ((c : Thread nD τ).loc main_arg1))) (g0.trans H.h0)
      h0 := g2.trans H.h2
      h1 := g3.trans H.h3
      h2 := g4.trans H.h4
      h3 := g5.trans H.h5
      h4 := g6.trans H.h6
      h5 := g7.trans H.h7
      h6 := g8.trans H.h8
      h7 := g9.trans H.h9
      h8 := g10.trans H.h10
      h9 := g11.trans H.h11
      h10 := g12.trans H.h12
      h11 := g13.trans H.h13
      h12 := g14.trans H.h14
      h13 := g15.trans H.h15
      h14 := g16.trans H.h16
      h15 := g17.trans H.h17 }
  have h6 := it_is m' c h0 6 le_rfl
  obtain ⟨h38, h39, hargs⟩ := h c
  refine ⟨h38.trans ?_, h39.trans ?_, hargs⟩
  · rw [g18.trans H.h18, g19.trans H.h19]
    exact (RefLayer.r38 h6).trans (Sweep.result0 H).symm
  · rw [g18.trans H.h18, g19.trans H.h19, g20.trans H.h20, g21.trans H.h21, g22.trans H.h22, g23.trans H.h23]
    exact (RefLayer.r39 h6).trans (Sweep.result1 H).symm

end Cert.Algebraic
-- ==== Proof.lean ====
/- The certificate's claims, put together. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Own.KernelIdeal.Value
public import proofs.«01_k».proof.Proof.Frames
public import proofs.«01_k».proof.Proof.Finite
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Finite.facts,
    Cert.Frames.kernel, Cert.Frames.kernelIdeal, fun m ρ _ => Cert.Frames.kernelIdeal m ρ trivial,
    Cert.Frames.referenceIdeal, fun m ρ _ => Cert.Frames.referenceIdeal m ρ trivial,
    Cert.Frames.preserves, letI := Cert.Finite.facts; Cert.Algebraic.claim⟩

end Cert.Proof

end
